-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelProject (m : (ℓ : Loc Cert.KernelProject.nD Cert.KernelProject.τ Cert.KernelProject.sig) → Buf (Elt Bits) ℓ) : Prop :=
  True

def Pre_KernelProjectIdeal (m : (ℓ : Loc Cert.KernelProjectIdeal.nD Cert.KernelProjectIdeal.τ Cert.KernelProjectIdeal.sig) → Buf (Elt Ideal) ℓ) : Prop :=
  True

def Pre_ReferenceProjectIdeal (m : (ℓ : Loc Cert.ReferenceProjectIdeal.nD Cert.ReferenceProjectIdeal.τ Cert.ReferenceProjectIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3))
      ∧ r.2.sem = fun _ => 0)

def quiescent_KernelProject [hKernelProject : Cert.KernelProject.Facts] : Prop :=
  ∀ (m : (ℓ : Loc Cert.KernelProject.nD Cert.KernelProject.τ Cert.KernelProject.sig) → Buf (Elt Bits) ℓ) (g : Dev Cert.KernelProject.nD → PrngReg), Pre_KernelProject m →
    θ_run (Cert.KernelProject.defs (F := Bits)) (onTc (τ := Cert.KernelProject.τ) (Cert.KernelProject.main (F := Bits))) ⟨m, fun _ => 0, g⟩ (fun r => (∀ c : Dev Cert.KernelProject.nD,
      r.2.mem ((c.tc : Thread Cert.KernelProject.nD Cert.KernelProject.τ).loc Cert.KernelProject.main_arg0) = m ((c.tc : Thread Cert.KernelProject.nD Cert.KernelProject.τ).loc Cert.KernelProject.main_arg0)
      ∧ r.2.mem ((c.tc : Thread Cert.KernelProject.nD Cert.KernelProject.τ).loc Cert.KernelProject.main_arg1) = m ((c.tc : Thread Cert.KernelProject.nD Cert.KernelProject.τ).loc Cert.KernelProject.main_arg1)
      ∧ r.2.mem ((c.tc : Thread Cert.KernelProject.nD Cert.KernelProject.τ).loc Cert.KernelProject.main_arg2) = m ((c.tc : Thread Cert.KernelProject.nD Cert.KernelProject.τ).loc Cert.KernelProject.main_arg2)
      ∧ r.2.mem ((c.tc : Thread Cert.KernelProject.nD Cert.KernelProject.τ).loc Cert.KernelProject.main_arg3) = m ((c.tc : Thread Cert.KernelProject.nD Cert.KernelProject.τ).loc Cert.KernelProject.main_arg3)
      ∧ r.2.mem ((c.tc : Thread Cert.KernelProject.nD Cert.KernelProject.τ).loc Cert.KernelProject.main_arg4) = m ((c.tc : Thread Cert.KernelProject.nD Cert.KernelProject.τ).loc Cert.KernelProject.main_arg4)
      ∧ r.2.mem ((c.tc : Thread Cert.KernelProject.nD Cert.KernelProject.τ).loc Cert.KernelProject.main_arg5) = m ((c.tc : Thread Cert.KernelProject.nD Cert.KernelProject.τ).loc Cert.KernelProject.main_arg5))
      ∧ r.2.sem = fun _ => 0)

def quiescent_KernelProjectIdeal [hKernelProjectIdeal : Cert.KernelProjectIdeal.Facts] : Prop :=
  ∀ (m : (ℓ : Loc Cert.KernelProjectIdeal.nD Cert.KernelProjectIdeal.τ Cert.KernelProjectIdeal.sig) → Buf (Elt Ideal) ℓ) (g : Dev Cert.KernelProjectIdeal.nD → PrngReg), Pre_KernelProjectIdeal m →
    θ_run (Cert.KernelProjectIdeal.defs (F := Ideal)) (onTc (τ := Cert.KernelProjectIdeal.τ) (Cert.KernelProjectIdeal.main (F := Ideal))) ⟨m, fun _ => 0, g⟩ (fun r => (∀ c : Dev Cert.KernelProjectIdeal.nD,
      r.2.mem ((c.tc : Thread Cert.KernelProjectIdeal.nD Cert.KernelProjectIdeal.τ).loc Cert.KernelProjectIdeal.main_arg0) = m ((c.tc : Thread Cert.KernelProjectIdeal.nD Cert.KernelProjectIdeal.τ).loc Cert.KernelProjectIdeal.main_arg0)
      ∧ r.2.mem ((c.tc : Thread Cert.KernelProjectIdeal.nD Cert.KernelProjectIdeal.τ).loc Cert.KernelProjectIdeal.main_arg1) = m ((c.tc : Thread Cert.KernelProjectIdeal.nD Cert.KernelProjectIdeal.τ).loc Cert.KernelProjectIdeal.main_arg1)
      ∧ r.2.mem ((c.tc : Thread Cert.KernelProjectIdeal.nD Cert.KernelProjectIdeal.τ).loc Cert.KernelProjectIdeal.main_arg2) = m ((c.tc : Thread Cert.KernelProjectIdeal.nD Cert.KernelProjectIdeal.τ).loc Cert.KernelProjectIdeal.main_arg2)
      ∧ r.2.mem ((c.tc : Thread Cert.KernelProjectIdeal.nD Cert.KernelProjectIdeal.τ).loc Cert.KernelProjectIdeal.main_arg3) = m ((c.tc : Thread Cert.KernelProjectIdeal.nD Cert.KernelProjectIdeal.τ).loc Cert.KernelProjectIdeal.main_arg3)
      ∧ r.2.mem ((c.tc : Thread Cert.KernelProjectIdeal.nD Cert.KernelProjectIdeal.τ).loc Cert.KernelProjectIdeal.main_arg4) = m ((c.tc : Thread Cert.KernelProjectIdeal.nD Cert.KernelProjectIdeal.τ).loc Cert.KernelProjectIdeal.main_arg4)
      ∧ r.2.mem ((c.tc : Thread Cert.KernelProjectIdeal.nD Cert.KernelProjectIdeal.τ).loc Cert.KernelProjectIdeal.main_arg5) = m ((c.tc : Thread Cert.KernelProjectIdeal.nD Cert.KernelProjectIdeal.τ).loc Cert.KernelProjectIdeal.main_arg5))
      ∧ r.2.sem = fun _ => 0)

def quiescent_ReferenceProjectIdeal [hReferenceProjectIdeal : Cert.ReferenceProjectIdeal.Facts] : Prop :=
  ∀ (m : (ℓ : Loc Cert.ReferenceProjectIdeal.nD Cert.ReferenceProjectIdeal.τ Cert.ReferenceProjectIdeal.sig) → Buf (Elt Ideal) ℓ) (g : Dev Cert.ReferenceProjectIdeal.nD → PrngReg), Pre_ReferenceProjectIdeal m →
    θ_run (Cert.ReferenceProjectIdeal.defs (F := Ideal)) (onTc (τ := Cert.ReferenceProjectIdeal.τ) (Cert.ReferenceProjectIdeal.main (F := Ideal))) ⟨m, fun _ => 0, g⟩ (fun r => (∀ c : Dev Cert.ReferenceProjectIdeal.nD,
      r.2.mem ((c.tc : Thread Cert.ReferenceProjectIdeal.nD Cert.ReferenceProjectIdeal.τ).loc Cert.ReferenceProjectIdeal.main_arg0) = m ((c.tc : Thread Cert.ReferenceProjectIdeal.nD Cert.ReferenceProjectIdeal.τ).loc Cert.ReferenceProjectIdeal.main_arg0)
      ∧ r.2.mem ((c.tc : Thread Cert.ReferenceProjectIdeal.nD Cert.ReferenceProjectIdeal.τ).loc Cert.ReferenceProjectIdeal.main_arg1) = m ((c.tc : Thread Cert.ReferenceProjectIdeal.nD Cert.ReferenceProjectIdeal.τ).loc Cert.ReferenceProjectIdeal.main_arg1)
      ∧ r.2.mem ((c.tc : Thread Cert.ReferenceProjectIdeal.nD Cert.ReferenceProjectIdeal.τ).loc Cert.ReferenceProjectIdeal.main_arg2) = m ((c.tc : Thread Cert.ReferenceProjectIdeal.nD Cert.ReferenceProjectIdeal.τ).loc Cert.ReferenceProjectIdeal.main_arg2)
      ∧ r.2.mem ((c.tc : Thread Cert.ReferenceProjectIdeal.nD Cert.ReferenceProjectIdeal.τ).loc Cert.ReferenceProjectIdeal.main_arg3) = m ((c.tc : Thread Cert.ReferenceProjectIdeal.nD Cert.ReferenceProjectIdeal.τ).loc Cert.ReferenceProjectIdeal.main_arg3)
      ∧ r.2.mem ((c.tc : Thread Cert.ReferenceProjectIdeal.nD Cert.ReferenceProjectIdeal.τ).loc Cert.ReferenceProjectIdeal.main_arg4) = m ((c.tc : Thread Cert.ReferenceProjectIdeal.nD Cert.ReferenceProjectIdeal.τ).loc Cert.ReferenceProjectIdeal.main_arg4)
      ∧ r.2.mem ((c.tc : Thread Cert.ReferenceProjectIdeal.nD Cert.ReferenceProjectIdeal.τ).loc Cert.ReferenceProjectIdeal.main_arg5) = m ((c.tc : Thread Cert.ReferenceProjectIdeal.nD Cert.ReferenceProjectIdeal.τ).loc Cert.ReferenceProjectIdeal.main_arg5))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v11) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)) →
    ∃ (v0 : (c : Dev Cert.KernelLastIdeal.nD) → Buf (Elt Ideal) ((c.tc : Thread Cert.KernelLastIdeal.nD Cert.KernelLastIdeal.τ).loc Cert.KernelLastIdeal.main_v2)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v2) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v10) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3))

def preserves_KernelProject_KernelProjectIdeal : Prop :=
  True

def algebraic_KernelProjectIdeal_ReferenceProjectIdeal [hKernelProjectIdeal : Cert.KernelProjectIdeal.Facts] [hReferenceProjectIdeal : Cert.ReferenceProjectIdeal.Facts] : Prop :=
  ∀ (m : (ℓ : Loc Cert.KernelProjectIdeal.nD Cert.KernelProjectIdeal.τ Cert.KernelProjectIdeal.sig) → Buf (Elt Ideal) ℓ) (g : Dev Cert.KernelProjectIdeal.nD → PrngReg)
    (m' : (ℓ : Loc Cert.ReferenceProjectIdeal.nD Cert.ReferenceProjectIdeal.τ Cert.ReferenceProjectIdeal.sig) → Buf (Elt Ideal) ℓ) (g' : Dev Cert.ReferenceProjectIdeal.nD → PrngReg), Pre_KernelProjectIdeal m →
    (∀ c : Dev Cert.KernelProjectIdeal.nD,
      m' ((c.tc : Thread Cert.ReferenceProjectIdeal.nD Cert.ReferenceProjectIdeal.τ).loc Cert.ReferenceProjectIdeal.main_arg0) = m ((c.tc : Thread Cert.KernelProjectIdeal.nD Cert.KernelProjectIdeal.τ).loc Cert.KernelProjectIdeal.main_arg0)
      ∧ m' ((c.tc : Thread Cert.ReferenceProjectIdeal.nD Cert.ReferenceProjectIdeal.τ).loc Cert.ReferenceProjectIdeal.main_arg1) = m ((c.tc : Thread Cert.KernelProjectIdeal.nD Cert.KernelProjectIdeal.τ).loc Cert.KernelProjectIdeal.main_arg1)
      ∧ m' ((c.tc : Thread Cert.ReferenceProjectIdeal.nD Cert.ReferenceProjectIdeal.τ).loc Cert.ReferenceProjectIdeal.main_arg2) = m ((c.tc : Thread Cert.KernelProjectIdeal.nD Cert.KernelProjectIdeal.τ).loc Cert.KernelProjectIdeal.main_arg2)
      ∧ m' ((c.tc : Thread Cert.ReferenceProjectIdeal.nD Cert.ReferenceProjectIdeal.τ).loc Cert.ReferenceProjectIdeal.main_arg3) = m ((c.tc : Thread Cert.KernelProjectIdeal.nD Cert.KernelProjectIdeal.τ).loc Cert.KernelProjectIdeal.main_arg3)
      ∧ m' ((c.tc : Thread Cert.ReferenceProjectIdeal.nD Cert.ReferenceProjectIdeal.τ).loc Cert.ReferenceProjectIdeal.main_arg4) = m ((c.tc : Thread Cert.KernelProjectIdeal.nD Cert.KernelProjectIdeal.τ).loc Cert.KernelProjectIdeal.main_arg4)
      ∧ m' ((c.tc : Thread Cert.ReferenceProjectIdeal.nD Cert.ReferenceProjectIdeal.τ).loc Cert.ReferenceProjectIdeal.main_arg5) = m ((c.tc : Thread Cert.KernelProjectIdeal.nD Cert.KernelProjectIdeal.τ).loc Cert.KernelProjectIdeal.main_arg5)) →
    ∃ (v0 : (c : Dev Cert.KernelProjectIdeal.nD) → Buf (Elt Ideal) ((c.tc : Thread Cert.KernelProjectIdeal.nD Cert.KernelProjectIdeal.τ).loc Cert.KernelProjectIdeal.main_v22_0)),
      θ_run (Cert.KernelProjectIdeal.defs (F := Ideal)) (onTc (τ := Cert.KernelProjectIdeal.τ) (Cert.KernelProjectIdeal.main (F := Ideal))) ⟨m, fun _ => 0, g⟩ (fun r => ∀ c : Dev Cert.KernelProjectIdeal.nD,
          r.2.mem ((c.tc : Thread Cert.KernelProjectIdeal.nD Cert.KernelProjectIdeal.τ).loc Cert.KernelProjectIdeal.main_v22_0) = v0 c
          ∧ r.2.mem ((c.tc : Thread Cert.KernelProjectIdeal.nD Cert.KernelProjectIdeal.τ).loc Cert.KernelProjectIdeal.main_arg0) = m ((c.tc : Thread Cert.KernelProjectIdeal.nD Cert.KernelProjectIdeal.τ).loc Cert.KernelProjectIdeal.main_arg0)
          ∧ r.2.mem ((c.tc : Thread Cert.KernelProjectIdeal.nD Cert.KernelProjectIdeal.τ).loc Cert.KernelProjectIdeal.main_arg1) = m ((c.tc : Thread Cert.KernelProjectIdeal.nD Cert.KernelProjectIdeal.τ).loc Cert.KernelProjectIdeal.main_arg1)
          ∧ r.2.mem ((c.tc : Thread Cert.KernelProjectIdeal.nD Cert.KernelProjectIdeal.τ).loc Cert.KernelProjectIdeal.main_arg2) = m ((c.tc : Thread Cert.KernelProjectIdeal.nD Cert.KernelProjectIdeal.τ).loc Cert.KernelProjectIdeal.main_arg2)
          ∧ r.2.mem ((c.tc : Thread Cert.KernelProjectIdeal.nD Cert.KernelProjectIdeal.τ).loc Cert.KernelProjectIdeal.main_arg3) = m ((c.tc : Thread Cert.KernelProjectIdeal.nD Cert.KernelProjectIdeal.τ).loc Cert.KernelProjectIdeal.main_arg3)
          ∧ r.2.mem ((c.tc : Thread Cert.KernelProjectIdeal.nD Cert.KernelProjectIdeal.τ).loc Cert.KernelProjectIdeal.main_arg4) = m ((c.tc : Thread Cert.KernelProjectIdeal.nD Cert.KernelProjectIdeal.τ).loc Cert.KernelProjectIdeal.main_arg4)
          ∧ r.2.mem ((c.tc : Thread Cert.KernelProjectIdeal.nD Cert.KernelProjectIdeal.τ).loc Cert.KernelProjectIdeal.main_arg5) = m ((c.tc : Thread Cert.KernelProjectIdeal.nD Cert.KernelProjectIdeal.τ).loc Cert.KernelProjectIdeal.main_arg5))
      ∧ θ_run (Cert.ReferenceProjectIdeal.defs (F := Ideal)) (onTc (τ := Cert.ReferenceProjectIdeal.τ) (Cert.ReferenceProjectIdeal.main (F := Ideal))) ⟨m', fun _ => 0, g'⟩ (fun r => ∀ c : Dev Cert.ReferenceProjectIdeal.nD,
          r.2.mem ((c.tc : Thread Cert.ReferenceProjectIdeal.nD Cert.ReferenceProjectIdeal.τ).loc Cert.ReferenceProjectIdeal.main_v65) = v0 c
          ∧ r.2.mem ((c.tc : Thread Cert.ReferenceProjectIdeal.nD Cert.ReferenceProjectIdeal.τ).loc Cert.ReferenceProjectIdeal.main_arg0) = m' ((c.tc : Thread Cert.ReferenceProjectIdeal.nD Cert.ReferenceProjectIdeal.τ).loc Cert.ReferenceProjectIdeal.main_arg0)
          ∧ r.2.mem ((c.tc : Thread Cert.ReferenceProjectIdeal.nD Cert.ReferenceProjectIdeal.τ).loc Cert.ReferenceProjectIdeal.main_arg1) = m' ((c.tc : Thread Cert.ReferenceProjectIdeal.nD Cert.ReferenceProjectIdeal.τ).loc Cert.ReferenceProjectIdeal.main_arg1)
          ∧ r.2.mem ((c.tc : Thread Cert.ReferenceProjectIdeal.nD Cert.ReferenceProjectIdeal.τ).loc Cert.ReferenceProjectIdeal.main_arg2) = m' ((c.tc : Thread Cert.ReferenceProjectIdeal.nD Cert.ReferenceProjectIdeal.τ).loc Cert.ReferenceProjectIdeal.main_arg2)
          ∧ r.2.mem ((c.tc : Thread Cert.ReferenceProjectIdeal.nD Cert.ReferenceProjectIdeal.τ).loc Cert.ReferenceProjectIdeal.main_arg3) = m' ((c.tc : Thread Cert.ReferenceProjectIdeal.nD Cert.ReferenceProjectIdeal.τ).loc Cert.ReferenceProjectIdeal.main_arg3)
          ∧ r.2.mem ((c.tc : Thread Cert.ReferenceProjectIdeal.nD Cert.ReferenceProjectIdeal.τ).loc Cert.ReferenceProjectIdeal.main_arg4) = m' ((c.tc : Thread Cert.ReferenceProjectIdeal.nD Cert.ReferenceProjectIdeal.τ).loc Cert.ReferenceProjectIdeal.main_arg4)
          ∧ r.2.mem ((c.tc : Thread Cert.ReferenceProjectIdeal.nD Cert.ReferenceProjectIdeal.τ).loc Cert.ReferenceProjectIdeal.main_arg5) = m' ((c.tc : Thread Cert.ReferenceProjectIdeal.nD Cert.ReferenceProjectIdeal.τ).loc Cert.ReferenceProjectIdeal.main_arg5))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)
      ∧ m' ((c.tc : Thread Cert.ReferenceConvIdeal.nD Cert.ReferenceConvIdeal.τ).loc Cert.ReferenceConvIdeal.main_arg4) = m ((c.tc : Thread Cert.KernelConvIdeal.nD Cert.KernelConvIdeal.τ).loc Cert.KernelConvIdeal.main_arg4)) →
    ∃ (v0 : (c : Dev Cert.KernelConvIdeal.nD) → Buf (Elt Ideal) ((c.tc : Thread Cert.KernelConvIdeal.nD Cert.KernelConvIdeal.τ).loc Cert.KernelConvIdeal.main_v4)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v4) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
          ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v58) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4) = m' ((c.tc : Thread Cert.ReferenceConvIdeal.nD Cert.ReferenceConvIdeal.τ).loc Cert.ReferenceConvIdeal.main_arg4))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelLast : Cert.KernelLast.Facts) (hKernelLastIdeal : Cert.KernelLastIdeal.Facts) (hReferenceLastIdeal : Cert.ReferenceLastIdeal.Facts) (hKernelProject : Cert.KernelProject.Facts) (hKernelProjectIdeal : Cert.KernelProjectIdeal.Facts) (hReferenceProjectIdeal : Cert.ReferenceProjectIdeal.Facts) (hKernelConv : Cert.KernelConv.Facts) (hKernelConvIdeal : Cert.KernelConvIdeal.Facts) (hReferenceConvIdeal : Cert.ReferenceConvIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelProject (hKernelProject := hKernelProject)
    ∧ quiescent_KernelProjectIdeal (hKernelProjectIdeal := hKernelProjectIdeal)
    ∧ quiescent_ReferenceProjectIdeal (hReferenceProjectIdeal := hReferenceProjectIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_KernelOut_KernelOutIdeal
    ∧ algebraic_KernelOutIdeal_ReferenceOutIdeal (hKernelOutIdeal := hKernelOutIdeal) (hReferenceOutIdeal := hReferenceOutIdeal)
    ∧ preserves_KernelLast_KernelLastIdeal
    ∧ algebraic_KernelLastIdeal_ReferenceLastIdeal (hKernelLastIdeal := hKernelLastIdeal) (hReferenceLastIdeal := hReferenceLastIdeal)
    ∧ preserves_KernelProject_KernelProjectIdeal
    ∧ algebraic_KernelProjectIdeal_ReferenceProjectIdeal (hKernelProjectIdeal := hKernelProjectIdeal) (hReferenceProjectIdeal := hReferenceProjectIdeal)
    ∧ preserves_KernelConv_KernelConvIdeal
    ∧ algebraic_KernelConvIdeal_ReferenceConvIdeal (hKernelConvIdeal := hKernelConvIdeal) (hReferenceConvIdeal := hReferenceConvIdeal)
-- ==== Pre_scores_finite.lean ====
abbrev S2x8192x14336 : Shape := ⟨3, ![2, 8192, 14336]⟩
abbrev S2x256x14336 : Shape := ⟨3, ![2, 256, 14336]⟩
abbrev S16x15x64x64 : Shape := ⟨4, ![16, 15, 64, 64]⟩
abbrev S2x8192x2048 : Shape := ⟨3, ![2, 8192, 2048]⟩
abbrev S2x256x2048 : Shape := ⟨3, ![2, 256, 2048]⟩
abbrev S_ : Shape := ⟨0, ![]⟩

class Facts : Prop where
  slices_S2x8192x14336_S2x8192x2048_0_0_0 : S2x8192x14336.Slices ![0, 0, 0] S2x8192x2048
  slices_S2x8192x14336_S2x8192x2048_0_0_6144 : S2x8192x14336.Slices ![0, 0, 6144] S2x8192x2048
  slices_S2x256x14336_S2x256x2048_0_0_6144 : S2x256x14336.Slices ![0, 0, 6144] S2x256x2048
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S2x256x2048 : S_.BroadcastsInDim S2x256x2048 (![] : Fin 0 → Fin S2x256x2048.rank)
  reducesTo_S2x256x2048_S_d0_1_2 : S2x256x2048.ReducesTo [0, 1, 2] S_
  bcast_S_S16x15x64x64 : S_.BroadcastsInDim S16x15x64x64 (![] : Fin 0 → Fin S16x15x64x64.rank)
  reducesTo_S16x15x64x64_S_d0_1_2_3 : S16x15x64x64.ReducesTo [0, 1, 2, 3] S_

variable [Facts]

def fn_part1 {F : FTy → Type} [FloatOps F] (main_arg2 : FVec F S16x15x64x64 .f32) (main_v16 : IVec S_ 1) (main_cst_4 : FVec F S_ .f32) : IVec S_ 1 :=
  let main_v17 : FVec F S16x15x64x64 .f32 := broadcastInDim S16x15x64x64 ![] bcast_S_S16x15x64x64 main_cst_4
  let main_v18 : IVec S16x15x64x64 1 := cmpf .olt main_arg2 main_v17
  let main_c_5 : IVec S_ 1 := constantI S_ 1 1#1
  let main_v19 : IVec S_ 1 := (fun x v => Host.reduce IntOp.andi x v reducesTo_S16x15x64x64_S_d0_1_2_3 h_S_) main_v18 main_c_5
  let main_v20 : IVec S_ 1 := andi main_v16 main_v19
  main_v20

def fn {F : FTy → Type} [FloatOps F] (main_arg0 : FVec F S2x8192x14336 .bf16) (main_arg1 : FVec F S2x256x14336 .bf16) (main_arg2 : FVec F S16x15x64x64 .f32) : IVec S_ 1 :=
  let main_v0 : FVec F S2x8192x2048 .bf16 := (extractStridedSlice S2x8192x2048 ![0, 0, 0] · slices_S2x8192x14336_S2x8192x2048_0_0_0) main_arg0
  let main_v1 : FVec F S2x8192x2048 .bf16 := (extractStridedSlice S2x8192x2048 ![0, 0, 6144] · slices_S2x8192x14336_S2x8192x2048_0_0_6144) main_arg0
  let main_v2 : FVec F S2x256x2048 .bf16 := (extractStridedSlice S2x256x2048 ![0, 0, 6144] · slices_S2x256x14336_S2x256x2048_0_0_6144) main_arg1
  let main_v3 : FVec F S2x8192x2048 .bf16 := Host.absf main_v0
  let main_cst : FVec F S_ .bf16 := constant S_ .bf16 0x7F80#16
  let main_v4 : FVec F S2x8192x2048 .bf16 := broadcastInDim S2x8192x2048 ![] bcast_S_S2x8192x2048 main_cst
  let main_v5 : IVec S2x8192x2048 1 := cmpf .olt main_v3 main_v4
  let main_c : IVec S_ 1 := constantI S_ 1 1#1
  let main_v6 : IVec S_ 1 := (fun x v => Host.reduce IntOp.andi x v reducesTo_S2x8192x2048_S_d0_1_2 h_S_) main_v5 main_c
  let main_v7 : FVec F S2x8192x2048 .bf16 := Host.absf main_v1
  let main_cst_0 : FVec F S_ .bf16 := constant S_ .bf16 0x7F80#16
  let main_v8 : FVec F S2x8192x2048 .bf16 := broadcastInDim S2x8192x2048 ![] bcast_S_S2x8192x2048 main_cst_0
  let main_v9 : IVec S2x8192x2048 1 := cmpf .olt main_v7 main_v8
  let main_c_1 : IVec S_ 1 := constantI S_ 1 1#1
  let main_v10 : IVec S_ 1 := (fun x v => Host.reduce IntOp.andi x v reducesTo_S2x8192x2048_S_d0_1_2 h_S_) main_v9 main_c_1
  let main_v11 : IVec S_ 1 := andi main_v6 main_v10
  let main_v12 : FVec F S2x256x2048 .bf16 := Host.absf main_v2
  let main_cst_2 : FVec F S_ .bf16 := constant S_ .bf16 0x7F80#16
  let main_v13 : FVec F S2x256x2048 .bf16 := broadcastInDim S2x256x2048 ![] bcast_S_S2x256x2048 main_cst_2
  let main_v14 : IVec S2x256x2048 1 := cmpf .olt main_v12 main_v13
  let main_c_3 : IVec S_ 1 := constantI S_ 1 1#1
  let main_v15 : IVec S_ 1 := (fun x v => Host.reduce IntOp.andi x v reducesTo_S2x256x2048_S_d0_1_2 h_S_) main_v14 main_c_3
  let main_v16 : IVec S_ 1 := andi main_v11 main_v15
  let main_cst_4 : FVec F S_ .f32 := constant S_ .f32 0x7F800000#32
  fn_part1 (F := F) main_arg2 main_v16 main_cst_4
-- ==== Kernel.lean ====
abbrev S2x8192x14336 : Shape := ⟨3, ![2, 8192, 14336]⟩
abbrev S2x256x14336 : Shape := ⟨3, ![2, 256, 14336]⟩
abbrev S16x15x64x64 : Shape := ⟨4, ![16, 15, 64, 64]⟩
abbrev S2x8192x2048 : Shape := ⟨3, ![2, 8192, 2048]⟩
abbrev S_ : Shape := ⟨0, ![]⟩
abbrev S2x8192x12288 : Shape := ⟨3, ![2, 8192, 12288]⟩
abbrev S1x8192x128 : Shape := ⟨3, ![1, 8192, 128]⟩
abbrev S1x256x128 : Shape := ⟨3, ![1, 256, 128]⟩
abbrev S1x15x64x64 : Shape := ⟨4, ![1, 15, 64, 64]⟩
abbrev S8192x256 : Shape := ⟨2, ![8192, 256]⟩
abbrev S256x256 : Shape := ⟨2, ![256, 256]⟩
abbrev S3x512x1024 : Shape := ⟨3, ![3, 512, 1024]⟩
abbrev S512x1280 : Shape := ⟨2, ![512, 1280]⟩
abbrev S64x64 : Shape := ⟨2, ![64, 64]⟩
abbrev S1x1x64x64 : Shape := ⟨4, ![1, 1, 64, 64]⟩
abbrev S64x1024 : Shape := ⟨2, ![64, 1024]⟩
abbrev S1x64x1024 : Shape := ⟨3, ![1, 64, 1024]⟩
abbrev S8192x128 : Shape := ⟨2, ![8192, 128]⟩
abbrev S256x128 : Shape := ⟨2, ![256, 128]⟩
abbrev S1x512x128 : Shape := ⟨3, ![1, 512, 128]⟩
abbrev S512x128 : Shape := ⟨2, ![512, 128]⟩
abbrev S512x256 : Shape := ⟨2, ![512, 256]⟩
abbrev S1x1024x128 : Shape := ⟨3, ![1, 1024, 128]⟩
abbrev S1024x128 : Shape := ⟨2, ![1024, 128]⟩
abbrev S512x1024 : Shape := ⟨2, ![512, 1024]⟩
abbrev S1x512x1024 : Shape := ⟨3, ![1, 512, 1024]⟩
abbrev S32x1280 : Shape := ⟨2, ![32, 1280]⟩
abbrev S32 : Shape := ⟨1, ![32]⟩
abbrev S32x1 : Shape := ⟨2, ![32, 1]⟩
abbrev S1024x256 : Shape := ⟨2, ![1024, 256]⟩

abbrev nBuf : Space → Nat
  | .hbm => 12
  | .vmem => 23
  | .smem => 0
  | _ => 0

abbrev bufTy : (tb : Table) → Fin (tcTables nBuf tb) → BufTy
  | .hbm, ⟨0, _⟩ => ⟨S2x8192x14336, .bf16⟩
  | .hbm, ⟨1, _⟩ => ⟨S2x256x14336, .bf16⟩
  | .hbm, ⟨2, _⟩ => ⟨S16x15x64x64, .f32⟩
  | .hbm, ⟨3, _⟩ => ⟨S2x8192x2048, .bf16⟩
  | .hbm, ⟨4, _⟩ => ⟨S2x8192x2048, .f32⟩
  | .hbm, ⟨5, _⟩ => ⟨S_, .f32⟩
  | .hbm, ⟨6, _⟩ => ⟨S2x8192x2048, .f32⟩
  | .hbm, ⟨7, _⟩ => ⟨S2x8192x2048, .f32⟩
  | .hbm, ⟨8, _⟩ => ⟨S2x8192x2048, .bf16⟩
  | .hbm, ⟨9, _⟩ => ⟨S2x8192x12288, .bf16⟩
  | .hbm, ⟨10, _⟩ => ⟨S2x8192x14336, .bf16⟩
  | .hbm, ⟨11, _⟩ => ⟨S2x8192x2048, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x15x64x64, .f32⟩
  | .local _ .vmem, ⟨13, _⟩ => ⟨S1x15x64x64, .f32⟩
  | .local _ .vmem, ⟨14, _⟩ => ⟨S1x8192x128, .bf16⟩
  | .local _ .vmem, ⟨15, _⟩ => ⟨S1x8192x128, .bf16⟩
  | .local _ .vmem, ⟨16, _⟩ => ⟨S8192x256, .bf16⟩
  | .local _ .vmem, ⟨17, _⟩ => ⟨S256x256, .bf16⟩
  | .local _ .vmem, ⟨18, _⟩ => ⟨S3x512x1024, .f32⟩
  | .local _ .vmem, ⟨19, _⟩ => ⟨S512x1280, .f32⟩
  | .local _ .vmem, ⟨20, _⟩ => ⟨S512x1280, .f32⟩
  | .local _ .vmem, ⟨21, _⟩ => ⟨S512x1280, .bf16⟩
  | .local _ .vmem, ⟨22, _⟩ => ⟨S512x1280, .bf16⟩
  | _, _ => ⟨S2x8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def k0_mult1 : BitVec 32 :=
  let c0_i32_13 : BitVec 32 := 0#32
  let c15_i32 : BitVec 32 := 15#32
  let v18 : BitVec 32 := Scalar.minsi c0_i32_13 c15_i32
  let c512_i32 : BitVec 32 := 512#32
  let v19 : BitVec 32 := Scalar.muli v18 c512_i32
  v19
def k0_mult2 : BitVec 32 :=
  let c112_i32 : BitVec 32 := 112#32
  let c0_i32_14 : BitVec 32 := 0#32
  let c0_i32_13 : BitVec 32 := 0#32
  let c15_i32 : BitVec 32 := 15#32
  let v18 : BitVec 32 := Scalar.minsi c0_i32_13 c15_i32
  let c8_i32 : BitVec 32 := 8#32
  let v21 : BitVec 32 := Scalar.muli v18 c8_i32
  let c4_i32 : BitVec 32 := 4#32
  let v22 : BitVec 32 := Scalar.subi v21 c4_i32
  let v23 : BitVec 32 := Scalar.maxsi c0_i32_14 v22
  let v24 : BitVec 32 := Scalar.minsi c112_i32 v23
  let c64_i32 : BitVec 32 := 64#32
  let v25 : BitVec 32 := Scalar.muli v24 c64_i32
  v25
def k0_off1 (c0_i32_13 : BitVec 32) : Fin 3 → Nat :=
  let c0_15 : Index := 0#32
  let c15_i32 : BitVec 32 := 15#32
  let v18 : BitVec 32 := Scalar.minsi c0_i32_13 c15_i32
  let c512_i32 : BitVec 32 := 512#32
  let v19 : BitVec 32 := Scalar.muli v18 c512_i32
  let v20 : BitVec 32 := v19
  let v27 : Index := Scalar.indexCast v20
  let c0_16 : Index := 0#32
  ![0, v27.toNat, 0]
def k0_off2 (c0_i32_13 : BitVec 32) : Fin 3 → Nat :=
  let c0_25 : Index := 0#32
  let c112_i32 : BitVec 32 := 112#32
  let c0_i32_14 : BitVec 32 := 0#32
  let c15_i32 : BitVec 32 := 15#32
  let v18 : BitVec 32 := Scalar.minsi c0_i32_13 c15_i32
  let c8_i32 : BitVec 32 := 8#32
  let v21 : BitVec 32 := Scalar.muli v18 c8_i32
  let c4_i32 : BitVec 32 := 4#32
  let v22 : BitVec 32 := Scalar.subi v21 c4_i32
  let v23 : BitVec 32 := Scalar.maxsi c0_i32_14 v22
  let v24 : BitVec 32 := Scalar.minsi c112_i32 v23
  let c64_i32 : BitVec 32 := 64#32
  let v25 : BitVec 32 := Scalar.muli v24 c64_i32
  let v26 : BitVec 32 := v25
  let v40 : Index := Scalar.indexCast v26
  let c0_26 : Index := 0#32
  ![0, v40.toNat, 0]
def k0_off3 (c0_i32_13 : BitVec 32) : Fin 3 → Nat :=
  let c15_i32 : BitVec 32 := 15#32
  let v18 : BitVec 32 := Scalar.minsi c0_i32_13 c15_i32
  let c0_i32_17 : BitVec 32 := 0#32
  let v30 : BitVec 1 := Scalar.cmpi .eq v18 c0_i32_17
  let c0_i32_19 : BitVec 32 := 0#32
  let c15_i32_18 : BitVec 32 := 15#32
  let v31 : BitVec 1 := Scalar.cmpi .eq v18 c15_i32_18
  let c2_i32 : BitVec 32 := 2#32
  let c1_i32 : BitVec 32 := 1#32
  let v32 : BitVec 32 := Scalar.select v31 c2_i32 c1_i32
  let v33 : BitVec 32 := Scalar.select v30 c0_i32_19 v32
  let v44 : Index := Scalar.indexCast v33
  let c0_28 : Index := 0#32
  let c0_29 : Index := 0#32
  ![v44.toNat, 0, 0]
def k0_mult3 : BitVec 32 :=
  let c1_i32_97 : BitVec 32 := 1#32
  let c15_i32_98 : BitVec 32 := 15#32
  let v211 : BitVec 32 := Scalar.minsi c1_i32_97 c15_i32_98
  let c512_i32_99 : BitVec 32 := 512#32
  let v212 : BitVec 32 := Scalar.muli v211 c512_i32_99
  v212
def k0_mult4 : BitVec 32 :=
  let c112_i32_103 : BitVec 32 := 112#32
  let c0_i32_102 : BitVec 32 := 0#32
  let c1_i32_97 : BitVec 32 := 1#32
  let c15_i32_98 : BitVec 32 := 15#32
  let v211 : BitVec 32 := Scalar.minsi c1_i32_97 c15_i32_98
  let c8_i32_100 : BitVec 32 := 8#32
  let v214 : BitVec 32 := Scalar.muli v211 c8_i32_100
  let c4_i32_101 : BitVec 32 := 4#32
  let v215 : BitVec 32 := Scalar.subi v214 c4_i32_101
  let v216 : BitVec 32 := Scalar.maxsi c0_i32_102 v215
  let v217 : BitVec 32 := Scalar.minsi c112_i32_103 v216
  let c64_i32_104 : BitVec 32 := 64#32
  let v218 : BitVec 32 := Scalar.muli v217 c64_i32_104
  v218
@[reducible] def k0_t1_loop : Scf.Loop 32 :=
  let c0_i32_125 : BitVec 32 := 0#32
  let c8_i32_126 : BitVec 32 := 8#32
  let v244 : BitVec 32 := Scalar.addi c0_i32_125 c8_i32_126
  let c1_i32_127 : BitVec 32 := 1#32
  ⟨c0_i32_125, v244, c1_i32_127⟩
def k0_mult5 (k0_t1 : Fin k0_t1_loop.trips) : BitVec 32 :=
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c512_i32_130 : BitVec 32 := 512#32
  let v246 : BitVec 32 := Scalar.muli v245 c512_i32_130
  v246
def k0_mult6 (k0_t1 : Fin k0_t1_loop.trips) : BitVec 32 :=
  let c112_i32_134 : BitVec 32 := 112#32
  let c0_i32_133 : BitVec 32 := 0#32
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c8_i32_131 : BitVec 32 := 8#32
  let v248 : BitVec 32 := Scalar.muli v245 c8_i32_131
  let c4_i32_132 : BitVec 32 := 4#32
  let v249 : BitVec 32 := Scalar.subi v248 c4_i32_132
  let v250 : BitVec 32 := Scalar.maxsi c0_i32_133 v249
  let v251 : BitVec 32 := Scalar.minsi c112_i32_134 v250
  let c64_i32_135 : BitVec 32 := 64#32
  let v252 : BitVec 32 := Scalar.muli v251 c64_i32_135
  v252
def k0_off4 (k0_t1 : Fin k0_t1_loop.trips) : Fin 2 → Nat :=
  let c112_i32_134 : BitVec 32 := 112#32
  let c0_i32_133 : BitVec 32 := 0#32
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c8_i32_131 : BitVec 32 := 8#32
  let v248 : BitVec 32 := Scalar.muli v245 c8_i32_131
  let c4_i32_132 : BitVec 32 := 4#32
  let v249 : BitVec 32 := Scalar.subi v248 c4_i32_132
  let v250 : BitVec 32 := Scalar.maxsi c0_i32_133 v249
  let v251 : BitVec 32 := Scalar.minsi c112_i32_134 v250
  let c64_i32_135 : BitVec 32 := 64#32
  let v252 : BitVec 32 := Scalar.muli v251 c64_i32_135
  let v253 : BitVec 32 := v252
  let v258 : Index := Scalar.indexCast v253
  let c0_143 : Index := 0#32
  ![v258.toNat, 0]
def k0_off5 (k0_t1 : Fin k0_t1_loop.trips) : Fin 3 → Nat :=
  let c0_146 : Index := 0#32
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c512_i32_130 : BitVec 32 := 512#32
  let v246 : BitVec 32 := Scalar.muli v245 c512_i32_130
  let v247 : BitVec 32 := v246
  let v267 : Index := Scalar.indexCast v247
  let c0_147 : Index := 0#32
  ![0, v267.toNat, 0]
def k0_mult7 (k0_t1 : Fin k0_t1_loop.trips) : BitVec 32 :=
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c2_i32_233 : BitVec 32 := 2#32
  let v445 : BitVec 32 := Scalar.addi v245 c2_i32_233
  let c15_i32_234 : BitVec 32 := 15#32
  let v446 : BitVec 32 := Scalar.minsi v445 c15_i32_234
  let c512_i32_235 : BitVec 32 := 512#32
  let v447 : BitVec 32 := Scalar.muli v446 c512_i32_235
  v447
def k0_mult8 (k0_t1 : Fin k0_t1_loop.trips) : BitVec 32 :=
  let c112_i32_239 : BitVec 32 := 112#32
  let c0_i32_238 : BitVec 32 := 0#32
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c2_i32_233 : BitVec 32 := 2#32
  let v445 : BitVec 32 := Scalar.addi v245 c2_i32_233
  let c15_i32_234 : BitVec 32 := 15#32
  let v446 : BitVec 32 := Scalar.minsi v445 c15_i32_234
  let c8_i32_236 : BitVec 32 := 8#32
  let v449 : BitVec 32 := Scalar.muli v446 c8_i32_236
  let c4_i32_237 : BitVec 32 := 4#32
  let v450 : BitVec 32 := Scalar.subi v449 c4_i32_237
  let v451 : BitVec 32 := Scalar.maxsi c0_i32_238 v450
  let v452 : BitVec 32 := Scalar.minsi c112_i32_239 v451
  let c64_i32_240 : BitVec 32 := 64#32
  let v453 : BitVec 32 := Scalar.muli v452 c64_i32_240
  v453
def k0_off6 (k0_t1 : Fin k0_t1_loop.trips) (c2_i32_233 : BitVec 32) : Fin 3 → Nat :=
  let c0_241 : Index := 0#32
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let v445 : BitVec 32 := Scalar.addi v245 c2_i32_233
  let c15_i32_234 : BitVec 32 := 15#32
  let v446 : BitVec 32 := Scalar.minsi v445 c15_i32_234
  let c512_i32_235 : BitVec 32 := 512#32
  let v447 : BitVec 32 := Scalar.muli v446 c512_i32_235
  let v448 : BitVec 32 := v447
  let v455 : Index := Scalar.indexCast v448
  let c0_242 : Index := 0#32
  ![0, v455.toNat, 0]
def k0_off7 (k0_t1 : Fin k0_t1_loop.trips) (c2_i32_233 : BitVec 32) : Fin 3 → Nat :=
  let c0_254 : Index := 0#32
  let c112_i32_239 : BitVec 32 := 112#32
  let c0_i32_238 : BitVec 32 := 0#32
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let v445 : BitVec 32 := Scalar.addi v245 c2_i32_233
  let c15_i32_234 : BitVec 32 := 15#32
  let v446 : BitVec 32 := Scalar.minsi v445 c15_i32_234
  let c8_i32_236 : BitVec 32 := 8#32
  let v449 : BitVec 32 := Scalar.muli v446 c8_i32_236
  let c4_i32_237 : BitVec 32 := 4#32
  let v450 : BitVec 32 := Scalar.subi v449 c4_i32_237
  let v451 : BitVec 32 := Scalar.maxsi c0_i32_238 v450
  let v452 : BitVec 32 := Scalar.minsi c112_i32_239 v451
  let c64_i32_240 : BitVec 32 := 64#32
  let v453 : BitVec 32 := Scalar.muli v452 c64_i32_240
  let v454 : BitVec 32 := v453
  let v468 : Index := Scalar.indexCast v454
  let c0_255 : Index := 0#32
  ![0, v468.toNat, 0]
def k0_off8 (k0_t1 : Fin k0_t1_loop.trips) (c2_i32_233 : BitVec 32) : Fin 3 → Nat :=
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let v445 : BitVec 32 := Scalar.addi v245 c2_i32_233
  let c15_i32_234 : BitVec 32 := 15#32
  let v446 : BitVec 32 := Scalar.minsi v445 c15_i32_234
  let c0_i32_243 : BitVec 32 := 0#32
  let v458 : BitVec 1 := Scalar.cmpi .eq v446 c0_i32_243
  let c0_i32_247 : BitVec 32 := 0#32
  let c15_i32_244 : BitVec 32 := 15#32
  let v459 : BitVec 1 := Scalar.cmpi .eq v446 c15_i32_244
  let c2_i32_245 : BitVec 32 := 2#32
  let c1_i32_246 : BitVec 32 := 1#32
  let v460 : BitVec 32 := Scalar.select v459 c2_i32_245 c1_i32_246
  let v461 : BitVec 32 := Scalar.select v458 c0_i32_247 v460
  let v472 : Index := Scalar.indexCast v461
  let c0_257 : Index := 0#32
  let c0_258 : Index := 0#32
  ![v472.toNat, 0, 0]
def k0_mult9 (k0_t1 : Fin k0_t1_loop.trips) : BitVec 32 :=
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c1_i32_261 : BitVec 32 := 1#32
  let v479 : BitVec 32 := Scalar.addi v245 c1_i32_261
  let c512_i32_262 : BitVec 32 := 512#32
  let v480 : BitVec 32 := Scalar.muli v479 c512_i32_262
  v480
def k0_mult10 (k0_t1 : Fin k0_t1_loop.trips) : BitVec 32 :=
  let c112_i32_266 : BitVec 32 := 112#32
  let c0_i32_265 : BitVec 32 := 0#32
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c1_i32_261 : BitVec 32 := 1#32
  let v479 : BitVec 32 := Scalar.addi v245 c1_i32_261
  let c8_i32_263 : BitVec 32 := 8#32
  let v482 : BitVec 32 := Scalar.muli v479 c8_i32_263
  let c4_i32_264 : BitVec 32 := 4#32
  let v483 : BitVec 32 := Scalar.subi v482 c4_i32_264
  let v484 : BitVec 32 := Scalar.maxsi c0_i32_265 v483
  let v485 : BitVec 32 := Scalar.minsi c112_i32_266 v484
  let c64_i32_267 : BitVec 32 := 64#32
  let v486 : BitVec 32 := Scalar.muli v485 c64_i32_267
  v486
def k0_off9 (k0_t1 : Fin k0_t1_loop.trips) : Fin 2 → Nat :=
  let c112_i32_266 : BitVec 32 := 112#32
  let c0_i32_265 : BitVec 32 := 0#32
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c1_i32_261 : BitVec 32 := 1#32
  let v479 : BitVec 32 := Scalar.addi v245 c1_i32_261
  let c8_i32_263 : BitVec 32 := 8#32
  let v482 : BitVec 32 := Scalar.muli v479 c8_i32_263
  let c4_i32_264 : BitVec 32 := 4#32
  let v483 : BitVec 32 := Scalar.subi v482 c4_i32_264
  let v484 : BitVec 32 := Scalar.maxsi c0_i32_265 v483
  let v485 : BitVec 32 := Scalar.minsi c112_i32_266 v484
  let c64_i32_267 : BitVec 32 := 64#32
  let v486 : BitVec 32 := Scalar.muli v485 c64_i32_267
  let v487 : BitVec 32 := v486
  let v492 : Index := Scalar.indexCast v487
  let c0_275 : Index := 0#32
  ![v492.toNat, 0]
def k0_off10 (k0_t1 : Fin k0_t1_loop.trips) : Fin 3 → Nat :=
  let c0_278 : Index := 0#32
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c1_i32_261 : BitVec 32 := 1#32
  let v479 : BitVec 32 := Scalar.addi v245 c1_i32_261
  let c512_i32_262 : BitVec 32 := 512#32
  let v480 : BitVec 32 := Scalar.muli v479 c512_i32_262
  let v481 : BitVec 32 := v480
  let v501 : Index := Scalar.indexCast v481
  let c0_279 : Index := 0#32
  ![0, v501.toNat, 0]
def k0_mult11 (k0_t1 : Fin k0_t1_loop.trips) : BitVec 32 :=
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c3_i32 : BitVec 32 := 3#32
  let v679 : BitVec 32 := Scalar.addi v245 c3_i32
  let c15_i32_365 : BitVec 32 := 15#32
  let v680 : BitVec 32 := Scalar.minsi v679 c15_i32_365
  let c512_i32_366 : BitVec 32 := 512#32
  let v681 : BitVec 32 := Scalar.muli v680 c512_i32_366
  v681
def k0_mult12 (k0_t1 : Fin k0_t1_loop.trips) : BitVec 32 :=
  let c112_i32_370 : BitVec 32 := 112#32
  let c0_i32_369 : BitVec 32 := 0#32
  let c2_i32_129 : BitVec 32 := 2#32
  let c0_i32_125 : BitVec 32 := 0#32
  let c1_i32_127 : BitVec 32 := 1#32
  let arg17 : BitVec 32 := Scf.iv c0_i32_125 c1_i32_127 k0_t1
  let v245 : BitVec 32 := Scalar.muli c2_i32_129 arg17
  let c3_i32 : BitVec 32 := 3#32
  let v679 : BitVec 32 := Scalar.addi v245 c3_i32
  let c15_i32_365 : BitVec 32 := 15#32
  let v680 : BitVec 32 := Scalar.minsi v679 c15_i32_365
  let c8_i32_367 : BitVec 32 := 8#32
  let v683 : BitVec 32 := Scalar.muli v680 c8_i32_367
  let c4_i32_368 : BitVec 32 := 4#32
  let v684 : BitVec 32 := Scalar.subi v683 c4_i32_368
  let v685 : BitVec 32 := Scalar.maxsi c0_i32_369 v684
  let v686 : BitVec 32 := Scalar.minsi c112_i32_370 v685
  let c64_i32_371 : BitVec 32 := 64#32
  let v687 : BitVec 32 := Scalar.muli v686 c64_i32_371
  v687
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![arg1.toNat, c0_i32.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x15x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x14336 : Shape := ⟨3, ![2, 8192, 14336]⟩
abbrev S2x256x14336 : Shape := ⟨3, ![2, 256, 14336]⟩
abbrev S16x15x64x64 : Shape := ⟨4, ![16, 15, 64, 64]⟩
abbrev S2x8192x2048 : Shape := ⟨3, ![2, 8192, 2048]⟩
abbrev S2x256x2048 : Shape := ⟨3, ![2, 256, 2048]⟩
abbrev S2x128x64x16x128 : Shape := ⟨5, ![2, 128, 64, 16, 128]⟩
abbrev S2x256x16x128 : Shape := ⟨4, ![2, 256, 16, 128]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S2x128x8x64x16x128 : Shape := ⟨6, ![2, 128, 8, 64, 16, 128]⟩
abbrev S2x128x512x16x128 : Shape := ⟨5, ![2, 128, 512, 16, 128]⟩
abbrev S16x128x8x64x64 : Shape := ⟨5, ![16, 128, 8, 64, 64]⟩
abbrev S16x128x64x8x64 : Shape := ⟨5, ![16, 128, 64, 8, 64]⟩
abbrev S16x128x64x512 : Shape := ⟨4, ![16, 128, 64, 512]⟩
abbrev S2x16x128x64x512 : Shape := ⟨5, ![2, 16, 128, 64, 512]⟩
abbrev S1x16x128x64x512 : Shape := ⟨5, ![1, 16, 128, 64, 512]⟩
abbrev S2x16x128x64x256 : Shape := ⟨5, ![2, 16, 128, 64, 256]⟩
abbrev S2x16x128x64x768 : Shape := ⟨5, ![2, 16, 128, 64, 768]⟩
abbrev S2x16x128x64 : Shape := ⟨4, ![2, 16, 128, 64]⟩
abbrev S2x16x128x64x1 : Shape := ⟨5, ![2, 16, 128, 64, 1]⟩
abbrev S2x128x16x128x64 : Shape := ⟨5, ![2, 128, 16, 128, 64]⟩
abbrev S2x16x128x128x64 : Shape := ⟨5, ![2, 16, 128, 128, 64]⟩

abbrev nBuf : Space → Nat
  | .hbm => 120
  | .vmem => 0
  | .smem => 0
  | _ => 0

abbrev bufTy : (tb : Table) → Fin (tcTables nBuf tb) → BufTy
  | .hbm, ⟨0, _⟩ => ⟨S2x8192x14336, .bf16⟩
  | .hbm, ⟨1, _⟩ => ⟨S2x256x14336, .bf16⟩
  | .hbm, ⟨2, _⟩ => ⟨S16x15x64x64, .f32⟩
  | .hbm, ⟨3, _⟩ => ⟨S2x8192x2048, .bf16⟩
  | .hbm, ⟨4, _⟩ => ⟨S2x8192x2048, .f32⟩
  | .hbm, ⟨5, _⟩ => ⟨S2x8192x2048, .bf16⟩
  | .hbm, ⟨6, _⟩ => ⟨S2x8192x2048, .f32⟩
  | .hbm, ⟨7, _⟩ => ⟨S2x8192x2048, .bf16⟩
  | .hbm, ⟨8, _⟩ => ⟨S2x8192x2048, .f32⟩
  | .hbm, ⟨9, _⟩ => ⟨S2x8192x2048, .bf16⟩
  | .hbm, ⟨10, _⟩ => ⟨S2x8192x2048, .f32⟩
  | .hbm, ⟨11, _⟩ => ⟨S2x256x2048, .bf16⟩
  | .hbm, ⟨12, _⟩ => ⟨S2x256x2048, .f32⟩
  | .hbm, ⟨13, _⟩ => ⟨S2x256x2048, .bf16⟩
  | .hbm, ⟨14, _⟩ => ⟨S2x256x2048, .f32⟩
  | .hbm, ⟨15, _⟩ => ⟨S2x128x64x16x128, .f32⟩
  | .hbm, ⟨16, _⟩ => ⟨S2x128x64x16x128, .f32⟩
  | .hbm, ⟨17, _⟩ => ⟨S2x128x64x16x128, .f32⟩
  | .hbm, ⟨18, _⟩ => ⟨S2x256x16x128, .f32⟩
  | .hbm, ⟨19, _⟩ => ⟨S2x256x16x128, .f32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128x1, .i32⟩
  | .hbm, ⟨33, _⟩ => ⟨S8, .i32⟩
  | .hbm, ⟨34, _⟩ => ⟨S1x8, .i32⟩
  | .hbm, ⟨35, _⟩ => ⟨S128x8, .i32⟩
  | .hbm, ⟨36, _⟩ => ⟨S128x8, .i32⟩
  | .hbm, ⟨37, _⟩ => ⟨S128x8, .i32⟩
  | .hbm, ⟨38, _⟩ => ⟨S_, .i32⟩
  | .hbm, ⟨39, _⟩ => ⟨S128x8, .i32⟩
  | .hbm, ⟨40, _⟩ => ⟨S128x8, .i1⟩
  | .hbm, ⟨41, _⟩ => ⟨S_, .i32⟩
  | .hbm, ⟨42, _⟩ => ⟨S128x8, .i32⟩
  | .hbm, ⟨43, _⟩ => ⟨S128x8, .i32⟩
  | .hbm, ⟨44, _⟩ => ⟨S128x8, .i32⟩
  | .hbm, ⟨45, _⟩ => ⟨S128x8x1, .i32⟩
  | .hbm, ⟨46, _⟩ => ⟨S2x128x8x64x16x128, .f32⟩
  | .hbm, ⟨47, _⟩ => ⟨S2x128x512x16x128, .f32⟩
  | .hbm, ⟨48, _⟩ => ⟨S_, .i32⟩
  | .hbm, ⟨49, _⟩ => ⟨S128x8, .i32⟩
  | .hbm, ⟨50, _⟩ => ⟨S128x8, .i1⟩
  | .hbm, ⟨51, _⟩ => ⟨S_, .i32⟩
  | .hbm, ⟨52, _⟩ => ⟨S128x8, .i32⟩
  | .hbm, ⟨53, _⟩ => ⟨S128x8, .i32⟩
  | .hbm, ⟨54, _⟩ => ⟨S128x8, .i32⟩
  | .hbm, ⟨55, _⟩ => ⟨S128x8x1, .i32⟩
  | .hbm, ⟨56, _⟩ => ⟨S2x128x8x64x16x128, .f32⟩
  | .hbm, ⟨57, _⟩ => ⟨S2x128x512x16x128, .f32⟩
  | .hbm, ⟨58, _⟩ => ⟨S128x1, .i32⟩
  | .hbm, ⟨59, _⟩ => ⟨S128x8, .i32⟩
  | .hbm, ⟨60, _⟩ => ⟨S128x8, .i32⟩
  | .hbm, ⟨61, _⟩ => ⟨S_, .i32⟩
  | .hbm, ⟨62, _⟩ => ⟨S128x8, .i32⟩
  | .hbm, ⟨63, _⟩ => ⟨S128x8, .i32⟩
  | .hbm, ⟨64, _⟩ => ⟨S_, .i32⟩
  | .hbm, ⟨65, _⟩ => ⟨S128x8, .i32⟩
  | .hbm, ⟨66, _⟩ => ⟨S128x8, .i1⟩
  | .hbm, ⟨67, _⟩ => ⟨S_, .i32⟩
  | .hbm, ⟨68, _⟩ => ⟨S128x8, .i32⟩
  | .hbm, ⟨69, _⟩ => ⟨S128x8, .i32⟩
  | .hbm, ⟨70, _⟩ => ⟨S128x8, .i32⟩
  | .hbm, ⟨71, _⟩ => ⟨S128x8x1, .i32⟩
  | .hbm, ⟨72, _⟩ => ⟨S16x128x8x64x64, .f32⟩
  | .hbm, ⟨73, _⟩ => ⟨S16x128x64x8x64, .f32⟩
  | .hbm, ⟨74, _⟩ => ⟨S16x128x64x512, .f32⟩
  | .hbm, ⟨75, _⟩ => ⟨S2x16x128x64x512, .f32⟩
  | .hbm, ⟨76, _⟩ => ⟨S_, .f32⟩
  | .hbm, ⟨77, _⟩ => ⟨S2x16x128x64x512, .f32⟩
  | .hbm, ⟨78, _⟩ => ⟨S2x16x128x64x512, .f32⟩
  | .hbm, ⟨79, _⟩ => ⟨S1x16x128x64x512, .f32⟩
  | .hbm, ⟨80, _⟩ => ⟨S2x16x128x64x512, .f32⟩
  | .hbm, ⟨81, _⟩ => ⟨S2x16x128x64x512, .f32⟩
  | .hbm, ⟨82, _⟩ => ⟨S2x16x128x64x256, .f32⟩
  | .hbm, ⟨83, _⟩ => ⟨S_, .f32⟩
  | .hbm, ⟨84, _⟩ => ⟨S2x16x128x64x256, .f32⟩
  | .hbm, ⟨85, _⟩ => ⟨S2x16x128x64x256, .f32⟩
  | .hbm, ⟨86, _⟩ => ⟨S2x16x128x64x768, .f32⟩
  | .hbm, ⟨87, _⟩ => ⟨S_, .f32⟩
  | .hbm, ⟨88, _⟩ => ⟨S2x16x128x64, .f32⟩
  | .hbm, ⟨89, _⟩ => ⟨S_, .f32⟩
  | .hbm, ⟨90, _⟩ => ⟨S2x16x128x64, .f32⟩
  | .hbm, ⟨91, _⟩ => ⟨S2x16x128x64, .f32⟩
  | .hbm, ⟨92, _⟩ => ⟨S2x16x128x64x1, .f32⟩
  | .hbm, ⟨93, _⟩ => ⟨S2x16x128x64x768, .f32⟩
  | .hbm, ⟨94, _⟩ => ⟨S2x16x128x64x768, .f32⟩
  | .hbm, ⟨95, _⟩ => ⟨S2x16x128x64x768, .f32⟩
  | .hbm, ⟨96, _⟩ => ⟨S_, .f32⟩
  | .hbm, ⟨97, _⟩ => ⟨S2x16x128x64, .f32⟩
  | .hbm, ⟨98, _⟩ => ⟨S2x16x128x64x1, .f32⟩
  | .hbm, ⟨99, _⟩ => ⟨S2x16x128x64x768, .f32⟩
  | .hbm, ⟨100, _⟩ => ⟨S2x16x128x64x768, .f32⟩
  | .hbm, ⟨101, _⟩ => ⟨S2x16x128x64x512, .f32⟩
  | .hbm, ⟨102, _⟩ => ⟨S2x128x16x128x64, .f32⟩
  | .hbm, ⟨103, _⟩ => ⟨S2x128x64x16x128, .f32⟩
  | .hbm, ⟨104, _⟩ => ⟨S2x16x128x64x256, .f32⟩
  | .hbm, ⟨105, _⟩ => ⟨S2x16x128x128x64, .f32⟩
  | .hbm, ⟨106, _⟩ => ⟨S2x128x64x16x128, .f32⟩
  | .hbm, ⟨107, _⟩ => ⟨S2x128x64x16x128, .f32⟩
  | .hbm, ⟨108, _⟩ => ⟨S2x8192x2048, .f32⟩
  | .hbm, ⟨109, _⟩ => ⟨S2x8192x2048, .f32⟩
  | .hbm, ⟨110, _⟩ => ⟨S2x8192x2048, .f32⟩
  | .hbm, ⟨111, _⟩ => ⟨S_, .f32⟩
  | .hbm, ⟨112, _⟩ => ⟨S2x8192x2048, .f32⟩
  | .hbm, ⟨113, _⟩ => ⟨S2x8192x2048, .f32⟩
  | .hbm, ⟨114, _⟩ => ⟨S_, .f32⟩
  | .hbm, ⟨115, _⟩ => ⟨S2x8192x2048, .f32⟩
  | .hbm, ⟨116, _⟩ => ⟨S2x8192x2048, .f32⟩
  | .hbm, ⟨117, _⟩ => ⟨S2x8192x2048, .f32⟩
  | .hbm, ⟨118, _⟩ => ⟨S2x8192x2048, .f32⟩
  | .hbm, ⟨119, _⟩ => ⟨S2x8192x2048, .bf16⟩
  | _, _ => ⟨S2x8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_c_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_call1_v5 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]
-- ==== KernelOut.lean ====
abbrev S2x8192x2048 : Shape := ⟨3, ![2, 8192, 2048]⟩
abbrev S2x4096x2048 : Shape := ⟨3, ![2, 4096, 2048]⟩
abbrev S4x8x1x6144 : Shape := ⟨4, ![4, 8, 1, 6144]⟩
abbrev S16384x2048 : Shape := ⟨2, ![16384, 2048]⟩
abbrev S1024x2048 : Shape := ⟨2, ![1024, 2048]⟩
abbrev S1x2048x512 : Shape := ⟨3, ![1, 2048, 512]⟩
abbrev S1024x512 : Shape := ⟨2, ![1024, 512]⟩
abbrev S1x1x1x512 : Shape := ⟨4, ![1, 1, 1, 512]⟩
abbrev S2048x512 : Shape := ⟨2, ![2048, 512]⟩
abbrev S1x512 : Shape := ⟨2, ![1, 512]⟩

abbrev nBuf : Space → Nat
  | .hbm => 10
  | .vmem => 14
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S2x4096x2048, .f32⟩
  | .hbm, ⟨3, _⟩ => ⟨S2x8192x2048, .f32⟩
  | .hbm, ⟨4, _⟩ => ⟨S4x8x1x6144, .f32⟩
  | .hbm, ⟨5, _⟩ => ⟨S16384x2048, .bf16⟩
  | .hbm, ⟨6, _⟩ => ⟨S16384x2048, .bf16⟩
  | .hbm, ⟨7, _⟩ => ⟨S2x4096x2048, .bf16⟩
  | .hbm, ⟨8, _⟩ => ⟨S16384x2048, .f32⟩
  | .hbm, ⟨9, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .f32⟩
  | .local _ .vmem, ⟨9, _⟩ => ⟨S1024x512, .f32⟩
  | .local _ .vmem, ⟨10, _⟩ => ⟨S1x1x1x512, .f32⟩
  | .local _ .vmem, ⟨11, _⟩ => ⟨S1x1x1x512, .f32⟩
  | .local _ .vmem, ⟨12, _⟩ => ⟨S1024x512, .f32⟩
  | .local _ .vmem, ⟨13, _⟩ => ⟨S1024x512, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.addi c8_i32_4 arg1
  let c0_i32_5 : BitVec 32 := 0#32
  let c0_i32_6 : BitVec 32 := 0#32
  let c0_i32_7 : BitVec 32 := 0#32
  ![c0_i32_5.toNat, v16.toNat, c0_i32_6.toNat, v17.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceOutIdeal.lean ====
abbrev S2x8192x2048 : Shape := ⟨3, ![2, 8192, 2048]⟩
abbrev S2x4096x2048 : Shape := ⟨3, ![2, 4096, 2048]⟩
abbrev S4x8x1x6144 : Shape := ⟨4, ![4, 8, 1, 6144]⟩
abbrev S1x2x1x2048 : Shape := ⟨4, ![1, 2, 1, 2048]⟩
abbrev S2x2048 : Shape := ⟨2, ![2, 2048]⟩
abbrev S2x8192x4096 : Shape := ⟨3, ![2, 8192, 4096]⟩
abbrev S1x4096x2048 : Shape := ⟨3, ![1, 4096, 2048]⟩
abbrev S4096x2048 : Shape := ⟨2, ![4096, 2048]⟩
abbrev S2x1x2048 : Shape := ⟨3, ![2, 1, 2048]⟩
abbrev S16384x2048 : Shape := ⟨2, ![16384, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S2x4096x2048, .f32⟩
  | .hbm, ⟨3, _⟩ => ⟨S2x8192x2048, .f32⟩
  | .hbm, ⟨4, _⟩ => ⟨S4x8x1x6144, .f32⟩
  | .hbm, ⟨5, _⟩ => ⟨S1x2x1x2048, .f32⟩
  | .hbm, ⟨6, _⟩ => ⟨S2x2048, .f32⟩
  | .hbm, ⟨7, _⟩ => ⟨S2x8192x4096, .bf16⟩
  | .hbm, ⟨8, _⟩ => ⟨S2x8192x4096, .f32⟩
  | .hbm, ⟨9, _⟩ => ⟨S1x4096x2048, .f32⟩
  | .hbm, ⟨10, _⟩ => ⟨S4096x2048, .f32⟩
  | .hbm, ⟨11, _⟩ => ⟨S2x8192x2048, .f32⟩
  | .hbm, ⟨12, _⟩ => ⟨S2x1x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S16384x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KernelLast.lean ====
abbrev S2x8192x2048 : Shape := ⟨3, ![2, 8192, 2048]⟩
abbrev S2x2048x2048 : Shape := ⟨3, ![2, 2048, 2048]⟩
abbrev S4x8x1x6144 : Shape := ⟨4, ![4, 8, 1, 6144]⟩
abbrev S16384x2048 : Shape := ⟨2, ![16384, 2048]⟩
abbrev S2048x2048 : Shape := ⟨2, ![2048, 2048]⟩
abbrev S1x2048x512 : Shape := ⟨3, ![1, 2048, 512]⟩
abbrev S2048x512 : Shape := ⟨2, ![2048, 512]⟩
abbrev S1x1x1x512 : Shape := ⟨4, ![1, 1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S2x8192x2048, .bf16⟩
  | .hbm, ⟨1, _⟩ => ⟨S2x2048x2048, .f32⟩
  | .hbm, ⟨2, _⟩ => ⟨S2x8192x2048, .f32⟩
  | .hbm, ⟨3, _⟩ => ⟨S4x8x1x6144, .f32⟩
  | .hbm, ⟨4, _⟩ => ⟨S16384x2048, .bf16⟩
  | .hbm, ⟨5, _⟩ => ⟨S16384x2048, .f32⟩
  | .hbm, ⟨6, _⟩ => ⟨S16384x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x512, .f32⟩
  | .local _ .vmem, ⟨5, _⟩ => ⟨S2048x512, .f32⟩
  | .local _ .vmem, ⟨6, _⟩ => ⟨S1x1x1x512, .f32⟩
  | .local _ .vmem, ⟨7, _⟩ => ⟨S1x1x1x512, .f32⟩
  | .local _ .vmem, ⟨8, _⟩ => ⟨S2048x512, .f32⟩
  | .local _ .vmem, ⟨9, _⟩ => ⟨S2048x512, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 arg1
  let c3_i32 : BitVec 32 := 3#32
  let c0_i32_4 : BitVec 32 := 0#32
  let c0_i32_5 : BitVec 32 := 0#32
  ![c3_i32.toNat, v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceLastIdeal.lean ====
abbrev S2x8192x2048 : Shape := ⟨3, ![2, 8192, 2048]⟩
abbrev S2x2048x2048 : Shape := ⟨3, ![2, 2048, 2048]⟩
abbrev S4x8x1x6144 : Shape := ⟨4, ![4, 8, 1, 6144]⟩
abbrev S1x2x1x2048 : Shape := ⟨4, ![1, 2, 1, 2048]⟩
abbrev S2x2048 : Shape := ⟨2, ![2, 2048]⟩
abbrev S1x2048x2048 : Shape := ⟨3, ![1, 2048, 2048]⟩
abbrev S2048x2048 : Shape := ⟨2, ![2048, 2048]⟩
abbrev S2x1x2048 : Shape := ⟨3, ![2, 1, 2048]⟩
abbrev S16384x2048 : Shape := ⟨2, ![16384, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x2048x2048, .f32⟩
  | .hbm, ⟨2, _⟩ => ⟨S2x8192x2048, .f32⟩
  | .hbm, ⟨3, _⟩ => ⟨S4x8x1x6144, .f32⟩
  | .hbm, ⟨4, _⟩ => ⟨S1x2x1x2048, .f32⟩
  | .hbm, ⟨5, _⟩ => ⟨S2x2048, .f32⟩
  | .hbm, ⟨6, _⟩ => ⟨S2x8192x2048, .f32⟩
  | .hbm, ⟨7, _⟩ => ⟨S1x2048x2048, .f32⟩
  | .hbm, ⟨8, _⟩ => ⟨S2048x2048, .f32⟩
  | .hbm, ⟨9, _⟩ => ⟨S2x8192x2048, .f32⟩
  | .hbm, ⟨10, _⟩ => ⟨S2x1x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S16384x2048, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelProject.lean ====
abbrev S2x8192x2048 : Shape := ⟨3, ![2, 8192, 2048]⟩
abbrev S4x8x1x6144 : Shape := ⟨4, ![4, 8, 1, 6144]⟩
abbrev S2048 : Shape := ⟨1, ![2048]⟩
abbrev S2048x14400 : Shape := ⟨2, ![2048, 14400]⟩
abbrev S128 : Shape := ⟨1, ![128]⟩
abbrev S2048x14336 : Shape := ⟨2, ![2048, 14336]⟩
abbrev S1x2048x14336 : Shape := ⟨3, ![1, 2048, 14336]⟩
abbrev S2048x64 : Shape := ⟨2, ![2048, 64]⟩
abbrev S2048x2x8x4 : Shape := ⟨4, ![2048, 2, 8, 4]⟩
abbrev S8x2x4x2048 : Shape := ⟨4, ![8, 2, 4, 2048]⟩
abbrev S64x2048 : Shape := ⟨2, ![64, 2048]⟩
abbrev S_ : Shape := ⟨0, ![]⟩
abbrev S128x2048 : Shape := ⟨2, ![128, 2048]⟩
abbrev S16384x2048 : Shape := ⟨2, ![16384, 2048]⟩
abbrev S1x2048 : Shape := ⟨2, ![1, 2048]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S16384x14336 : Shape := ⟨2, ![16384, 14336]⟩
abbrev S128x16384 : Shape := ⟨2, ![128, 16384]⟩
abbrev S2048x2048 : Shape := ⟨2, ![2048, 2048]⟩
abbrev S1x1x1x2048 : Shape := ⟨4, ![1, 1, 1, 2048]⟩
abbrev S1x2048x512 : Shape := ⟨3, ![1, 2048, 512]⟩
abbrev S2048x512 : Shape := ⟨2, ![2048, 512]⟩
abbrev S128x1 : Shape := ⟨2, ![128, 1]⟩
abbrev S256x128 : Shape := ⟨2, ![256, 128]⟩
abbrev S256 : Shape := ⟨1, ![256]⟩
abbrev S256x1 : Shape := ⟨2, ![256, 1]⟩

abbrev nBuf : Space → Nat
  | .hbm => 32
  | .vmem => 17
  | .smem => 0
  | _ => 0

abbrev bufTy : (tb : Table) → Fin (tcTables nBuf tb) → BufTy
  | .hbm, ⟨0, _⟩ => ⟨S2x8192x2048, .f32⟩
  | .hbm, ⟨1, _⟩ => ⟨S4x8x1x6144, .f32⟩
  | .hbm, ⟨2, _⟩ => ⟨S2048, .f32⟩
  | .hbm, ⟨3, _⟩ => ⟨S2048x14400, .f32⟩
  | .hbm, ⟨4, _⟩ => ⟨S128, .f32⟩
  | .hbm, ⟨5, _⟩ => ⟨S128, .f32⟩
  | .hbm, ⟨6, _⟩ => ⟨S2048x14336, .f32⟩
  | .hbm, ⟨7, _⟩ => ⟨S2048x14336, .bf16⟩
  | .hbm, ⟨8, _⟩ => ⟨S1x2048x14336, .bf16⟩
  | .hbm, ⟨9, _⟩ => ⟨S2048x64, .f32⟩
  | .hbm, ⟨10, _⟩ => ⟨S2048x2x8x4, .f32⟩
  | .hbm, ⟨11, _⟩ => ⟨S8x2x4x2048, .f32⟩
  | .hbm, ⟨12, _⟩ => ⟨S64x2048, .f32⟩
  | .hbm, ⟨13, _⟩ => ⟨S_, .f32⟩
  | .hbm, ⟨14, _⟩ => ⟨S64x2048, .f32⟩
  | .hbm, ⟨15, _⟩ => ⟨S128x2048, .f32⟩
  | .hbm, ⟨16, _⟩ => ⟨S128x2048, .bf16⟩
  | .hbm, ⟨17, _⟩ => ⟨S16384x2048, .f32⟩
  | .hbm, ⟨18, _⟩ => ⟨S1x2048, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S4x128, .f32⟩
  | .hbm, ⟨24, _⟩ => ⟨S512, .f32⟩
  | .hbm, ⟨25, _⟩ => ⟨S1x512, .f32⟩
  | .hbm, ⟨26, _⟩ => ⟨S1x128, .f32⟩
  | .hbm, ⟨27, _⟩ => ⟨S4x128, .f32⟩
  | .hbm, ⟨28, _⟩ => ⟨S512, .f32⟩
  | .hbm, ⟨29, _⟩ => ⟨S1x512, .f32⟩
  | .hbm, ⟨30, _⟩ => ⟨S16384x14336, .bf16⟩
  | .hbm, ⟨31, _⟩ => ⟨S128x16384, .f32⟩
  | .local _ .vmem, ⟨0, _⟩ => ⟨S2048x2048, .f32⟩
  | .local _ .vmem, ⟨1, _⟩ => ⟨S2048x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S1x2048x512, .bf16⟩
  | .local _ .vmem, ⟨8, _⟩ => ⟨S1x2048x512, .bf16⟩
  | .local _ .vmem, ⟨9, _⟩ => ⟨S128x2048, .bf16⟩
  | .local _ .vmem, ⟨10, _⟩ => ⟨S1x512, .f32⟩
  | .local _ .vmem, ⟨11, _⟩ => ⟨S1x512, .f32⟩
  | .local _ .vmem, ⟨12, _⟩ => ⟨S2048x512, .bf16⟩
  | .local _ .vmem, ⟨13, _⟩ => ⟨S2048x512, .bf16⟩
  | .local _ .vmem, ⟨14, _⟩ => ⟨S128x2048, .f32⟩
  | .local _ .vmem, ⟨15, _⟩ => ⟨S128x2048, .f32⟩
  | .local _ .vmem, ⟨16, _⟩ => ⟨S2048x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 28], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c16_i32_14 : BitVec 32 := 16#32
  let v25 : BitVec 32 := Scalar.addi c0_i32_13 c16_i32_14
  let c1_i32 : BitVec 32 := 1#32
  ⟨c0_i32_13, v25, c1_i32⟩
def k0_mult1 (k0_t1 : Fin k0_t1_loop.trips) : BitVec 32 :=
  let c0_i32_13 : BitVec 32 := 0#32
  let c1_i32 : BitVec 32 := 1#32
  let arg13 : BitVec 32 := Scf.iv c0_i32_13 c1_i32 k0_t1
  let c128_i32 : BitVec 32 := 128#32
  let v31 : BitVec 32 := Scalar.muli arg13 c128_i32
  v31
def k0_off1 (k0_t1 : Fin k0_t1_loop.trips) : Fin 2 → Nat :=
  let c0_i32_13 : BitVec 32 := 0#32
  let c1_i32 : BitVec 32 := 1#32
  let arg13 : BitVec 32 := Scf.iv c0_i32_13 c1_i32 k0_t1
  let c128_i32 : BitVec 32 := 128#32
  let v31 : BitVec 32 := Scalar.muli arg13 c128_i32
  let v32 : BitVec 32 := v31
  let v33 : Index := Scalar.indexCast v32
  let c0_23 : Index := 0#32
  ![v33.toNat, 0]
def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c4_i32 : BitVec 32 := 4#32
  let v4 : BitVec 1 := Scalar.cmpi .slt arg1 c4_i32
  let v5 : BitVec 1 := Scalar.andi v3 v4
  let c12_i32 : BitVec 32 := 12#32
  let v6 : BitVec 1 := Scalar.cmpi .sge arg1 c12_i32
  let c16_i32 : BitVec 32 := 16#32
  let v7 : BitVec 1 := Scalar.cmpi .slt arg1 c16_i32
  let v8 : BitVec 1 := Scalar.andi v6 v7
  let v9 : BitVec 1 := Scalar.ori v5 v8
  let v10 : BitVec 32 := Scalar.extui v9
  let c0_i32_2 : BitVec 32 := 0#32
  let v11 : BitVec 1 := Scalar.cmpi .ne v10 c0_i32_2
  v11

def k0_cond3 (i : grid0.Coords) : BitVec 1 :=
  let arg1 : BitVec 32 := BitVec.ofNat 32 (i 1).val
  let c0_i32_1 : BitVec 32 := 0#32
  let v3 : BitVec 1 := Scalar.cmpi .sge arg1 c0_i32_1
  let c4_i32 : BitVec 32 := 4#32
  let v4 : BitVec 1 := Scalar.cmpi .slt arg1 c4_i32
  let v5 : BitVec 1 := Scalar.andi v3 v4
  let c12_i32 : BitVec 32 := 12#32
  let v6 : BitVec 1 := Scalar.cmpi .sge arg1 c12_i32
  let c16_i32 : BitVec 32 := 16#32
  let v7 : BitVec 1 := Scalar.cmpi .slt arg1 c16_i32
  let v8 : BitVec 1 := Scalar.andi v6 v7
  let v12 : BitVec 1 := Scalar.ori v5 v8
  let v_true : BitVec 1 := 1#1
  let v13 : BitVec 1 := Scalar.xori v12 v_true
  let v14 : BitVec 32 := Scalar.extui v13
  let c0_i32_3 : BitVec 32 := 0#32
  let v15 : BitVec 1 := Scalar.cmpi .ne v14 c0_i32_3
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c1_i32_6 : BitVec 32 := 1#32
  let c0_i32_7 : BitVec 32 := 0#32
  ![c0_i32_4.toNat, v16.toNat, c0_i32_5.toNat, c1_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceProjectIdeal.lean ====
abbrev S2x8192x2048 : Shape := ⟨3, ![2, 8192, 2048]⟩
abbrev S4x8x1x6144 : Shape := ⟨4, ![4, 8, 1, 6144]⟩
abbrev S2048 : Shape := ⟨1, ![2048]⟩
abbrev S2048x14400 : Shape := ⟨2, ![2048, 14400]⟩
abbrev S128 : Shape := ⟨1, ![128]⟩
abbrev S1x2x1x2048 : Shape := ⟨4, ![1, 2, 1, 2048]⟩
abbrev S2x2048 : Shape := ⟨2, ![2, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2048x14336 : Shape := ⟨2, ![2048, 14336]⟩
abbrev S2x8192x14336 : Shape := ⟨3, ![2, 8192, 14336]⟩
abbrev S2x8192x16x128 : Shape := ⟨4, ![2, 8192, 16, 128]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩
abbrev S2x8192x4096 : Shape := ⟨3, ![2, 8192, 4096]⟩
abbrev S2x8192x6144 : Shape := ⟨3, ![2, 8192, 6144]⟩
abbrev S16384x14336 : Shape := ⟨2, ![16384, 14336]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S4x8x1x6144, .f32⟩
  | .hbm, ⟨2, _⟩ => ⟨S2048, .f32⟩
  | .hbm, ⟨3, _⟩ => ⟨S2048x14400, .f32⟩
  | .hbm, ⟨4, _⟩ => ⟨S128, .f32⟩
  | .hbm, ⟨5, _⟩ => ⟨S128, .f32⟩
  | .hbm, ⟨6, _⟩ => ⟨S1x2x1x2048, .f32⟩
  | .hbm, ⟨7, _⟩ => ⟨S2x2048, .f32⟩
  | .hbm, ⟨8, _⟩ => ⟨S1x2x1x2048, .f32⟩
  | .hbm, ⟨9, _⟩ => ⟨S2x2048, .f32⟩
  | .hbm, ⟨10, _⟩ => ⟨S2x8192x2048, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x2048, .f32⟩
  | .hbm, ⟨22, _⟩ => ⟨S2x8192x2048, .f32⟩
  | .hbm, ⟨23, _⟩ => ⟨S1x1x2048, .f32⟩
  | .hbm, ⟨24, _⟩ => ⟨S2x8192x2048, .f32⟩
  | .hbm, ⟨25, _⟩ => ⟨S2x8192x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x1x2048, .f32⟩
  | .hbm, ⟨33, _⟩ => ⟨S2x8192x2048, .f32⟩
  | .hbm, ⟨34, _⟩ => ⟨S2x8192x2048, .f32⟩
  | .hbm, ⟨35, _⟩ => ⟨S2048x14336, .f32⟩
  | .hbm, ⟨36, _⟩ => ⟨S2x8192x14336, .f32⟩
  | .hbm, ⟨37, _⟩ => ⟨S2x8192x2048, .f32⟩
  | .hbm, ⟨38, _⟩ => ⟨S2x8192x16x128, .f32⟩
  | .hbm, ⟨39, _⟩ => ⟨S2x8192x2048, .f32⟩
  | .hbm, ⟨40, _⟩ => ⟨S2x8192x16x128, .f32⟩
  | .hbm, ⟨41, _⟩ => ⟨S2x8192x16x128, .f32⟩
  | .hbm, ⟨42, _⟩ => ⟨S_, .f32⟩
  | .hbm, ⟨43, _⟩ => ⟨S2x8192x16, .f32⟩
  | .hbm, ⟨44, _⟩ => ⟨S2x8192x16x1, .f32⟩
  | .hbm, ⟨45, _⟩ => ⟨S_, .f32⟩
  | .hbm, ⟨46, _⟩ => ⟨S2x8192x16x1, .f32⟩
  | .hbm, ⟨47, _⟩ => ⟨S2x8192x16x1, .f32⟩
  | .hbm, ⟨48, _⟩ => ⟨S_, .f32⟩
  | .hbm, ⟨49, _⟩ => ⟨S2x8192x16x1, .f32⟩
  | .hbm, ⟨50, _⟩ => ⟨S2x8192x16x1, .f32⟩
  | .hbm, ⟨51, _⟩ => ⟨S2x8192x16x1, .f32⟩
  | .hbm, ⟨52, _⟩ => ⟨S2x8192x16x128, .f32⟩
  | .hbm, ⟨53, _⟩ => ⟨S2x8192x16x128, .f32⟩
  | .hbm, ⟨54, _⟩ => ⟨S1x1x1x128, .f32⟩
  | .hbm, ⟨55, _⟩ => ⟨S2x8192x16x128, .f32⟩
  | .hbm, ⟨56, _⟩ => ⟨S2x8192x16x128, .f32⟩
  | .hbm, ⟨57, _⟩ => ⟨S_, .f32⟩
  | .hbm, ⟨58, _⟩ => ⟨S2x8192x16x128, .f32⟩
  | .hbm, ⟨59, _⟩ => ⟨S2x8192x16x128, .f32⟩
  | .hbm, ⟨60, _⟩ => ⟨S2x8192x16x128, .f32⟩
  | .hbm, ⟨61, _⟩ => ⟨S_, .f32⟩
  | .hbm, ⟨62, _⟩ => ⟨S2x8192x16, .f32⟩
  | .hbm, ⟨63, _⟩ => ⟨S2x8192x16x1, .f32⟩
  | .hbm, ⟨64, _⟩ => ⟨S_, .f32⟩
  | .hbm, ⟨65, _⟩ => ⟨S2x8192x16x1, .f32⟩
  | .hbm, ⟨66, _⟩ => ⟨S2x8192x16x1, .f32⟩
  | .hbm, ⟨67, _⟩ => ⟨S_, .f32⟩
  | .hbm, ⟨68, _⟩ => ⟨S2x8192x16x1, .f32⟩
  | .hbm, ⟨69, _⟩ => ⟨S2x8192x16x1, .f32⟩
  | .hbm, ⟨70, _⟩ => ⟨S2x8192x16x1, .f32⟩
  | .hbm, ⟨71, _⟩ => ⟨S2x8192x16x128, .f32⟩
  | .hbm, ⟨72, _⟩ => ⟨S2x8192x16x128, .f32⟩
  | .hbm, ⟨73, _⟩ => ⟨S1x1x1x128, .f32⟩
  | .hbm, ⟨74, _⟩ => ⟨S2x8192x16x128, .f32⟩
  | .hbm, ⟨75, _⟩ => ⟨S2x8192x16x128, .f32⟩
  | .hbm, ⟨76, _⟩ => ⟨S2x8192x2048, .f32⟩
  | .hbm, ⟨77, _⟩ => ⟨S2x8192x4096, .f32⟩
  | .hbm, ⟨78, _⟩ => ⟨S2x8192x2048, .f32⟩
  | .hbm, ⟨79, _⟩ => ⟨S2x8192x6144, .f32⟩
  | .hbm, ⟨80, _⟩ => ⟨S2x8192x14336, .f32⟩
  | .hbm, ⟨81, _⟩ => ⟨S16384x14336, .f32⟩
  | .hbm, ⟨82, _⟩ => ⟨S16384x14336, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== KernelConv.lean ====
abbrev S2x8192x2048 : Shape := ⟨3, ![2, 8192, 2048]⟩
abbrev S4x8x1x6144 : Shape := ⟨4, ![4, 8, 1, 6144]⟩
abbrev S2048 : Shape := ⟨1, ![2048]⟩
abbrev S2x2048x8192 : Shape := ⟨3, ![2, 2048, 8192]⟩
abbrev S2x3x2048 : Shape := ⟨3, ![2, 3, 2048]⟩
abbrev S16384x2048 : Shape := ⟨2, ![16384, 2048]⟩
abbrev S1x2048 : Shape := ⟨2, ![1, 2048]⟩
abbrev S1x3x2048 : Shape := ⟨3, ![1, 3, 2048]⟩
abbrev S3x2048 : Shape := ⟨2, ![3, 2048]⟩
abbrev S1024x2048 : Shape := ⟨2, ![1024, 2048]⟩
abbrev S16x2048 : Shape := ⟨2, ![16, 2048]⟩
abbrev S1x1x1x2048 : Shape := ⟨4, ![1, 1, 1, 2048]⟩
abbrev S1x2048x256 : Shape := ⟨3, ![1, 2048, 256]⟩
abbrev S3x256 : Shape := ⟨2, ![3, 256]⟩
abbrev S1024x256 : Shape := ⟨2, ![1024, 256]⟩
abbrev S1056x2048 : Shape := ⟨2, ![1056, 2048]⟩
abbrev S1056x256 : Shape := ⟨2, ![1056, 256]⟩
abbrev S16 : Shape := ⟨1, ![16]⟩
abbrev S16x1 : Shape := ⟨2, ![16, 1]⟩
abbrev S128x2048 : Shape := ⟨2, ![128, 2048]⟩
abbrev S128 : Shape := ⟨1, ![128]⟩
abbrev S128x1 : Shape := ⟨2, ![128, 1]⟩
abbrev S2048x256 : Shape := ⟨2, ![2048, 256]⟩
abbrev S16x256 : Shape := ⟨2, ![16, 256]⟩
abbrev S1x256 : Shape := ⟨2, ![1, 256]⟩

abbrev nBuf : Space → Nat
  | .hbm => 10
  | .vmem => 25
  | .smem => 0
  | _ => 0

abbrev bufTy : (tb : Table) → Fin (tcTables nBuf tb) → BufTy
  | .hbm, ⟨0, _⟩ => ⟨S2x8192x2048, .f32⟩
  | .hbm, ⟨1, _⟩ => ⟨S4x8x1x6144, .f32⟩
  | .hbm, ⟨2, _⟩ => ⟨S2048, .f32⟩
  | .hbm, ⟨3, _⟩ => ⟨S2x2048x8192, .f32⟩
  | .hbm, ⟨4, _⟩ => ⟨S2x3x2048, .f32⟩
  | .hbm, ⟨5, _⟩ => ⟨S16384x2048, .f32⟩
  | .hbm, ⟨6, _⟩ => ⟨S1x2048, .f32⟩
  | .hbm, ⟨7, _⟩ => ⟨S1x3x2048, .f32⟩
  | .hbm, ⟨8, _⟩ => ⟨S3x2048, .f32⟩
  | .hbm, ⟨9, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x2048, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x2048x256, .f32⟩
  | .local _ .vmem, ⟨19, _⟩ => ⟨S3x256, .f32⟩
  | .local _ .vmem, ⟨20, _⟩ => ⟨S3x256, .f32⟩
  | .local _ .vmem, ⟨21, _⟩ => ⟨S1024x256, .bf16⟩
  | .local _ .vmem, ⟨22, _⟩ => ⟨S1024x256, .bf16⟩
  | .local _ .vmem, ⟨23, _⟩ => ⟨S1056x2048, .bf16⟩
  | .local _ .vmem, ⟨24, _⟩ => ⟨S1056x256, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_68 : BitVec 32 := 0#32
  let c8_i32_69 : BitVec 32 := 8#32
  let v128 : BitVec 32 := Scalar.addi c0_i32_68 c8_i32_69
  let c1_i32_70 : BitVec 32 := 1#32
  ⟨c0_i32_68, v128, c1_i32_70⟩
def k0_mult1 (k0_t1 : Fin k0_t1_loop.trips) : BitVec 32 :=
  let c0_i32_68 : BitVec 32 := 0#32
  let c1_i32_70 : BitVec 32 := 1#32
  let arg16 : BitVec 32 := Scf.iv c0_i32_68 c1_i32_70 k0_t1
  let c128_i32 : BitVec 32 := 128#32
  let v129 : BitVec 32 := Scalar.muli arg16 c128_i32
  v129
def k0_off1 (k0_t1 : Fin k0_t1_loop.trips) : Fin 2 → Nat :=
  let c0_i32_68 : BitVec 32 := 0#32
  let c1_i32_70 : BitVec 32 := 1#32
  let arg16 : BitVec 32 := Scf.iv c0_i32_68 c1_i32_70 k0_t1
  let c128_i32 : BitVec 32 := 128#32
  let v129 : BitVec 32 := Scalar.muli arg16 c128_i32
  let v130 : BitVec 32 := v129
  let v131 : Index := Scalar.indexCast v130
  let c0_72 : Index := 0#32
  ![v131.toNat, 0]
def k0_off2 (k0_t1 : Fin k0_t1_loop.trips) : Fin 2 → Nat :=
  let c16_i32 : BitVec 32 := 16#32
  let c0_i32_68 : BitVec 32 := 0#32
  let c1_i32_70 : BitVec 32 := 1#32
  let arg16 : BitVec 32 := Scf.iv c0_i32_68 c1_i32_70 k0_t1
  let c128_i32 : BitVec 32 := 128#32
  let v129 : BitVec 32 := Scalar.muli arg16 c128_i32
  let v130 : BitVec 32 := v129
  let v149 : BitVec 32 := Scalar.addi c16_i32 v130
  let v150 : Index := Scalar.indexCast v149
  let c0_76 : Index := 0#32
  ![v150.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![c3_i32.toNat, v16.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c1_i32_5 : BitVec 32 := 1#32
  let c0_i32_6 : BitVec 32 := 0#32
  ![c3_i32.toNat, v16.toNat, c0_i32_4.toNat, c1_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c1_i32 : BitVec 32 := 1#32
  let c0_i32 : BitVec 32 := 0#32
  let c0_i32_0 : BitVec 32 := 0#32
  ![c1_i32.toNat, c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceConvIdeal.lean ====
abbrev S2x8192x2048 : Shape := ⟨3, ![2, 8192, 2048]⟩
abbrev S4x8x1x6144 : Shape := ⟨4, ![4, 8, 1, 6144]⟩
abbrev S2048 : Shape := ⟨1, ![2048]⟩
abbrev S2x2048x8192 : Shape := ⟨3, ![2, 2048, 8192]⟩
abbrev S2x3x2048 : Shape := ⟨3, ![2, 3, 2048]⟩
abbrev S1x2x1x2048 : Shape := ⟨4, ![1, 2, 1, 2048]⟩
abbrev S2x2048 : Shape := ⟨2, ![2, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S1x2048x8192 : Shape := ⟨3, ![1, 2048, 8192]⟩
abbrev S2048x8192 : Shape := ⟨2, ![2048, 8192]⟩
abbrev S2x8192x8192 : Shape := ⟨3, ![2, 8192, 8192]⟩
abbrev S2x8194x2048 : Shape := ⟨3, ![2, 8194, 2048]⟩
abbrev S16384x2048 : Shape := ⟨2, ![16384, 2048]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S4x8x1x6144, .f32⟩
  | .hbm, ⟨2, _⟩ => ⟨S2048, .f32⟩
  | .hbm, ⟨3, _⟩ => ⟨S2x2048x8192, .f32⟩
  | .hbm, ⟨4, _⟩ => ⟨S2x3x2048, .f32⟩
  | .hbm, ⟨5, _⟩ => ⟨S1x2x1x2048, .f32⟩
  | .hbm, ⟨6, _⟩ => ⟨S2x2048, .f32⟩
  | .hbm, ⟨7, _⟩ => ⟨S1x2x1x2048, .f32⟩
  | .hbm, ⟨8, _⟩ => ⟨S2x2048, .f32⟩
  | .hbm, ⟨9, _⟩ => ⟨S2x8192x2048, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x2048, .f32⟩
  | .hbm, ⟨21, _⟩ => ⟨S2x8192x2048, .f32⟩
  | .hbm, ⟨22, _⟩ => ⟨S1x1x2048, .f32⟩
  | .hbm, ⟨23, _⟩ => ⟨S2x8192x2048, .f32⟩
  | .hbm, ⟨24, _⟩ => ⟨S2x8192x2048, .f32⟩
  | .hbm, ⟨25, _⟩ => ⟨S2x1x2048, .f32⟩
  | .hbm, ⟨26, _⟩ => ⟨S_, .f32⟩
  | .hbm, ⟨27, _⟩ => ⟨S2x1x2048, .f32⟩
  | .hbm, ⟨28, _⟩ => ⟨S2x1x2048, .f32⟩
  | .hbm, ⟨29, _⟩ => ⟨S2x8192x2048, .f32⟩
  | .hbm, ⟨30, _⟩ => ⟨S2x8192x2048, .f32⟩
  | .hbm, ⟨31, _⟩ => ⟨S2x1x2048, .f32⟩
  | .hbm, ⟨32, _⟩ => ⟨S2x8192x2048, .f32⟩
  | .hbm, ⟨33, _⟩ => ⟨S2x8192x2048, .f32⟩
  | .hbm, ⟨34, _⟩ => ⟨S1x2048x8192, .f32⟩
  | .hbm, ⟨35, _⟩ => ⟨S2048x8192, .f32⟩
  | .hbm, ⟨36, _⟩ => ⟨S2x8192x8192, .f32⟩
  | .hbm, ⟨37, _⟩ => ⟨S2x8192x2048, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S2x8192x2048, .f32⟩
  | .hbm, ⟨42, _⟩ => ⟨S_, .i32⟩
  | .hbm, ⟨43, _⟩ => ⟨S_, .f32⟩
  | .hbm, ⟨44, _⟩ => ⟨S2x8194x2048, .f32⟩
  | .hbm, ⟨45, _⟩ => ⟨S2x8192x2048, .f32⟩
  | .hbm, ⟨46, _⟩ => ⟨S1x1x2048, .f32⟩
  | .hbm, ⟨47, _⟩ => ⟨S2048, .f32⟩
  | .hbm, ⟨48, _⟩ => ⟨S1x1x2048, .f32⟩
  | .hbm, ⟨49, _⟩ => ⟨S2x8192x2048, .f32⟩
  | .hbm, ⟨50, _⟩ => ⟨S2x8192x2048, .f32⟩
  | .hbm, ⟨51, _⟩ => ⟨S2x8192x2048, .f32⟩
  | .hbm, ⟨52, _⟩ => ⟨S1x1x2048, .f32⟩
  | .hbm, ⟨53, _⟩ => ⟨S2048, .f32⟩
  | .hbm, ⟨54, _⟩ => ⟨S1x1x2048, .f32⟩
  | .hbm, ⟨55, _⟩ => ⟨S2x8192x2048, .f32⟩
  | .hbm, ⟨56, _⟩ => ⟨S2x8192x2048, .f32⟩
  | .hbm, ⟨57, _⟩ => ⟨S2x8192x2048, .f32⟩
  | .hbm, ⟨58, _⟩ => ⟨S2x8192x2048, .f32⟩
  | .hbm, ⟨59, _⟩ => ⟨S1x1x2048, .f32⟩
  | .hbm, ⟨60, _⟩ => ⟨S2048, .f32⟩
  | .hbm, ⟨61, _⟩ => ⟨S1x1x2048, .f32⟩
  | .hbm, ⟨62, _⟩ => ⟨S2x8192x2048, .f32⟩
  | .hbm, ⟨63, _⟩ => ⟨S2x8192x2048, .f32⟩
  | .hbm, ⟨64, _⟩ => ⟨S2x8192x2048, .f32⟩
  | .hbm, ⟨65, _⟩ => ⟨S2x8192x2048, .f32⟩
  | .hbm, ⟨66, _⟩ => ⟨S2x8192x2048, .f32⟩
  | .hbm, ⟨67, _⟩ => ⟨S_, .f32⟩
  | .hbm, ⟨68, _⟩ => ⟨S2x8192x2048, .f32⟩
  | .hbm, ⟨69, _⟩ => ⟨S2x8192x2048, .f32⟩
  | .hbm, ⟨70, _⟩ => ⟨S_, .f32⟩
  | .hbm, ⟨71, _⟩ => ⟨S2x8192x2048, .f32⟩
  | .hbm, ⟨72, _⟩ => ⟨S2x8192x2048, .f32⟩
  | .hbm, ⟨73, _⟩ => ⟨S2x8192x2048, .f32⟩
  | .hbm, ⟨74, _⟩ => ⟨S2x8192x2048, .f32⟩
  | .hbm, ⟨75, _⟩ => ⟨S2x8192x2048, .f32⟩
  | .hbm, ⟨76, _⟩ => ⟨S16384x2048, .f32⟩
  | .hbm, ⟨77, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Proof.Spec.lean ====
/- What one point of the neighbourhood attention computes, as plain functions of the blocks it reads, over any number
   format `F`: the scores of a block of queries, their softmax numerators, the gated values, and the whole output block. -/
module

public import proofs.«01_k».proof.Proof.Gen.KernelIdeal.Skeleton
public import Idealize.ShloMosaic.Lib.VecWindow
public import Idealize.ShloMosaic.Lib.Pointwise

@[expose] public section

set_option maxRecDepth 16384

noncomputable section

namespace Cert.KernelIdeal.Na

open Idealize.ShloMosaic Idealize.ShloMosaic.TcCoe
open Cert.KernelIdeal.Gen

variable {F : FTy → Type} [FloatOps F] [Named F]

/-- The block of queries a score step works on: past the last block, the last one again. -/
def blk (n : ℕ) : ℕ := min n 15
/-- The first grid row of keys a block of queries sees. -/
def kst (n : ℕ) : ℕ := min 112 (8 * blk n - 4)
/-- Which of the three bias tables a block of queries takes: first block, inner block, last block. -/
def cse (n : ℕ) : ℕ := if blk n = 0 then 0 else if blk n = 15 then 2 else 1

theorem blk_le (n : ℕ) : blk n ≤ 15 := by unfold blk; omega
theorem kst_le (n : ℕ) : kst n ≤ 112 := by unfold kst; omega
theorem cse_le (n : ℕ) : cse n ≤ 2 := by unfold cse; split <;> [omega; (split <;> omega)]

theorem qwin_inb (n : ℕ) : ∀ a, (![0, 512 * blk n, 0] : Fin 3 → ℕ) a + S1x512x128.size a ≤ S1x8192x128.size a := by
  have := blk_le n
  intro a; fin_cases a
  · show 0 + 1 ≤ 1; omega
  · show 512 * blk n + 512 ≤ 8192; omega
  · show 0 + 128 ≤ 128; omega
theorem kwin_inb (n : ℕ) : ∀ a, (![0, 64 * kst n, 0] : Fin 3 → ℕ) a + S1x1024x128.size a ≤ S1x8192x128.size a := by
  have := kst_le n
  intro a; fin_cases a
  · show 0 + 1 ≤ 1; omega
  · show 64 * kst n + 1024 ≤ 8192; omega
  · show 0 + 128 ≤ 128; omega
theorem vwin_inb (n : ℕ) : ∀ a, (![64 * kst n, 0] : Fin 2 → ℕ) a + S1024x256.size a ≤ S8192x256.size a := by
  have := kst_le n
  intro a; fin_cases a
  · show 64 * kst n + 1024 ≤ 8192; omega
  · show 0 + 256 ≤ 256; omega
theorem bwin_inb (n : ℕ) : ∀ a, (![cse n, 0, 0] : Fin 3 → ℕ) a + S1x512x1024.size a ≤ S3x512x1024.size a := by
  have := cse_le n
  intro a; fin_cases a
  · show cse n + 1 ≤ 3; omega
  · show 0 + 512 ≤ 512; omega
  · show 0 + 1024 ≤ 1024; omega
theorem row_inb (g : ℕ) (hg : g < 16) : ∀ a, (![32 * g, 0] : Fin 2 → ℕ) a + S32x1280.size a ≤ S512x1280.size a := by
  intro a; fin_cases a
  · show 32 * g + 32 ≤ 512; omega
  · show 0 + 1280 ≤ 1280; omega
theorem pc_inb : ∀ a, (![0, 0] : Fin 2 → ℕ) a + S512x256.size a ≤ S512x1280.size a := by decide
theorem pl_inb : ∀ a, (![0, 256] : Fin 2 → ℕ) a + S512x1024.size a ≤ S512x1280.size a := by decide

/-- The rows of queries (or of the gate) of block `n`. -/
def qwin (Q : Vec F S1x8192x128 .bf16) (n : ℕ) : Vec F S1x512x128 .bf16 := VecWindow.window Q ![0, 512 * blk n, 0] S1x512x128.size (qwin_inb n)
/-- The rows of keys block `n` sees. -/
def kwin (K : Vec F S1x8192x128 .bf16) (n : ℕ) : Vec F S1x1024x128 .bf16 := VecWindow.window K ![0, 64 * kst n, 0] S1x1024x128.size (kwin_inb n)
/-- The rows of values (with their columns of ones) block `n` sees. -/
def vwin (V : Vec F S8192x256 .bf16) (n : ℕ) : Vec F S1024x256 .bf16 := VecWindow.window V ![64 * kst n, 0] S1024x256.size (vwin_inb n)
/-- The bias table of block `n`. -/
def bwin (B : Vec F S3x512x1024 .f32) (n : ℕ) : Vec F S1x512x1024 .f32 := VecWindow.window B ![cse n, 0, 0] S1x512x1024.size (bwin_inb n)
/-- Softmax group `g`: 32 rows of scores. -/
def grp (s : Vec F S512x1280 .f32) (g : ℕ) (hg : g < 16) : Vec F S32x1280 .f32 := VecWindow.window s ![32 * g, 0] S32x1280.size (row_inb g hg)

/-- Scores of block `n` against the context keys. -/
def scC (Q : Vec F S1x8192x128 .bf16) (Kc : Vec F S1x256x128 .bf16) (n : ℕ) : Vec F S512x256 .f32 := k0_pay147 (qwin Q n) Kc
/-- Scores of block `n` against its keys, bias added. -/
def scL (Q K : Vec F S1x8192x128 .bf16) (B : Vec F S3x512x1024 .f32) (n : ℕ) : Vec F S512x1024 .f32 := k0_pay148 (qwin Q n) (kwin K n) (bwin B n)

/-- The scores of block `n`: 256 context columns, then 1024 columns of keys. -/
def sc (Q K : Vec F S1x8192x128 .bf16) (Kc : Vec F S1x256x128 .bf16) (B : Vec F S3x512x1024 .f32) (n : ℕ) : Vec F S512x1280 .f32 := fun y =>
  if h : (y 1).val < 256 then scC Q Kc n (ix2 (y 0) ⟨(y 1).val, h⟩)
  else scL Q K B n (ix2 (y 0) ⟨(y 1).val - 256, by have h' : (y 1).val < 1280 := (y 1).isLt; omega⟩)

/-- The softmax numerators, 32 rows at a time. -/
def sm (s : Vec F S512x1280 .f32) : Vec F S512x1280 .bf16 := fun y =>
  k0_pay93 (grp s ((y 0).val / 32) (by have h : (y 0).val < 512 := (y 0).isLt; omega)) (ix2 ⟨(y 0).val % 32, Nat.mod_lt _ (by decide)⟩ (y 1))

/-- The gated output rows of block `n` from its numerators `P`. -/
def val (G : Vec F S1x8192x128 .bf16) (V : Vec F S8192x256 .bf16) (Vc : Vec F S256x256 .bf16) (P : Vec F S512x1280 .bf16) (n : ℕ) : Vec F S1x512x128 .bf16 :=
  k0_pay118 (k0_pay116 (VecWindow.window P ![0, 0] S512x256.size pc_inb) Vc (VecWindow.window P ![0, 256] S512x1024.size pl_inb) (vwin V n))
    (k0_pay117 (VecWindow.window P ![0, 0] S512x256.size pc_inb) Vc (VecWindow.window P ![0, 256] S512x1024.size pl_inb) (vwin V n)) (qwin G n)

/-- The output block of one point. -/
def out (Q G K : Vec F S1x8192x128 .bf16) (Kc : Vec F S1x256x128 .bf16) (V : Vec F S8192x256 .bf16) (Vc : Vec F S256x256 .bf16) (B : Vec F S3x512x1024 .f32) :
    Vec F S1x8192x128 .bf16 := fun y =>
  val G V Vc (sm (sc Q K Kc B ((y 1).val / 512))) ((y 1).val / 512) (ix3 0 ⟨(y 1).val % 512, Nat.mod_lt _ (by decide)⟩ (y 2))

/-! ## Pieces of these functions -/

/-- A group of softmax numerators is the piece of `sm` over its rows. -/
theorem sm_piece (s : Vec F S512x1280 .f32) (g : ℕ) (hg : g < 16) (w : Vec F S32x1280 .f32) (hw : w = grp s g hg)
    (inb : ∀ a, (![32 * g, 0] : Fin 2 → ℕ) a + S32x1280.size a ≤ S512x1280.size a) (x : S32x1280.Idx) :
    k0_pay93 w x = sm s ((Rect.unit (s := S512x1280) ![32 * g, 0] S32x1280.size inb).emb x) := by
  subst hw
  have h0 : (x 0).val < 32 := (x 0).isLt
  have e0 : (((Rect.unit (s := S512x1280) ![32 * g, 0] S32x1280.size inb).emb x) 0).val = 32 * g + (x 0).val := by
    show 32 * g + 1 * (x 0).val = _; omega
  have e1 : ((Rect.unit (s := S512x1280) ![32 * g, 0] S32x1280.size inb).emb x) 1 = x 1 := Fin.ext (by show 0 + 1 * (x 1).val = _; omega)
  have hd : (32 * g + (x 0).val) / 32 = g := by omega
  have hm : (32 * g + (x 0).val) % 32 = (x 0).val := by omega
  unfold sm
  have hx : x = ix2 (x 0) (x 1) := eq_ix2 x
  have key : ∀ (g' : ℕ) (h' : g' < 16) (r : Fin 32) (c : Fin 1280), g' = g → r = x 0 → c = x 1 → k0_pay93 (grp s g hg) x = k0_pay93 (grp s g' h') (ix2 r c) := by
    intro g' h' r c a b d; subst a b d; exact congrArg _ hx
  exact key _ _ _ _ (by rw [e0]; exact hd) (Fin.ext (by show _ % 32 = _; rw [e0]; exact hm)) e1

/-- The context scores are the piece of `sc` over the first 256 columns. -/
theorem sc_piece_ctx (Q K : Vec F S1x8192x128 .bf16) (Kc : Vec F S1x256x128 .bf16) (B : Vec F S3x512x1024 .f32) (n : ℕ)
    (w : Vec F S512x256 .f32) (hw : w = scC Q Kc n)
    (inb : ∀ a, (![0, 0] : Fin 2 → ℕ) a + S512x256.size a ≤ S512x1280.size a) (x : S512x256.Idx) :
    w x = sc Q K Kc B n ((Rect.unit (s := S512x1280) ![0, 0] S512x256.size inb).emb x) := by
  subst hw
  have h1 : (x 1).val < 256 := (x 1).isLt
  have e0 : ((Rect.unit (s := S512x1280) ![0, 0] S512x256.size inb).emb x) 0 = x 0 := Fin.ext (by show 0 + 1 * (x 0).val = _; omega)
  have e1 : (((Rect.unit (s := S512x1280) ![0, 0] S512x256.size inb).emb x) 1).val = (x 1).val := by show 0 + 1 * (x 1).val = _; omega
  unfold sc
  rw [dif_pos (by rw [e1]; exact h1)]
  refine congrArg _ ((eq_ix2 x).trans ?_)
  have key : ∀ (r : Fin 512) (c : Fin 256), r = x 0 → c = x 1 → (ix2 (x 0) (x 1) : S512x256.Idx) = ix2 r c := by
    intro r c a b; subst a b; rfl
  exact key _ _ e0 (Fin.ext e1)

/-- The scores against keys are the piece of `sc` over the other 1024 columns. -/
theorem sc_piece_lat (Q K : Vec F S1x8192x128 .bf16) (Kc : Vec F S1x256x128 .bf16) (B : Vec F S3x512x1024 .f32) (n : ℕ)
    (w : Vec F S512x1024 .f32) (hw : w = scL Q K B n)
    (inb : ∀ a, (![0, 256] : Fin 2 → ℕ) a + S512x1024.size a ≤ S512x1280.size a) (x : S512x1024.Idx) :
    w x = sc Q K Kc B n ((Rect.unit (s := S512x1280) ![0, 256] S512x1024.size inb).emb x) := by
  subst hw
  have h1 : (x 1).val < 1024 := (x 1).isLt
  have e0 : ((Rect.unit (s := S512x1280) ![0, 256] S512x1024.size inb).emb x) 0 = x 0 := Fin.ext (by show 0 + 1 * (x 0).val = _; omega)
  have e1 : (((Rect.unit (s := S512x1280) ![0, 256] S512x1024.size inb).emb x) 1).val = 256 + (x 1).val := by show 256 + 1 * (x 1).val = _; omega
  unfold sc
  rw [dif_neg (by rw [e1]; omega)]
  refine congrArg _ ((eq_ix2 x).trans ?_)
  have key : ∀ (r : Fin 512) (c : Fin 1024), r = x 0 → c = x 1 → (ix2 (x 0) (x 1) : S512x1024.Idx) = ix2 r c := by
    intro r c a b; subst a b; rfl
  exact key _ _ e0 (Fin.ext (by show _ - 256 = _; rw [e1]; omega))

/-- The values of block `n` are the piece of `out` over its rows. -/
theorem out_piece (Q G K : Vec F S1x8192x128 .bf16) (Kc : Vec F S1x256x128 .bf16) (V : Vec F S8192x256 .bf16) (Vc : Vec F S256x256 .bf16) (B : Vec F S3x512x1024 .f32)
    (n : ℕ) (off : Fin 3 → ℕ) (ho : off = ![0, 512 * n, 0]) (w : Vec F S1x512x128 .bf16) (hw : w = val G V Vc (sm (sc Q K Kc B n)) n)
    (inb : ∀ a, off a + S1x512x128.size a ≤ S1x8192x128.size a) (x : S1x512x128.Idx) :
    w x = out Q G K Kc V Vc B ((Rect.unit (s := S1x8192x128) off S1x512x128.size inb).emb x) := by
  subst hw ho
  have h1 : (x 1).val < 512 := (x 1).isLt
  have e1 : (((Rect.unit (s := S1x8192x128) ![0, 512 * n, 0] S1x512x128.size inb).emb x) 1).val = 512 * n + (x 1).val := by
    show 512 * n + 1 * (x 1).val = _; omega
  have e2 : ((Rect.unit (s := S1x8192x128) ![0, 512 * n, 0] S1x512x128.size inb).emb x) 2 = x 2 := Fin.ext (by show 0 + 1 * (x 2).val = _; omega)
  have hd : (512 * n + (x 1).val) / 512 = n := by omega
  have hm : (512 * n + (x 1).val) % 512 = (x 1).val := by omega
  unfold out
  have hx : x = ix3 (0 : Fin 1) (x 1) (x 2) := (eq_ix3 x).trans (by
    have h0 : x 0 = (0 : Fin 1) := Subsingleton.elim (α := Fin 1) _ _
    rw [h0]; rfl)
  have key : ∀ (n' : ℕ) (r : Fin 512) (c : Fin 128), n' = n → r = x 1 → c = x 2 →
      val G V Vc (sm (sc Q K Kc B n)) n x = val G V Vc (sm (sc Q K Kc B n')) n' (ix3 (0 : Fin 1) r c) := by
    intro n' r c a b d; subst a b d; exact congrArg _ hx
  exact key _ _ _ (by rw [e1]; exact hd) (Fin.ext (by show _ % 512 = _; rw [e1]; exact hm)) e2

end Cert.KernelIdeal.Na

end
-- ==== Proof.Trip.lean ====
/- What one trip of the attention's counted loop leaves in the buffers it writes, and, by induction, what the loop leaves:
   before trip `k` the second score buffer holds the scores of block `2 k + 1`, the first numerator buffer those of block
   `2 k`, and the output rows of the blocks before `2 k` are final. -/
module

public import proofs.«01_k».proof.Proof.Gen.KernelIdeal.Loops
public import proofs.«01_k».proof.Proof.Spec
public import Idealize.ShloMosaic.Lib.Pipeline.Value
public import Idealize.ShloMosaic.Lib.Ring

@[expose] public section

set_option maxRecDepth 16384

noncomputable section

namespace Cert.KernelIdeal.Na

open Idealize.ShloMosaic Idealize.ShloMosaic.TcCoe Idealize.ShloMosaic.Tactic
open Idealize.SL.Sem
open Cert.KernelIdeal.Gen

variable {F : FTy → Type} [FloatOps F] [Named F]

theorem trips_eq : k0_t1_loop.trips = 8 := by decide +kernel
theorem off2_eq : ∀ r : Fin 2, k0_off2 (BitVec.ofNat 32 r.val) = ![0, 64 * kst r.val, 0] := by decide +kernel
theorem off4_eq : ∀ k : Fin k0_t1_loop.trips, k0_off4 k = ![64 * kst (2 * k.val), 0] := by decide +kernel
theorem off9_eq : ∀ k : Fin k0_t1_loop.trips, k0_off9 k = ![64 * kst (2 * k.val + 1), 0] := by decide +kernel
theorem off6_eq : ∀ k : Fin k0_t1_loop.trips, ∀ r : Fin 2, k0_off6 k (BitVec.ofNat 32 (2 + r.val)) = ![0, 512 * blk (2 * k.val + 2 + r.val), 0] := by decide +kernel
theorem off7_eq : ∀ k : Fin k0_t1_loop.trips, ∀ r : Fin 2, k0_off7 k (BitVec.ofNat 32 (2 + r.val)) = ![0, 64 * kst (2 * k.val + 2 + r.val), 0] := by decide +kernel
theorem off8_eq : ∀ k : Fin k0_t1_loop.trips, ∀ r : Fin 2, k0_off8 k (BitVec.ofNat 32 (2 + r.val)) = ![cse (2 * k.val + 2 + r.val), 0, 0] := by decide +kernel
theorem off5_eq : ∀ k : Fin k0_t1_loop.trips, k0_off5 k = ![0, 512 * blk (2 * k.val), 0] := by decide +kernel
theorem off10_eq : ∀ k : Fin k0_t1_loop.trips, k0_off10 k = ![0, 512 * blk (2 * k.val + 1), 0] := by decide +kernel

/-! ## Buffers filled piece by piece -/

/-- A buffer whose pieces all agree with `G` where they lie and cover it reads `G`. -/
theorem read_of_pieces {sp : Space} {s : Shape} {e : EltTy} (v : View sig .tc sp s e) (f : v.ty.Contents (Elt F)) (L : List (View.Piece (Elt F) s e)) (G : s.Idx → Elt F e)
    (hG : ∀ p ∈ L, ∀ x, p.2 x = G (p.1.emb x)) (hc : ∀ y, ∃ p ∈ L, y ∈ p.1.set) : v.read (Elt F) (v.writes (Elt F) f L) = G :=
  funext fun y => v.read_writes_apply_of_pieces f G L hG y (hc y)

/-- A load through a box of such a buffer reads the window of `G` there. -/
theorem readCov_of_pieces {sp : Space} {s : Shape} {e : EltTy} (v : View sig .tc sp s e) (L : List (View.Piece (Elt F) s e)) (G : s.Idx → Elt F e)
    (hG : ∀ p ∈ L, ∀ x, p.2 x = G (p.1.emb x)) (hc : ∀ y, ∃ p ∈ L, y ∈ p.1.set)
    (off size : Fin s.rank → ℕ) (inb : ∀ a, off a + size a ≤ s.size a) :
    v.readCov L (Rect.unit off size inb).toLoadRect = VecWindow.window G off size inb := by
  rw [View.readCov_eq_canon']
  funext j
  exact View.canon_apply_of_pieces G L hG _ (hc _)

/-! ## The loads of a block -/

theorem read_q {m : Memref sig .tc .vmem S1x8192x128 .bf16} {X : m.view.ty.Contents (Elt F)} {Q : Vec F S1x8192x128 .bf16} {n : ℕ} {off : Fin 3 → ℕ}
    (hQ : m.view.read (Elt F) X = Q) (h : off = ![0, 512 * blk n, 0]) (inb) :
    m.view.readAt (Elt F) (Rect.unit (s := S1x8192x128) off S1x512x128.size inb).toLoadRect X = qwin Q n := by subst hQ h; rfl
theorem read_k {m : Memref sig .tc .vmem S1x8192x128 .bf16} {X : m.view.ty.Contents (Elt F)} {K : Vec F S1x8192x128 .bf16} {n : ℕ} {off : Fin 3 → ℕ}
    (hK : m.view.read (Elt F) X = K) (h : off = ![0, 64 * kst n, 0]) (inb) :
    m.view.readAt (Elt F) (Rect.unit (s := S1x8192x128) off S1x1024x128.size inb).toLoadRect X = kwin K n := by subst hK h; rfl
theorem read_b {m : Memref sig .tc .vmem S3x512x1024 .f32} {X : m.view.ty.Contents (Elt F)} {B : Vec F S3x512x1024 .f32} {n : ℕ} {off : Fin 3 → ℕ}
    (hB : m.view.read (Elt F) X = B) (h : off = ![cse n, 0, 0]) (inb) :
    m.view.readAt (Elt F) (Rect.unit (s := S3x512x1024) off S1x512x1024.size inb).toLoadRect X = bwin B n := by subst hB h; rfl
theorem read_v {m : Memref sig .tc .vmem S8192x256 .bf16} {X : m.view.ty.Contents (Elt F)} {V : Vec F S8192x256 .bf16} {n : ℕ} {off : Fin 2 → ℕ}
    (hV : m.view.read (Elt F) X = V) (h : off = ![64 * kst n, 0]) (inb) :
    m.view.readAt (Elt F) (Rect.unit (s := S8192x256) off S1024x256.size inb).toLoadRect X = vwin V n := by subst hV h; rfl
theorem read_kc {m : Memref sig .tc .vmem S1x256x128 .bf16} {X : m.view.ty.Contents (Elt F)} {Kc : Vec F S1x256x128 .bf16} {off : Fin 3 → ℕ}
    (hKc : m.view.read (Elt F) X = Kc) (inb) :
    m.view.readAt (Elt F) (Rect.unit (s := S1x256x128) off S1x256x128.size inb).toLoadRect X = Kc := by subst hKc; exact View.readAt_full _ _ _
theorem read_vc {m : Memref sig .tc .vmem S256x256 .bf16} {X : m.view.ty.Contents (Elt F)} {Vc : Vec F S256x256 .bf16} {off : Fin 2 → ℕ}
    (hVc : m.view.read (Elt F) X = Vc) (inb) :
    m.view.readAt (Elt F) (Rect.unit (s := S256x256) off S256x256.size inb).toLoadRect X = Vc := by subst hVc; exact View.readAt_full _ _ _

theorem scL_of {Q K : Vec F S1x8192x128 .bf16} {B : Vec F S3x512x1024 .f32} {n : ℕ} {q : Vec F S1x512x128 .bf16} {kw : Vec F S1x1024x128 .bf16} {bw : Vec F S1x512x1024 .f32}
    (hq : q = qwin Q n) (hk : kw = kwin K n) (hb : bw = bwin B n) : k0_pay148 q kw bw = scL Q K B n := by subst hq hk hb; rfl
theorem scC_of {Q : Vec F S1x8192x128 .bf16} {Kc : Vec F S1x256x128 .bf16} {n : ℕ} {q : Vec F S1x512x128 .bf16} {kc : Vec F S1x256x128 .bf16}
    (hq : q = qwin Q n) (hk : kc = Kc) : k0_pay147 q kc = scC Q Kc n := by subst hq hk; rfl

theorem val_of {G : Vec F S1x8192x128 .bf16} {V : Vec F S8192x256 .bf16} {Vc : Vec F S256x256 .bf16} {P : Vec F S512x1280 .bf16} {n : ℕ}
    {pc : Vec F S512x256 .bf16} {pl : Vec F S512x1024 .bf16} {vc : Vec F S256x256 .bf16} {vl : Vec F S1024x256 .bf16} {g : Vec F S1x512x128 .bf16}
    (hpc : pc = VecWindow.window P ![0, 0] S512x256.size pc_inb) (hpl : pl = VecWindow.window P ![0, 256] S512x1024.size pl_inb) (hvc : vc = Vc) (hvl : vl = vwin V n) (hg : g = qwin G n) :
    k0_pay118 (k0_pay116 pc vc pl vl) (k0_pay117 pc vc pl vl) g = val G V Vc P n := by subst hpc hpl hvc hvl hg; rfl

section
variable (𝒱 : Variants) (c : Dev nD) (bd : Option 𝒱.V) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x15x64x64 .f32) (harg8 : arg8.IsWhole) (arg9 : Memref sig .tc .vmem S1x8192x128 .bf16) (harg9 : arg9.IsWhole) (arg10 : Memref sig .tc .vmem S8192x256 .bf16) (harg10 : arg10.IsWhole) (arg11 : Memref sig .tc .vmem S256x256 .bf16) (harg11 : arg11.IsWhole) (arg12 : Memref sig .tc .vmem S3x512x1024 .f32) (harg12 : arg12.IsWhole) (arg13 : Memref sig .tc .vmem S512x1280 .f32) (harg13 : arg13.IsWhole) (arg14 : Memref sig .tc .vmem S512x1280 .f32) (harg14 : arg14.IsWhole) (arg15 : Memref sig .tc .vmem S512x1280 .bf16) (harg15 : arg15.IsWhole) (arg16 : Memref sig .tc .vmem S512x1280 .bf16) (harg16 : arg16.IsWhole)
  (X_arg2 : arg2.view.ty.Contents (Elt F)) (X_arg3 : arg3.view.ty.Contents (Elt F)) (X_arg4 : arg4.view.ty.Contents (Elt F)) (X_arg6 : arg6.view.ty.Contents (Elt F)) (X_arg10 : arg10.view.ty.Contents (Elt F)) (X_arg11 : arg11.view.ty.Contents (Elt F)) (X_arg12 : arg12.view.ty.Contents (Elt F))
  (Q G K : Vec F S1x8192x128 .bf16) (Kc : Vec F S1x256x128 .bf16) (V : Vec F S8192x256 .bf16) (Vc : Vec F S256x256 .bf16) (B : Vec F S3x512x1024 .f32)

/-- One trip's pieces, at the contents it finds. -/
abbrev tripL (k : Fin k0_t1_loop.trips) (f_arg9 : arg9.view.ty.Contents (Elt F)) (f_arg13 : arg13.view.ty.Contents (Elt F)) (f_arg14 : arg14.view.ty.Contents (Elt F)) (f_arg15 : arg15.view.ty.Contents (Elt F)) (f_arg16 : arg16.view.ty.Contents (Elt F)) :=
  tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg6 X_arg10 X_arg11 X_arg12 k f_arg9 f_arg13 f_arg14 f_arg15 f_arg16

/-- The trip's second score buffer ends holding the scores of block `2 k + 3`. -/
theorem trip_s1 (hQ : arg2.view.read (Elt F) X_arg2 = Q) (hK : arg4.view.read (Elt F) X_arg4 = K) (hKc : arg6.view.read (Elt F) X_arg6 = Kc)
    (hB : arg12.view.read (Elt F) X_arg12 = B) (k : Fin k0_t1_loop.trips) (f9 f13 f14 f15 f16) (f : arg14.view.ty.Contents (Elt F)) :
    arg14.view.read (Elt F) (arg14.view.writes (Elt F) f (tripL 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg6 X_arg10 X_arg11 X_arg12 k f9 f13 f14 f15 f16).2.2.1)
      = sc Q K Kc B (2 * k.val + 3) := by
  unfold tripL tripL_k0_t1 trip_k0_t1
  dsimp only
  refine read_of_pieces _ _ _ _ ?_ (View.cover_of_tiledBy _ ![512, 256] (by sl_kernel_rfl))
  simp only [List.forall_mem_cons, List.not_mem_nil, false_imp_iff, implies_true, and_true]
  exact ⟨fun x => sc_piece_lat Q K Kc B _ _ (scL_of (read_q hQ (off6_eq k 1) _) (read_k hK (off7_eq k 1) _) (read_b hB (off8_eq k 1) _)) _ x,
    fun x => sc_piece_ctx Q K Kc B _ _ (scC_of (read_q hQ (off6_eq k 1) _) (read_kc hKc _)) _ x⟩

/-- The pieces of the trip's first score buffer, read back in a box: the scores of block `2 k + 2`. -/
theorem trip_s0 (hQ : arg2.view.read (Elt F) X_arg2 = Q) (hK : arg4.view.read (Elt F) X_arg4 = K) (hKc : arg6.view.read (Elt F) X_arg6 = Kc)
    (hB : arg12.view.read (Elt F) X_arg12 = B) (k : Fin k0_t1_loop.trips) (g : ℕ) (hg : g < 16) (inb) :
    arg13.view.readCov (trip_k0_t1.sl.HW_arg13_2 (F := F) arg2 arg4 arg6 arg12 X_arg2 X_arg4 X_arg6 X_arg12 k) (Rect.unit (s := S512x1280) ![32 * g, 0] S32x1280.size inb).toLoadRect
      = grp (sc Q K Kc B (2 * k.val + 2)) g hg := by
  refine readCov_of_pieces _ _ (sc Q K Kc B (2 * k.val + 2)) ?_ (View.cover_of_tiledBy _ ![512, 256] (by sl_kernel_rfl)) _ _ inb
  unfold trip_k0_t1.sl.HW_arg13_2
  simp only [List.forall_mem_cons, List.not_mem_nil, false_imp_iff, implies_true, and_true]
  exact ⟨fun x => sc_piece_lat Q K Kc B _ _ (scL_of (read_q hQ (off6_eq k 0) _) (read_k hK (off7_eq k 0) _) (read_b hB (off8_eq k 0) _)) _ x,
    fun x => sc_piece_ctx Q K Kc B _ _ (scC_of (read_q hQ (off6_eq k 0) _) (read_kc hKc _)) _ x⟩

/-- The trip's first numerator buffer ends holding the numerators of block `2 k + 2`. -/
theorem trip_p0 (hQ : arg2.view.read (Elt F) X_arg2 = Q) (hK : arg4.view.read (Elt F) X_arg4 = K) (hKc : arg6.view.read (Elt F) X_arg6 = Kc)
    (hB : arg12.view.read (Elt F) X_arg12 = B) (k : Fin k0_t1_loop.trips) (f9 f13 f14 f15 f16) (f : arg15.view.ty.Contents (Elt F)) :
    arg15.view.read (Elt F) (arg15.view.writes (Elt F) f (tripL 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg6 X_arg10 X_arg11 X_arg12 k f9 f13 f14 f15 f16).2.2.2.1)
      = sm (sc Q K Kc B (2 * k.val + 2)) := by
  unfold tripL tripL_k0_t1 trip_k0_t1
  dsimp only
  refine read_of_pieces _ _ _ _ ?_ (View.cover_of_tiledBy _ ![32, 1280] (by sl_kernel_rfl))
  have h := trip_s0 arg2 arg4 arg6 arg12 arg13 X_arg2 X_arg4 X_arg6 X_arg12 Q K Kc B hQ hK hKc hB k
  simp only [List.forall_mem_cons, List.not_mem_nil, false_imp_iff, implies_true, and_true]
  exact ⟨sm_piece _ 15 (by decide) _ (h 15 _ _) _, sm_piece _ 14 (by decide) _ (h 14 _ _) _, sm_piece _ 13 (by decide) _ (h 13 _ _) _, sm_piece _ 12 (by decide) _ (h 12 _ _) _,
    sm_piece _ 11 (by decide) _ (h 11 _ _) _, sm_piece _ 10 (by decide) _ (h 10 _ _) _, sm_piece _ 9 (by decide) _ (h 9 _ _) _, sm_piece _ 8 (by decide) _ (h 8 _ _) _,
    sm_piece _ 7 (by decide) _ (h 7 _ _) _, sm_piece _ 6 (by decide) _ (h 6 _ _) _, sm_piece _ 5 (by decide) _ (h 5 _ _) _, sm_piece _ 4 (by decide) _ (h 4 _ _) _,
    sm_piece _ 3 (by decide) _ (h 3 _ _) _, sm_piece _ 2 (by decide) _ (h 2 _ _) _, sm_piece _ 1 (by decide) _ (h 1 _ _) _, sm_piece _ 0 (by decide) _ (h 0 _ _) _⟩

/-- The pieces of the trip's second numerator buffer, read back in a box, are the numerators of the scores found. -/
theorem trip_p1 (f14 : arg14.view.ty.Contents (Elt F)) (S : Vec F S512x1280 .f32) (hS : arg14.view.read (Elt F) f14 = S)
    (off size : Fin 2 → ℕ) (inb : ∀ a, off a + size a ≤ S512x1280.size a) :
    arg16.view.readCov (trip_k0_t1.sl.HW_arg16_16 (F := F) arg14 f14) (Rect.unit (s := S512x1280) off size inb).toLoadRect = VecWindow.window (sm S) off size inb := by
  refine readCov_of_pieces _ _ (sm S) ?_ (View.cover_of_tiledBy _ ![32, 1280] (by sl_kernel_rfl)) _ _ inb
  unfold trip_k0_t1.sl.HW_arg16_16
  have h : ∀ (g : ℕ) (hg : g < 16) (inb), arg14.view.readAt (Elt F) (Rect.unit (s := S512x1280) ![32 * g, 0] S32x1280.size inb).toLoadRect f14 = grp S g hg := by
    intro g hg inb; subst hS; rfl
  simp only [List.forall_mem_cons, List.not_mem_nil, false_imp_iff, implies_true, and_true]
  exact ⟨sm_piece _ 15 (by decide) _ (h 15 _ _) _, sm_piece _ 14 (by decide) _ (h 14 _ _) _, sm_piece _ 13 (by decide) _ (h 13 _ _) _, sm_piece _ 12 (by decide) _ (h 12 _ _) _,
    sm_piece _ 11 (by decide) _ (h 11 _ _) _, sm_piece _ 10 (by decide) _ (h 10 _ _) _, sm_piece _ 9 (by decide) _ (h 9 _ _) _, sm_piece _ 8 (by decide) _ (h 8 _ _) _,
    sm_piece _ 7 (by decide) _ (h 7 _ _) _, sm_piece _ 6 (by decide) _ (h 6 _ _) _, sm_piece _ 5 (by decide) _ (h 5 _ _) _, sm_piece _ 4 (by decide) _ (h 4 _ _) _,
    sm_piece _ 3 (by decide) _ (h 3 _ _) _, sm_piece _ 2 (by decide) _ (h 2 _ _) _, sm_piece _ 1 (by decide) _ (h 1 _ _) _, sm_piece _ 0 (by decide) _ (h 0 _ _) _⟩

/-- The trip's output pieces: the values of blocks `2 k` and `2 k + 1`, and nothing else. -/
theorem trip_o (hG : arg3.view.read (Elt F) X_arg3 = G) (hV : arg10.view.read (Elt F) X_arg10 = V) (hVc : arg11.view.read (Elt F) X_arg11 = Vc)
    (k : Fin k0_t1_loop.trips) (f9 f13 f14 f15 f16) (h14 : arg14.view.read (Elt F) f14 = sc Q K Kc B (2 * k.val + 1)) (h15 : arg15.view.read (Elt F) f15 = sm (sc Q K Kc B (2 * k.val)))
    (f : arg9.view.ty.Contents (Elt F)) (hf : ∀ y : S1x8192x128.Idx, (y 1).val < 1024 * k.val → arg9.view.read (Elt F) f y = out Q G K Kc V Vc B y)
    (y : S1x8192x128.Idx) (hy : (y 1).val < 1024 * (k.val + 1)) :
    arg9.view.read (Elt F) (arg9.view.writes (Elt F) f (tripL 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg6 X_arg10 X_arg11 X_arg12 k f9 f13 f14 f15 f16).1) y
      = out Q G K Kc V Vc B y := by
  have hk : k.val < 8 := Nat.lt_of_lt_of_le k.isLt k0_t1_abs.2.1
  have e5 : k0_off5 k = ![0, 512 * (2 * k.val), 0] := (off5_eq k).trans (by rw [show blk (2 * k.val) = 2 * k.val from by unfold blk; omega])
  have e10 : k0_off10 k = ![0, 512 * (2 * k.val + 1), 0] := (off10_eq k).trans (by rw [show blk (2 * k.val + 1) = 2 * k.val + 1 from by unfold blk; omega])
  have y0 : (y 0).val < 1 := (y 0).isLt
  have y2 : (y 2).val < 128 := (y 2).isLt
  unfold tripL tripL_k0_t1 trip_k0_t1
  dsimp only
  by_cases hlo : (y 1).val < 1024 * k.val
  · rw [View.read_writes_apply_of_forall_not_mem]
    · exact hf y hlo
    · simp only [List.forall_mem_cons, List.not_mem_nil, false_imp_iff, implies_true, and_true]
      constructor
      · intro hm
        have h1 := Rect.mem_set_unit.mp hm 1
        rw [e10] at h1
        have : 512 * (2 * k.val + 1) ≤ (y 1).val := h1.1
        omega
      · intro hm
        have h1 := Rect.mem_set_unit.mp hm 1
        rw [e5] at h1
        have : 512 * (2 * k.val) ≤ (y 1).val := h1.1
        omega
  · refine View.read_writes_apply_of_pieces _ _ (out Q G K Kc V Vc B) _ ?_ y ?_
    · simp only [List.forall_mem_cons, List.not_mem_nil, false_imp_iff, implies_true, and_true]
      have hp1 := trip_p1 (F := F) arg14 arg16 f14 _ h14
      exact ⟨out_piece Q G K Kc V Vc B _ _ e10 _ (val_of (hp1 _ _ _) (hp1 _ _ _) (read_vc hVc _) (read_v hV (off9_eq k) _) (read_q hG (off10_eq k) _)) _,
        out_piece Q G K Kc V Vc B _ _ e5 _ (val_of (View.readAt_unit _ _ _ rfl _ |>.trans (by rw [h15])) (View.readAt_unit _ _ _ rfl _ |>.trans (by rw [h15])) (read_vc hVc _) (read_v hV (off4_eq k) _) (read_q hG (off5_eq k) _)) _⟩
    · by_cases hm : (y 1).val < 1024 * k.val + 512
      · refine ⟨_, List.mem_cons_of_mem _ List.mem_cons_self, (Rect.mem_set_unit (inb := k0_off5_inb k)).mpr ?_⟩
        rw [e5]
        intro a; fin_cases a
        · show 0 ≤ (y 0).val ∧ (y 0).val < 0 + 1; omega
        · show 512 * (2 * k.val) ≤ (y 1).val ∧ (y 1).val < 512 * (2 * k.val) + 512; omega
        · show 0 ≤ (y 2).val ∧ (y 2).val < 0 + 128; omega
      · refine ⟨_, List.mem_cons_self, (Rect.mem_set_unit (inb := k0_off10_inb k)).mpr ?_⟩
        rw [e10]
        intro a; fin_cases a
        · show 0 ≤ (y 0).val ∧ (y 0).val < 0 + 1; omega
        · show 512 * (2 * k.val + 1) ≤ (y 1).val ∧ (y 1).val < 512 * (2 * k.val + 1) + 512; omega
        · show 0 ≤ (y 2).val ∧ (y 2).val < 0 + 128; omega

/-- The pieces of the trips before `k`. -/
abbrev pbL (G_arg9 : arg9.view.ty.Contents (Elt F)) (G_arg13 : arg13.view.ty.Contents (Elt F)) (G_arg14 : arg14.view.ty.Contents (Elt F)) (G_arg15 : arg15.view.ty.Contents (Elt F)) (G_arg16 : arg16.view.ty.Contents (Elt F)) (k : ℕ) :=
  pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg6 X_arg10 X_arg11 X_arg12 G_arg9 G_arg13 G_arg14 G_arg15 G_arg16 k

/-- What the loop has left before trip `k`. -/
theorem loop_inv (hQ : arg2.view.read (Elt F) X_arg2 = Q) (hG : arg3.view.read (Elt F) X_arg3 = G) (hK : arg4.view.read (Elt F) X_arg4 = K)
    (hKc : arg6.view.read (Elt F) X_arg6 = Kc) (hV : arg10.view.read (Elt F) X_arg10 = V) (hVc : arg11.view.read (Elt F) X_arg11 = Vc) (hB : arg12.view.read (Elt F) X_arg12 = B)
    (G_arg9 : arg9.view.ty.Contents (Elt F)) (G_arg13 : arg13.view.ty.Contents (Elt F)) (G_arg14 : arg14.view.ty.Contents (Elt F)) (G_arg15 : arg15.view.ty.Contents (Elt F)) (G_arg16 : arg16.view.ty.Contents (Elt F))
    (h14 : arg14.view.read (Elt F) G_arg14 = sc Q K Kc B 1) (h15 : arg15.view.read (Elt F) G_arg15 = sm (sc Q K Kc B 0)) :
    ∀ k : ℕ, k ≤ k0_t1_loop.trips →
      let L := pbL 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg6 X_arg10 X_arg11 X_arg12 G_arg9 G_arg13 G_arg14 G_arg15 G_arg16 k
      arg14.view.read (Elt F) (arg14.view.writes (Elt F) G_arg14 L.2.2.1) = sc Q K Kc B (2 * k + 1)
        ∧ arg15.view.read (Elt F) (arg15.view.writes (Elt F) G_arg15 L.2.2.2.1) = sm (sc Q K Kc B (2 * k))
        ∧ ∀ y : S1x8192x128.Idx, (y 1).val < 1024 * k → arg9.view.read (Elt F) (arg9.view.writes (Elt F) G_arg9 L.1) y = out Q G K Kc V Vc B y
  | 0, _ => ⟨h14, h15, fun y hy => absurd hy (by omega)⟩
  | k + 1, hk => by
    obtain ⟨a, b, o⟩ := loop_inv hQ hG hK hKc hV hVc hB G_arg9 G_arg13 G_arg14 G_arg15 G_arg16 h14 h15 k (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg6 X_arg10 X_arg11 X_arg12 G_arg9 G_arg13 G_arg14 G_arg15 G_arg16 ⟨k, by omega⟩
    intro L
    have hL : L = _ := hs
    rw [hL]
    dsimp only
    rw [View.writes_append, View.writes_append, View.writes_append]
    exact ⟨trip_s1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg6 X_arg10 X_arg11 X_arg12 Q K Kc B hQ hK hKc hB ⟨k, by omega⟩ _ _ _ _ _ _,
      trip_p0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg6 X_arg10 X_arg11 X_arg12 Q K Kc B hQ hK hKc hB ⟨k, by omega⟩ _ _ _ _ _ _,
      fun y hy => trip_o 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg6 X_arg10 X_arg11 X_arg12 Q G K Kc V Vc B hG hV hVc ⟨k, by omega⟩ _ _ _ _ _ a b _ o y hy⟩

end

end Cert.KernelIdeal.Na

end
-- ==== Proof.Head.lean ====
/- The head of one point: the bias tables of the head made (at the head's first point), the columns of ones set (at the
   first point of all), the point's values and context values laid beside them, the first block of queries loaded.
   The three cases differ in which of the first two happen. -/
module

public import proofs.«01_k».proof.Proof.Trip
public import proofs.«01_k».proof.Proof.Gen.KernelIdeal.Frame

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-! ## The values and context values with their columns of ones -/

/-- The values beside their columns of ones. -/
def v1F (v : Vec F S1x8192x128 .bf16) : Vec F S8192x256 .bf16 := fun y =>
  if h : (y 1).val < 128 then v (ix3 0 (y 0) ⟨(y 1).val, h⟩) else Scalar.ofBits .bf16 0x3F80#16
/-- The context values beside theirs. -/
def vc1F (v : Vec F S1x256x128 .bf16) : Vec F S256x256 .bf16 := fun y =>
  if h : (y 1).val < 128 then v (ix3 0 (y 0) ⟨(y 1).val, h⟩) else Scalar.ofBits .bf16 0x3F80#16

/-- The stored values are the left piece. -/
theorem v1_left (v w : Vec F S1x8192x128 .bf16) (hw : w = v) (inb : ∀ a, (![0, 0] : Fin 2 → ℕ) a + S8192x128.size a ≤ S8192x256.size a) (x : S8192x128.Idx) :
    k0_pay144 w x = v1F v ((Rect.unit (s := S8192x256) ![0, 0] S8192x128.size inb).emb x) := by
  subst hw
  have h1 : (x 1).val < 128 := (x 1).isLt
  have e0 : ((Rect.unit (s := S8192x256) ![0, 0] S8192x128.size inb).emb x) 0 = x 0 := Fin.ext (by show 0 + 1 * (x 0).val = _; omega)
  have e1 : (((Rect.unit (s := S8192x256) ![0, 0] S8192x128.size inb).emb x) 1).val = (x 1).val := by show 0 + 1 * (x 1).val = _; omega
  unfold v1F
  rw [dif_pos (by rw [e1]; exact h1)]
  pointwise [k0_pay144]
  have key : ∀ (r : Fin 8192) (c : Fin 128), r = x 0 → c = x 1 → w (ix3 0 (x 0) (x 1)) = w (ix3 0 r c) := by
    intro r c a b; subst a b; rfl
  exact key _ _ e0 (Fin.ext e1)
theorem vc1_left (v w : Vec F S1x256x128 .bf16) (hw : w = v) (inb : ∀ a, (![0, 0] : Fin 2 → ℕ) a + S256x128.size a ≤ S256x256.size a) (x : S256x128.Idx) :
    k0_pay145 w x = vc1F v ((Rect.unit (s := S256x256) ![0, 0] S256x128.size inb).emb x) := by
  subst hw
  have h1 : (x 1).val < 128 := (x 1).isLt
  have e0 : ((Rect.unit (s := S256x256) ![0, 0] S256x128.size inb).emb x) 0 = x 0 := Fin.ext (by show 0 + 1 * (x 0).val = _; omega)
  have e1 : (((Rect.unit (s := S256x256) ![0, 0] S256x128.size inb).emb x) 1).val = (x 1).val := by show 0 + 1 * (x 1).val = _; omega
  unfold vc1F
  rw [dif_pos (by rw [e1]; exact h1)]
  pointwise [k0_pay145]
  have key : ∀ (r : Fin 256) (c : Fin 128), r = x 0 → c = x 1 → w (ix3 0 (x 0) (x 1)) = w (ix3 0 r c) := by
    intro r c a b; subst a b; rfl
  exact key _ _ e0 (Fin.ext e1)
/-- The ones are the right piece. -/
theorem v1_right (v : Vec F S1x8192x128 .bf16) (inb : ∀ a, (![0, 128] : Fin 2 → ℕ) a + S8192x128.size a ≤ S8192x256.size a) (x : S8192x128.Idx) :
    k0_pay142 (F := F) x = v1F v ((Rect.unit (s := S8192x256) ![0, 128] S8192x128.size inb).emb x) := by
  have e1 : (((Rect.unit (s := S8192x256) ![0, 128] S8192x128.size inb).emb x) 1).val = 128 + (x 1).val := by show 128 + 1 * (x 1).val = _; omega
  unfold v1F
  rw [dif_neg (by rw [e1]; omega)]
  pointwise [k0_pay142]
theorem vc1_right (v : Vec F S1x256x128 .bf16) (inb : ∀ a, (![0, 128] : Fin 2 → ℕ) a + S256x128.size a ≤ S256x256.size a) (x : S256x128.Idx) :
    k0_pay143 (F := F) x = vc1F v ((Rect.unit (s := S256x256) ![0, 128] S256x128.size inb).emb x) := by
  have e1 : (((Rect.unit (s := S256x256) ![0, 128] S256x128.size inb).emb x) 1).val = 128 + (x 1).val := by show 128 + 1 * (x 1).val = _; omega
  unfold vc1F
  rw [dif_neg (by rw [e1]; omega)]
  pointwise [k0_pay143]

/-- Values laid over a buffer that holds other values beside the ones. -/
theorem v1_over (m : Memref sig .tc .vmem S8192x256 .bf16) (f : m.view.ty.Contents (Elt F)) (v v' w : Vec F S1x8192x128 .bf16) (hf : m.view.read (Elt F) f = v1F v') (hw : w = v) (inb) :
    m.view.read (Elt F) (m.view.writes (Elt F) f [⟨Rect.unit (s := S8192x256) ![0, 0] S8192x128.size inb, k0_pay144 w⟩]) = v1F v := by
  funext y
  by_cases hy : (y 1).val < 128
  · refine View.read_writes_apply_of_pieces _ _ (v1F v) _ ?_ y ⟨_, List.mem_cons_self, (Rect.mem_set_unit (inb := inb)).mpr ?_⟩
    · simp only [List.forall_mem_cons, List.not_mem_nil, false_imp_iff, implies_true, and_true]
      exact v1_left v w hw inb
    · have y0 : (y 0).val < 8192 := (y 0).isLt
      intro a; fin_cases a
      · show 0 ≤ (y 0).val ∧ (y 0).val < 0 + 8192; omega
      · show 0 ≤ (y 1).val ∧ (y 1).val < 0 + 128; omega
  · rw [View.read_writes_apply_of_forall_not_mem, hf]
    · unfold v1F; rw [dif_neg hy, dif_neg hy]
    · simp only [List.forall_mem_cons, List.not_mem_nil, false_imp_iff, implies_true, and_true]
      intro hm
      have h1 : (y 1).val < 0 + 128 := (Rect.mem_set_unit.mp hm 1).2
      omega
theorem vc1_over (m : Memref sig .tc .vmem S256x256 .bf16) (f : m.view.ty.Contents (Elt F)) (v v' w : Vec F S1x256x128 .bf16) (hf : m.view.read (Elt F) f = vc1F v') (hw : w = v) (inb) :
    m.view.read (Elt F) (m.view.writes (Elt F) f [⟨Rect.unit (s := S256x256) ![0, 0] S256x128.size inb, k0_pay145 w⟩]) = vc1F v := by
  funext y
  by_cases hy : (y 1).val < 128
  · refine View.read_writes_apply_of_pieces _ _ (vc1F v) _ ?_ y ⟨_, List.mem_cons_self, (Rect.mem_set_unit (inb := inb)).mpr ?_⟩
    · simp only [List.forall_mem_cons, List.not_mem_nil, false_imp_iff, implies_true, and_true]
      exact vc1_left v w hw inb
    · have y0 : (y 0).val < 256 := (y 0).isLt
      intro a; fin_cases a
      · show 0 ≤ (y 0).val ∧ (y 0).val < 0 + 256; omega
      · show 0 ≤ (y 1).val ∧ (y 1).val < 0 + 128; omega
  · rw [View.read_writes_apply_of_forall_not_mem, hf]
    · unfold vc1F; rw [dif_neg hy, dif_neg hy]
    · simp only [List.forall_mem_cons, List.not_mem_nil, false_imp_iff, implies_true, and_true]
      intro hm
      have h1 : (y 1).val < 0 + 128 := (Rect.mem_set_unit.mp hm 1).2
      omega

/-! ## The bias tables -/

/-- The first of the eight blocks row `qr` of case `cs` sees, and the row offset it stands for. -/
def blo (cs qr : ℕ) : ℕ := if cs = 0 then qr - 4 else if cs = 1 then qr else min (qr + 4) 8
def bdr (cs qr : ℕ) : ℕ := if cs = 0 then qr - 4 + 7 - qr else if cs = 1 then 3 else min (qr + 4) 8 - qr - 1
/-- The row offset of block `k`, where the row sees it. -/
def bIdx (cs qr k : ℕ) : Option (Fin 15) :=
  if h : blo cs qr ≤ k ∧ k < blo cs qr + 8 ∧ bdr cs qr + k - blo cs qr < 15 then some ⟨bdr cs qr + k - blo cs qr, h.2.2⟩ else none

theorem blk_inb (d : Fin 15) : ∀ a, (![0, d.val, 0, 0] : Fin 4 → ℕ) a + S1x1x64x64.size a ≤ S1x15x64x64.size a := by
  intro a; fin_cases a
  · show 0 + 1 ≤ 1; omega
  · show d.val + 1 ≤ 15; omega
  · show 0 + 64 ≤ 64; omega
  · show 0 + 64 ≤ 64; omega

/-- The block at a row offset, or the mask. -/
def blockV (C : Vec F S1x15x64x64 .f32) : Option (Fin 15) → FVec F S64x64 .f32
  | none => k0_pay2
  | some d => shapeCast S64x64 (VecWindow.window C ![0, d.val, 0, 0] S1x1x64x64.size (blk_inb d)) shapeCasts_S1x1x64x64_S64x64

/-- Sixteen blocks side by side. -/
def cat (bs : Fin 16 → FVec F S64x64 .f32) : FVec F S1x64x1024 .f32 :=
  shapeCast S1x64x1024 (concatenate S64x1024 1 [⟨S64x64, bs 0⟩, ⟨S64x64, bs 1⟩, ⟨S64x64, bs 2⟩, ⟨S64x64, bs 3⟩, ⟨S64x64, bs 4⟩, ⟨S64x64, bs 5⟩, ⟨S64x64, bs 6⟩, ⟨S64x64, bs 7⟩, ⟨S64x64, bs 8⟩, ⟨S64x64, bs 9⟩, ⟨S64x64, bs 10⟩, ⟨S64x64, bs 11⟩, ⟨S64x64, bs 12⟩, ⟨S64x64, bs 13⟩, ⟨S64x64, bs 14⟩, ⟨S64x64, bs 15⟩] concatenates_S64x64_S64x64_S64x64_S64x64_S64x64_S64x64_S64x64_S64x64_S64x64_S64x64_S64x64_S64x64_S64x64_S64x64_S64x64_S64x64_S64x1024_d1) shapeCasts_S64x1024_S1x64x1024

theorem lead_apply (x : FVec F S64x1024 .f32) (r : Fin 64) (c : Fin 1024) :
    shapeCast S1x64x1024 x shapeCasts_S64x1024_S1x64x1024 (ix3 0 r c) = x (ix2 r c) := by pointwise

theorem cat_apply (bs : Fin 16 → FVec F S64x64 .f32) (r : Fin 64) (k : Fin 16) (c : Fin 64) :
    cat bs (ix3 0 r ⟨64 * k.val + c.val, by omega⟩) = bs k (ix2 r c) := by
  unfold cat
  rw [lead_apply]
  exact concatenate_ofFn_apply (t := S64x1024) (s₁ := S64x64) 1 bs concatenates_S64x64_S64x64_S64x64_S64x64_S64x64_S64x64_S64x64_S64x64_S64x64_S64x64_S64x64_S64x64_S64x64_S64x64_S64x64_S64x64_S64x1024_d1 rfl 64 rfl _ k (by show (64 * k.val + c.val) / 64 = k.val; omega) _
    (by show c.val = (64 * k.val + c.val) % 64; omega) (by intro b hb; fin_cases b; · rfl
                                                           · exact absurd rfl hb)

/-- The strip of bias row `qr` of case `cs`. -/
def strip (C : Vec F S1x15x64x64 .f32) (cs qr : ℕ) : FVec F S1x64x1024 .f32 := cat fun k => blockV C (bIdx cs qr k.val)

/-- The three bias tables of one head. -/
def biasF (C : Vec F S1x15x64x64 .f32) : Vec F S3x512x1024 .f32 := fun y =>
  strip C (y 0).val ((y 1).val / 64) (ix3 0 ⟨(y 1).val % 64, Nat.mod_lt _ (by decide)⟩ (y 2))

theorem bias_piece (C : Vec F S1x15x64x64 .f32) (cs qr : ℕ) (w : FVec F S1x64x1024 .f32) (hw : w = strip C cs qr)
    (inb : ∀ a, (![cs, 64 * qr, 0] : Fin 3 → ℕ) a + S1x64x1024.size a ≤ S3x512x1024.size a) (x : S1x64x1024.Idx) :
    w x = biasF C ((Rect.unit (s := S3x512x1024) ![cs, 64 * qr, 0] S1x64x1024.size inb).emb x) := by
  subst hw
  have h0 : (x 0).val < 1 := (x 0).isLt
  have h1 : (x 1).val < 64 := (x 1).isLt
  have e0 : (((Rect.unit (s := S3x512x1024) ![cs, 64 * qr, 0] S1x64x1024.size inb).emb x) 0).val = cs := by
    show cs + 1 * (x 0).val = _; omega
  have e1 : (((Rect.unit (s := S3x512x1024) ![cs, 64 * qr, 0] S1x64x1024.size inb).emb x) 1).val = 64 * qr + (x 1).val := by
    show 64 * qr + 1 * (x 1).val = _; omega
  have e2 : ((Rect.unit (s := S3x512x1024) ![cs, 64 * qr, 0] S1x64x1024.size inb).emb x) 2 = x 2 := Fin.ext (by show 0 + 1 * (x 2).val = _; omega)
  have hd : (64 * qr + (x 1).val) / 64 = qr := by omega
  have hm : (64 * qr + (x 1).val) % 64 = (x 1).val := by omega
  unfold biasF
  have hx : x = ix3 (0 : Fin 1) (x 1) (x 2) := (eq_ix3 x).trans (by
    have h0 : x 0 = (0 : Fin 1) := Subsingleton.elim (α := Fin 1) _ _
    rw [h0]; rfl)
  have key : ∀ (a b : ℕ) (r : Fin 64) (c : Fin 1024), a = cs → b = qr → r = x 1 → c = x 2 → strip C cs qr x = strip C a b (ix3 (0 : Fin 1) r c) := by
    intro a b r c p q s t; subst p q s t; exact congrArg _ hx
  exact key _ _ _ _ e0 (by rw [e1]; exact hd) (Fin.ext (by show _ % 64 = _; rw [e1]; exact hm)) e2

/-! ## The three cases -/

/-- The point is the first of its head. -/
abbrev firstOfHead (i : grid0.Coords) : Prop := Scalar.cmpi .ne (Scalar.extui (Scalar.cmpi .eq (BitVec.ofNat 32 (i 1).val) 0#32)) 0#32 = 1#1
/-- The point is the first of all. -/
abbrev firstOfAll (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1

set_option maxHeartbeats 2000000 in
/-- The first point of all. -/
theorem head_A (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x15x64x64 .f32) (harg8 : arg8.IsWhole) (arg9 : Memref sig .tc .vmem S1x8192x128 .bf16) (harg9 : arg9.IsWhole) (arg10 : Memref sig .tc .vmem S8192x256 .bf16) (harg10 : arg10.IsWhole) (arg11 : Memref sig .tc .vmem S256x256 .bf16) (harg11 : arg11.IsWhole) (arg12 : Memref sig .tc .vmem S3x512x1024 .f32) (harg12 : arg12.IsWhole) (arg13 : Memref sig .tc .vmem S512x1280 .f32) (harg13 : arg13.IsWhole) (arg14 : Memref sig .tc .vmem S512x1280 .f32) (harg14 : arg14.IsWhole) (arg15 : Memref sig .tc .vmem S512x1280 .bf16) (harg15 : arg15.IsWhole) (arg16 : Memref sig .tc .vmem S512x1280 .bf16) (harg16 : arg16.IsWhole) (h1 : firstOfHead i) (h2 : firstOfAll i)
    (Q v : Vec F S1x8192x128 .bf16) (vc : Vec F S1x256x128 .bf16) (C : Vec F S1x15x64x64 .f32)
    (E : Set ℕ) (K' : _ → sProp 𝕄) :
    iprop((owns (c : Thread nD τ) arg2 fullShare Q ∗ owns (c : Thread nD τ) arg5 fullShare v ∗ owns (c : Thread nD τ) arg7 fullShare vc ∗ owns (c : Thread nD τ) arg8 fullShare C ∗ (∃ d, owns (c : Thread nD τ) arg10 fullShare d) ∗ (∃ d, owns (c : Thread nD τ) arg11 fullShare d) ∗ (∃ d, owns (c : Thread nD τ) arg12 fullShare d)) ∗ (∀ r, iprop(⌜r = ⟨0#32, 0#32, qwin Q 0⟩⌝ ∗ owns (c : Thread nD τ) arg2 fullShare Q ∗ owns (c : Thread nD τ) arg5 fullShare v ∗ owns (c : Thread nD τ) arg7 fullShare vc ∗ owns (c : Thread nD τ) arg8 fullShare C ∗ owns (c : Thread nD τ) arg10 fullShare (v1F v) ∗ owns (c : Thread nD τ) arg11 fullShare (vc1F vc) ∗ owns (c : Thread nD τ) arg12 fullShare (biasF C)) -∗ K' r))
      ⊢ wp frame (wpE (defs₀ (F := F)) Variants.none c none) E (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16) K' := by
  simp only [k0_part36_eq_skeleton]; unfold k0_part36_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part36_eq_skeleton]
  unfold owns
  iintro ⟨⟨⟨%f2, %hf2, H2⟩, ⟨%f5, %hf5, H5⟩, ⟨%f7, %hf7, H7⟩, ⟨%f8, %hf8, H8⟩, ⟨%d10, %f10, -, H10⟩, ⟨%d11, %f11, -, H11⟩, ⟨%d12, %f12, -, H12⟩⟩, Hk⟩
  subst hf2 hf5 hf7 hf8
  sl_exec (disch := first | sl_exact h1 | sl_exact h2)
  sl_step
  iapply Hk
  isplitr
  · ipureintro; rfl
  isplitl [H2]
  · iexists _; isplitr; swap; · iexact H2
    ipureintro; exact rfl
  isplitl [H5]
  · iexists _; isplitr; swap; · iexact H5
    ipureintro; exact rfl
  isplitl [H7]
  · iexists _; isplitr; swap; · iexact H7
    ipureintro; exact rfl
  isplitl [H8]
  · iexists _; isplitr; swap; · iexact H8
    ipureintro; exact rfl
  isplitl [H10]
  · iexists _; isplitr; swap; · iexact H10
    ipureintro; exact read_of_pieces _ _ _ _ (by simp only [List.forall_mem_cons, List.not_mem_nil, false_imp_iff, implies_true, and_true]; exact ⟨v1_left _ _ (View.readAt_full _ _ _) _, v1_right _ _⟩) (View.cover_of_tiledBy _ ![8192, 128] (by sl_kernel_rfl))
  isplitl [H11]
  · iexists _; isplitr; swap; · iexact H11
    ipureintro; exact read_of_pieces _ _ _ _ (by simp only [List.forall_mem_cons, List.not_mem_nil, false_imp_iff, implies_true, and_true]; exact ⟨vc1_left _ _ (View.readAt_full _ _ _) _, vc1_right _ _⟩) (View.cover_of_tiledBy _ ![256, 128] (by sl_kernel_rfl))
  iexists _; isplitr; swap; · iexact H12
  ipureintro
  refine read_of_pieces _ _ _ _ ?_ (View.cover_of_tiledBy _ ![1, 64, 1024] (by sl_kernel_rfl))

  simp only [List.forall_mem_cons, List.not_mem_nil, false_imp_iff, implies_true, and_true]
  exact ⟨bias_piece _ 2 7 _ (by rfl) _, bias_piece _ 2 6 _ (by rfl) _, bias_piece _ 2 5 _ (by rfl) _, bias_piece _ 2 4 _ (by rfl) _, bias_piece _ 2 3 _ (by rfl) _, bias_piece _ 2 2 _ (by rfl) _, bias_piece _ 2 1 _ (by rfl) _, bias_piece _ 2 0 _ (by rfl) _, bias_piece _ 1 7 _ (by rfl) _, bias_piece _ 1 6 _ (by rfl) _, bias_piece _ 1 5 _ (by rfl) _, bias_piece _ 1 4 _ (by rfl) _, bias_piece _ 1 3 _ (by rfl) _, bias_piece _ 1 2 _ (by rfl) _, bias_piece _ 1 1 _ (by rfl) _, bias_piece _ 1 0 _ (by rfl) _, bias_piece _ 0 7 _ (by rfl) _, bias_piece _ 0 6 _ (by rfl) _, bias_piece _ 0 5 _ (by rfl) _, bias_piece _ 0 4 _ (by rfl) _, bias_piece _ 0 3 _ (by rfl) _, bias_piece _ 0 2 _ (by rfl) _, bias_piece _ 0 1 _ (by rfl) _, bias_piece _ 0 0 _ (by rfl) _⟩

set_option maxHeartbeats 2000000 in
/-- The first point of a later head. -/
theorem head_B (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x15x64x64 .f32) (harg8 : arg8.IsWhole) (arg9 : Memref sig .tc .vmem S1x8192x128 .bf16) (harg9 : arg9.IsWhole) (arg10 : Memref sig .tc .vmem S8192x256 .bf16) (harg10 : arg10.IsWhole) (arg11 : Memref sig .tc .vmem S256x256 .bf16) (harg11 : arg11.IsWhole) (arg12 : Memref sig .tc .vmem S3x512x1024 .f32) (harg12 : arg12.IsWhole) (arg13 : Memref sig .tc .vmem S512x1280 .f32) (harg13 : arg13.IsWhole) (arg14 : Memref sig .tc .vmem S512x1280 .f32) (harg14 : arg14.IsWhole) (arg15 : Memref sig .tc .vmem S512x1280 .bf16) (harg15 : arg15.IsWhole) (arg16 : Memref sig .tc .vmem S512x1280 .bf16) (harg16 : arg16.IsWhole) (h1 : firstOfHead i) (h2 : ¬firstOfAll i)
    (Q v : Vec F S1x8192x128 .bf16) (vc : Vec F S1x256x128 .bf16) (C : Vec F S1x15x64x64 .f32) (v' : Vec F S1x8192x128 .bf16) (vc' : Vec F S1x256x128 .bf16)
    (E : Set ℕ) (K' : _ → sProp 𝕄) :
    iprop((owns (c : Thread nD τ) arg2 fullShare Q ∗ owns (c : Thread nD τ) arg5 fullShare v ∗ owns (c : Thread nD τ) arg7 fullShare vc ∗ owns (c : Thread nD τ) arg8 fullShare C ∗ owns (c : Thread nD τ) arg10 fullShare (v1F v') ∗ owns (c : Thread nD τ) arg11 fullShare (vc1F vc') ∗ (∃ d, owns (c : Thread nD τ) arg12 fullShare d)) ∗ (∀ r, iprop(⌜r = ⟨0#32, 0#32, qwin Q 0⟩⌝ ∗ owns (c : Thread nD τ) arg2 fullShare Q ∗ owns (c : Thread nD τ) arg5 fullShare v ∗ owns (c : Thread nD τ) arg7 fullShare vc ∗ owns (c : Thread nD τ) arg8 fullShare C ∗ owns (c : Thread nD τ) arg10 fullShare (v1F v) ∗ owns (c : Thread nD τ) arg11 fullShare (vc1F vc) ∗ owns (c : Thread nD τ) arg12 fullShare (biasF C)) -∗ K' r))
      ⊢ wp frame (wpE (defs₀ (F := F)) Variants.none c none) E (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16) K' := by
  simp only [k0_part36_eq_skeleton]; unfold k0_part36_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part36_eq_skeleton]
  unfold owns
  iintro ⟨⟨⟨%f2, %hf2, H2⟩, ⟨%f5, %hf5, H5⟩, ⟨%f7, %hf7, H7⟩, ⟨%f8, %hf8, H8⟩, ⟨%f10, %hf10, H10⟩, ⟨%f11, %hf11, H11⟩, ⟨%d12, %f12, -, H12⟩⟩, Hk⟩
  subst hf2 hf5 hf7 hf8
  sl_exec (disch := first | sl_exact h1 | sl_exact h2)
  sl_step
  iapply Hk
  isplitr
  · ipureintro; rfl
  isplitl [H2]
  · iexists _; isplitr; swap; · iexact H2
    ipureintro; exact rfl
  isplitl [H5]
  · iexists _; isplitr; swap; · iexact H5
    ipureintro; exact rfl
  isplitl [H7]
  · iexists _; isplitr; swap; · iexact H7
    ipureintro; exact rfl
  isplitl [H8]
  · iexists _; isplitr; swap; · iexact H8
    ipureintro; exact rfl
  isplitl [H10]
  · iexists _; isplitr; swap; · iexact H10
    ipureintro; exact v1_over _ _ _ _ _ hf10 (View.readAt_full _ _ _) _
  isplitl [H11]
  · iexists _; isplitr; swap; · iexact H11
    ipureintro; exact vc1_over _ _ _ _ _ hf11 (View.readAt_full _ _ _) _
  iexists _; isplitr; swap; · iexact H12
  ipureintro
  refine read_of_pieces _ _ _ _ ?_ (View.cover_of_tiledBy _ ![1, 64, 1024] (by sl_kernel_rfl))

  simp only [List.forall_mem_cons, List.not_mem_nil, false_imp_iff, implies_true, and_true]
  exact ⟨bias_piece _ 2 7 _ (by rfl) _, bias_piece _ 2 6 _ (by rfl) _, bias_piece _ 2 5 _ (by rfl) _, bias_piece _ 2 4 _ (by rfl) _, bias_piece _ 2 3 _ (by rfl) _, bias_piece _ 2 2 _ (by rfl) _, bias_piece _ 2 1 _ (by rfl) _, bias_piece _ 2 0 _ (by rfl) _, bias_piece _ 1 7 _ (by rfl) _, bias_piece _ 1 6 _ (by rfl) _, bias_piece _ 1 5 _ (by rfl) _, bias_piece _ 1 4 _ (by rfl) _, bias_piece _ 1 3 _ (by rfl) _, bias_piece _ 1 2 _ (by rfl) _, bias_piece _ 1 1 _ (by rfl) _, bias_piece _ 1 0 _ (by rfl) _, bias_piece _ 0 7 _ (by rfl) _, bias_piece _ 0 6 _ (by rfl) _, bias_piece _ 0 5 _ (by rfl) _, bias_piece _ 0 4 _ (by rfl) _, bias_piece _ 0 3 _ (by rfl) _, bias_piece _ 0 2 _ (by rfl) _, bias_piece _ 0 1 _ (by rfl) _, bias_piece _ 0 0 _ (by rfl) _⟩

set_option maxHeartbeats 2000000 in
/-- A later point of a head. -/
theorem head_C (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x15x64x64 .f32) (harg8 : arg8.IsWhole) (arg9 : Memref sig .tc .vmem S1x8192x128 .bf16) (harg9 : arg9.IsWhole) (arg10 : Memref sig .tc .vmem S8192x256 .bf16) (harg10 : arg10.IsWhole) (arg11 : Memref sig .tc .vmem S256x256 .bf16) (harg11 : arg11.IsWhole) (arg12 : Memref sig .tc .vmem S3x512x1024 .f32) (harg12 : arg12.IsWhole) (arg13 : Memref sig .tc .vmem S512x1280 .f32) (harg13 : arg13.IsWhole) (arg14 : Memref sig .tc .vmem S512x1280 .f32) (harg14 : arg14.IsWhole) (arg15 : Memref sig .tc .vmem S512x1280 .bf16) (harg15 : arg15.IsWhole) (arg16 : Memref sig .tc .vmem S512x1280 .bf16) (harg16 : arg16.IsWhole) (h1 : ¬firstOfHead i) (h2 : ¬firstOfAll i)
    (Q v : Vec F S1x8192x128 .bf16) (vc : Vec F S1x256x128 .bf16) (C : Vec F S1x15x64x64 .f32) (v' : Vec F S1x8192x128 .bf16) (vc' : Vec F S1x256x128 .bf16) (B : Vec F S3x512x1024 .f32)
    (E : Set ℕ) (K' : _ → sProp 𝕄) :
    iprop((owns (c : Thread nD τ) arg2 fullShare Q ∗ owns (c : Thread nD τ) arg5 fullShare v ∗ owns (c : Thread nD τ) arg7 fullShare vc ∗ owns (c : Thread nD τ) arg8 fullShare C ∗ owns (c : Thread nD τ) arg10 fullShare (v1F v') ∗ owns (c : Thread nD τ) arg11 fullShare (vc1F vc') ∗ owns (c : Thread nD τ) arg12 fullShare B) ∗ (∀ r, iprop(⌜r = ⟨0#32, 0#32, qwin Q 0⟩⌝ ∗ owns (c : Thread nD τ) arg2 fullShare Q ∗ owns (c : Thread nD τ) arg5 fullShare v ∗ owns (c : Thread nD τ) arg7 fullShare vc ∗ owns (c : Thread nD τ) arg8 fullShare C ∗ owns (c : Thread nD τ) arg10 fullShare (v1F v) ∗ owns (c : Thread nD τ) arg11 fullShare (vc1F vc) ∗ owns (c : Thread nD τ) arg12 fullShare B) -∗ K' r))
      ⊢ wp frame (wpE (defs₀ (F := F)) Variants.none c none) E (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16) K' := by
  simp only [k0_part36_eq_skeleton]; unfold k0_part36_skel
  simp only [k0_part36_eq_skeleton]
  unfold owns
  iintro ⟨⟨⟨%f2, %hf2, H2⟩, ⟨%f5, %hf5, H5⟩, ⟨%f7, %hf7, H7⟩, ⟨%f8, %hf8, H8⟩, ⟨%f10, %hf10, H10⟩, ⟨%f11, %hf11, H11⟩, ⟨%f12, %hf12, H12⟩⟩, Hk⟩
  subst hf2 hf5 hf7 hf8 hf12
  sl_exec (disch := first | sl_exact h1 | sl_exact h2)
  sl_step
  iapply Hk
  isplitr
  · ipureintro; rfl
  isplitl [H2]
  · iexists _; isplitr; swap; · iexact H2
    ipureintro; exact rfl
  isplitl [H5]
  · iexists _; isplitr; swap; · iexact H5
    ipureintro; exact rfl
  isplitl [H7]
  · iexists _; isplitr; swap; · iexact H7
    ipureintro; exact rfl
  isplitl [H8]
  · iexists _; isplitr; swap; · iexact H8
    ipureintro; exact rfl
  isplitl [H10]
  · iexists _; isplitr; swap; · iexact H10
    ipureintro; exact v1_over _ _ _ _ _ hf10 (View.readAt_full _ _ _) _
  isplitl [H11]
  · iexists _; isplitr; swap; · iexact H11
    ipureintro; exact vc1_over _ _ _ _ _ hf11 (View.readAt_full _ _ _) _
  iexists _; isplitr; swap; · iexact H12
  ipureintro; exact rfl

end Cert.KernelIdeal.Na

end
-- ==== Proof.Body.lean ====
/- The rest of one point: from what the head leaves, the first two blocks of scores, the first numerators, and the loop;
   it ends with the whole output block written (`run_of_head`). The three cases of a point follow. -/
module

public import proofs.«01_k».proof.Proof.Head
public import proofs.«01_k».proof.Proof.Gen.KernelIdeal.Frame

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 1000000 in
/-- A point, from what its head does. -/
theorem run_of_head (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x15x64x64 .f32) (harg8 : arg8.IsWhole) (arg9 : Memref sig .tc .vmem S1x8192x128 .bf16) (harg9 : arg9.IsWhole) (arg10 : Memref sig .tc .vmem S8192x256 .bf16) (harg10 : arg10.IsWhole) (arg11 : Memref sig .tc .vmem S256x256 .bf16) (harg11 : arg11.IsWhole) (arg12 : Memref sig .tc .vmem S3x512x1024 .f32) (harg12 : arg12.IsWhole) (arg13 : Memref sig .tc .vmem S512x1280 .f32) (harg13 : arg13.IsWhole) (arg14 : Memref sig .tc .vmem S512x1280 .f32) (harg14 : arg14.IsWhole) (arg15 : Memref sig .tc .vmem S512x1280 .bf16) (harg15 : arg15.IsWhole) (arg16 : Memref sig .tc .vmem S512x1280 .bf16) (harg16 : arg16.IsWhole)
    (Q G K v : Vec F S1x8192x128 .bf16) (Kc vc : Vec F S1x256x128 .bf16) (C : Vec F S1x15x64x64 .f32) (B : Vec F S3x512x1024 .f32) (P : sProp 𝕄) (E : Set ℕ)
    (hhead : ∀ K' : _ → sProp 𝕄, iprop(P ∗ (∀ r, iprop(⌜r = ⟨0#32, 0#32, qwin Q 0⟩⌝ ∗ owns (c : Thread nD τ) arg2 fullShare Q ∗ owns (c : Thread nD τ) arg5 fullShare v ∗ owns (c : Thread nD τ) arg7 fullShare vc ∗ owns (c : Thread nD τ) arg8 fullShare C ∗ owns (c : Thread nD τ) arg10 fullShare (v1F v) ∗ owns (c : Thread nD τ) arg11 fullShare (vc1F vc) ∗ owns (c : Thread nD τ) arg12 fullShare B) -∗ K' r))
      ⊢ wp frame (wpE (defs₀ (F := F)) Variants.none c none) E (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16) K')
    (K' : PUnit → sProp 𝕄) :
    iprop(P ∗ (owns (c : Thread nD τ) arg3 fullShare G ∗ owns (c : Thread nD τ) arg4 fullShare K ∗ owns (c : Thread nD τ) arg6 fullShare Kc ∗ (∃ d, owns (c : Thread nD τ) arg9 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) ∗ (iprop(owns (c : Thread nD τ) arg2 fullShare Q ∗ owns (c : Thread nD τ) arg3 fullShare G ∗ owns (c : Thread nD τ) arg4 fullShare K ∗ owns (c : Thread nD τ) arg5 fullShare v ∗ owns (c : Thread nD τ) arg6 fullShare Kc ∗ owns (c : Thread nD τ) arg7 fullShare vc ∗ owns (c : Thread nD τ) arg8 fullShare C ∗ owns (c : Thread nD τ) arg9 fullShare (out Q G K Kc (v1F v) (vc1F vc) B) ∗ owns (c : Thread nD τ) arg10 fullShare (v1F v) ∗ owns (c : Thread nD τ) arg11 fullShare (vc1F vc) ∗ owns (c : Thread nD τ) arg12 fullShare B ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K' ⟨⟩))
      ⊢ wp frame (wpE (defs₀ (F := F)) Variants.none c none) E (cc0_nbr_attention i arg2 harg2 arg3 harg3 arg4 harg4 arg5 harg5 arg6 harg6 arg7 harg7 arg8 harg8 arg9 harg9 arg10 harg10 arg11 harg11 arg12 harg12 arg13 harg13 arg14 harg14 arg15 harg15 arg16 harg16) K' := by
  simp only [cc0_nbr_attention_eq_skeleton]; unfold cc0_nbr_attention_skel
  simp only [k0_part37_eq_skeleton, k0_part38_eq_skeleton, k0_part39_eq_skeleton, k0_part40_eq_skeleton, k0_part41_eq_skeleton, k0_part42_eq_skeleton]
  rw [wp_bind]
  unfold owns at *
  iintro ⟨HP, ⟨⟨%f3, %hf3, H3⟩, ⟨%f4, %hf4, H4⟩, ⟨%f6, %hf6, H6⟩, ⟨%d9, %f9, -, H9⟩, ⟨%d13, %f13, -, H13⟩, ⟨%d14, %f14, -, H14⟩, ⟨%d15, %f15, -, H15⟩, ⟨%d16, %f16, -, H16⟩⟩, Hk⟩
  iapply hhead
  isplitl [HP]
  · iexact HP
  iintro %r ⟨%hr, ⟨%f2, %hf2, H2⟩, ⟨%f5, %hf5, H5⟩, ⟨%f7, %hf7, H7⟩, ⟨%f8, %hf8, H8⟩, ⟨%f10, %hf10, H10⟩, ⟨%f11, %hf11, H11⟩, ⟨%f12, %hf12, H12⟩⟩
  subst hr
  sl_exec
  have h13 : ∀ (g : ℕ) (hg : g < 16) (inb), arg13.view.readCov (run_of_head.sl.H13_2 c arg4 arg6 arg12 Q f4 f6 f12) (Rect.unit (s := S512x1280) ![32 * g, 0] S32x1280.size inb).toLoadRect = grp (sc Q K Kc B 0) g hg := by
    intro g hg inb
    refine readCov_of_pieces _ _ (sc Q K Kc B 0) ?_ (View.cover_of_tiledBy _ ![512, 256] (by sl_kernel_rfl)) _ _ inb
    unfold run_of_head.sl.H13_2
    simp only [List.forall_mem_cons, List.not_mem_nil, false_imp_iff, implies_true, and_true]

    exact ⟨fun x => sc_piece_lat Q K Kc B _ _ (scL_of rfl (read_k hf4 (off2_eq 0) _) (read_b (n := 0) hf12 rfl _)) _ x,
      fun x => sc_piece_ctx Q K Kc B _ _ (scC_of rfl (read_kc hf6 _)) _ x⟩
  have h14 : arg14.view.read (Elt F) (arg14.view.writes (Elt F) arg14.view.junk (run_of_head.sl.H14_2 c arg2 arg4 arg6 arg12 f4 f6 f2 f12)) = sc Q K Kc B 1 := by
    refine read_of_pieces _ _ _ _ ?_ (View.cover_of_tiledBy _ ![512, 256] (by sl_kernel_rfl))
    unfold run_of_head.sl.H14_2
    simp only [List.forall_mem_cons, List.not_mem_nil, false_imp_iff, implies_true, and_true]

    exact ⟨fun x => sc_piece_lat Q K Kc B _ _ (scL_of (read_q hf2 rfl _) (read_k hf4 (off2_eq 1) _) (read_b (n := 1) hf12 rfl _)) _ x,
      fun x => sc_piece_ctx Q K Kc B _ _ (scC_of (read_q (n := 1) hf2 rfl _) (read_kc hf6 _)) _ x⟩
  have h15 : arg15.view.read (Elt F) (arg15.view.writes (Elt F) arg15.view.junk (run_of_head.sl.H15_16 c arg4 arg6 arg12 arg13 Q f4 f6 f12)) = sm (sc Q K Kc B 0) := by
    refine read_of_pieces _ _ _ _ ?_ (View.cover_of_tiledBy _ ![32, 1280] (by sl_kernel_rfl))
    unfold run_of_head.sl.H15_16
    simp only [List.forall_mem_cons, List.not_mem_nil, false_imp_iff, implies_true, and_true]
    exact ⟨sm_piece _ 15 (by decide) _ (h13 15 _ _) _, sm_piece _ 14 (by decide) _ (h13 14 _ _) _, sm_piece _ 13 (by decide) _ (h13 13 _ _) _, sm_piece _ 12 (by decide) _ (h13 12 _ _) _, sm_piece _ 11 (by decide) _ (h13 11 _ _) _, sm_piece _ 10 (by decide) _ (h13 10 _ _) _, sm_piece _ 9 (by decide) _ (h13 9 _ _) _, sm_piece _ 8 (by decide) _ (h13 8 _ _) _, sm_piece _ 7 (by decide) _ (h13 7 _ _) _, sm_piece _ 6 (by decide) _ (h13 6 _ _) _, sm_piece _ 5 (by decide) _ (h13 5 _ _) _, sm_piece _ 4 (by decide) _ (h13 4 _ _) _, sm_piece _ 3 (by decide) _ (h13 3 _ _) _, sm_piece _ 2 (by decide) _ (h13 2 _ _) _, sm_piece _ 1 (by decide) _ (h13 1 _ _) _, sm_piece _ 0 (by decide) _ (h13 0 _ _) _⟩
  have hout : arg9.view.read (Elt F) (arg9.view.writes (Elt F) f9 (pbL Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f6 f10 f11 f12 f9
      (arg13.view.writes (Elt F) arg13.view.junk (run_of_head.sl.H13_2 c arg4 arg6 arg12 Q f4 f6 f12))
      (arg14.view.writes (Elt F) arg14.view.junk (run_of_head.sl.H14_2 c arg2 arg4 arg6 arg12 f4 f6 f2 f12))
      (arg15.view.writes (Elt F) arg15.view.junk (run_of_head.sl.H15_16 c arg4 arg6 arg12 arg13 Q f4 f6 f12)) f16 k0_t1_loop.trips).1) = out Q G K Kc (v1F v) (vc1F vc) B := by
    funext y
    refine (loop_inv Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f6 f10 f11 f12 Q G K Kc (v1F v) (vc1F vc) B hf2 hf3 hf4 hf6 hf10 hf11 hf12 f9 _ _ _ f16 h14 h15 k0_t1_loop.trips le_rfl).2.2 y ?_
    have hy : (y 1).val < 8192 := (y 1).isLt
    rw [trips_eq]; exact hy
  sl_step
  iapply Hk
  isplitl [H2]
  · iexists _; isplitr; swap; · iexact H2
    ipureintro; first | assumption | rfl
  isplitl [H3]
  · iexists _; isplitr; swap; · iexact H3
    ipureintro; first | assumption | rfl
  isplitl [H4]
  · iexists _; isplitr; swap; · iexact H4
    ipureintro; first | assumption | rfl
  isplitl [H5]
  · iexists _; isplitr; swap; · iexact H5
    ipureintro; first | assumption | rfl
  isplitl [H6]
  · iexists _; isplitr; swap; · iexact H6
    ipureintro; first | assumption | rfl
  isplitl [H7]
  · iexists _; isplitr; swap; · iexact H7
    ipureintro; first | assumption | rfl
  isplitl [H8]
  · iexists _; isplitr; swap; · iexact H8
    ipureintro; first | assumption | rfl
  isplitl [H9]
  · iexists _; isplitr; swap; · iexact H9
    ipureintro; exact hout
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end Cert.KernelIdeal.Na

end
-- ==== Proof.Launch.lean ====
/- The launch. Between two points of the grid the three arrays that the kernel carries (the two value arrays with
   their columns of ones, and the bias table of the head) hold what the point before left; at a point the body finds
   its blocks and leaves the output's block. From these the whole program's run (`run_main`): it ends, every counter
   at zero, the arguments unchanged, and every block of the output array at `outBlk`. -/
module

public import proofs.«01_k».proof.Proof.Body
public import Idealize.ShloMosaic.Lib.Claim
public import Idealize.ShloMosaic.Lib.Pipeline.ValueKit

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point is a head's first where its number is even. -/
theorem firstOfHead_iff (t : Fin cfg0.N) : firstOfHead (grid0.coords t) ↔ t.val % 2 = 0 := by
  have ht : t.val < 32 := Nat.lt_of_lt_of_eq t.isLt N_0
  have e1 : (grid0.coords t 1).val = t.val / 1 % 2 := Pipeline.Grid.coords_val t 1 (by decide) rfl
  simp only [firstOfHead, e1]
  word_cmp

/-- The first point of all is point 0. -/
theorem firstOfAll_iff (t : Fin cfg0.N) : firstOfAll (grid0.coords t) ↔ t.val = 0 := by
  have ht : t.val < 32 := Nat.lt_of_lt_of_eq t.isLt N_0
  have e0 : (grid0.coords t 0).val = t.val / 2 % 16 := Pipeline.Grid.coords_val t 0 (by decide) rfl
  have e1 : (grid0.coords t 1).val = t.val / 1 % 2 := Pipeline.Grid.coords_val t 1 (by decide) rfl
  simp only [firstOfAll, e0, e1]
  word_cmp

/-! ## The buffers of a point -/

abbrev win0 (t : Fin cfg0.N) : Memref sig .tc .vmem S1x8192x128 .bf16 := win0_0.stage (cfg0.slots t 0)
abbrev win1 (t : Fin cfg0.N) : Memref sig .tc .vmem S1x8192x128 .bf16 := win0_1.stage (cfg0.slots t 1)
abbrev win2 (t : Fin cfg0.N) : Memref sig .tc .vmem S1x8192x128 .bf16 := win0_2.stage (cfg0.slots t 2)
abbrev win3 (t : Fin cfg0.N) : Memref sig .tc .vmem S1x8192x128 .bf16 := win0_3.stage (cfg0.slots t 3)
abbrev win4 (t : Fin cfg0.N) : Memref sig .tc .vmem S1x256x128 .bf16 := win0_4.stage (cfg0.slots t 4)
abbrev win5 (t : Fin cfg0.N) : Memref sig .tc .vmem S1x256x128 .bf16 := win0_5.stage (cfg0.slots t 5)
abbrev win6 (t : Fin cfg0.N) : Memref sig .tc .vmem S1x15x64x64 .f32 := win0_6.stage (cfg0.slots t 6)
abbrev win7 (t : Fin cfg0.N) : Memref sig .tc .vmem S1x8192x128 .bf16 := win0_7.stage (cfg0.slots t 7)
abbrev scr0 : Memref sig .tc .vmem S8192x256 .bf16 := Memref.whole cc0_scratch0
abbrev scr1 : Memref sig .tc .vmem S256x256 .bf16 := Memref.whole cc0_scratch1
abbrev scr2 : Memref sig .tc .vmem S3x512x1024 .f32 := Memref.whole cc0_scratch2
abbrev scr3 : Memref sig .tc .vmem S512x1280 .f32 := Memref.whole cc0_scratch3
abbrev scr4 : Memref sig .tc .vmem S512x1280 .f32 := Memref.whole cc0_scratch4
abbrev scr5 : Memref sig .tc .vmem S512x1280 .bf16 := Memref.whole cc0_scratch5
abbrev scr6 : Memref sig .tc .vmem S512x1280 .bf16 := Memref.whole cc0_scratch6

/-- What the launch hands over: every buffer of the kernel's own at some contents, and the generator. -/
theorem launch_inv (c : Dev nD) : (Pipeline.ΦA spec0 c : sProp 𝕄)
    = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r)) := by
  unfold Pipeline.ΦA; rw [scopedRest0_eq]; simp only [scr0, scr1, scr2, scr3, scr4, scr5, scr6, owns_whole]; try rfl

/-- The output's block after point `t`. -/
def outBlk (c : Dev nD) (t : Fin cfg0.N) : Vec F S1x8192x128 .bf16 :=
  out (iblk m c 0 t) (iblk m c 1 t) (iblk m c 2 t) (iblk m c 4 t) (v1F (iblk m c 3 t)) (vc1F (iblk m c 5 t)) (biasF (iblk m c 6 t))

/-- What holds of the carried arrays after point `t`. -/
def carried (c : Dev nD) (t : Fin cfg0.N) : sProp 𝕄 :=
  iprop(iprop(owns (c : Thread nD τ) scr0 fullShare (v1F (iblk m c 3 t)) ∗ owns (c : Thread nD τ) scr1 fullShare (vc1F (iblk m c 5 t)) ∗ owns (c : Thread nD τ) scr2 fullShare (biasF (iblk m c 6 t)) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r))

/-- The invariant before point `n`. -/
def inv (c : Dev nD) : (n : ℕ) → n ≤ cfg0.N → sProp 𝕄
  | 0, _ => Pipeline.ΦA spec0 c
  | n + 1, hn => carried m c ⟨n, hn⟩

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) : inv m c n h = carried m c ⟨n - 1, by omega⟩ := by
  cases n with
  | zero => exact absurd rfl hz
  | succ n => rfl

/-- The pipeline's data: the inputs stay, the output's block is `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlk m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- The bias window's block is the head's. -/
theorem index6 : ∀ t : Fin grid0.N, win0_6.index t = ![(grid0.coords t 0).val, 0, 0, 0] := by
  decide +kernel

/-- At a head's second point the bias block is that of the point before. -/
theorem bias_stays (c : Dev nD) (t s : Fin cfg0.N) (h : ¬t.val % 2 = 0) (hs : s.val = t.val - 1) : iblk m c 6 s = iblk m c 6 t := by
  have ht : t.val < 32 := Nat.lt_of_lt_of_eq t.isLt N_0
  have e : grid0.coords s 0 = grid0.coords t 0 := Fin.ext (by
    have e0 : (grid0.coords t 0).val = t.val / 2 % 16 := Pipeline.Grid.coords_val t 0 (by decide) rfl
    have e1 : (grid0.coords s 0).val = s.val / 2 % 16 := Pipeline.Grid.coords_val s 0 (by decide) rfl
    rw [e0, e1, hs]; omega)
  have e2 : win0_6.index s = win0_6.index t := by rw [index6, index6, e]
  funext y
  refine congrArg (V m c (Pipeline.arrRef spec0 6)) (funext fun a => Fin.ext ?_)
  blk_simp
  rw [e2]

def bodyPre (c : Dev nD) (t : Fin cfg0.N) : sProp 𝕄 :=
  iprop((dats m 0 c).Φ t.castSucc ∗ (dats m 0 c).owesAt () t.castSucc
    ∗ (∃ d, owns (c : Thread nD τ) (win0 t) fullShare ((dats m 0 c).before 0 t d))
    ∗ (∃ d, owns (c : Thread nD τ) (win1 t) fullShare ((dats m 0 c).before 1 t d))
    ∗ (∃ d, owns (c : Thread nD τ) (win2 t) fullShare ((dats m 0 c).before 2 t d))
    ∗ (∃ d, owns (c : Thread nD τ) (win3 t) fullShare ((dats m 0 c).before 3 t d))
    ∗ (∃ d, owns (c : Thread nD τ) (win4 t) fullShare ((dats m 0 c).before 4 t d))
    ∗ (∃ d, owns (c : Thread nD τ) (win5 t) fullShare ((dats m 0 c).before 5 t d))
    ∗ (∃ d, owns (c : Thread nD τ) (win6 t) fullShare ((dats m 0 c).before 6 t d))
    ∗ (∃ d, owns (c : Thread nD τ) (win7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (win0 t) fullShare ((dats m 0 c).after 0 t)
    ∗ owns (c : Thread nD τ) (win1 t) fullShare ((dats m 0 c).after 1 t)
    ∗ owns (c : Thread nD τ) (win2 t) fullShare ((dats m 0 c).after 2 t)
    ∗ owns (c : Thread nD τ) (win3 t) fullShare ((dats m 0 c).after 3 t)
    ∗ owns (c : Thread nD τ) (win4 t) fullShare ((dats m 0 c).after 4 t)
    ∗ owns (c : Thread nD τ) (win5 t) fullShare ((dats m 0 c).after 5 t)
    ∗ owns (c : Thread nD τ) (win6 t) fullShare ((dats m 0 c).after 6 t)
    ∗ owns (c : Thread nD τ) (win7 t) fullShare ((dats m 0 c).after 7 t))

/-- The head's precondition at a point, from the invariant before it: the point's `P` of `run_of_head`. -/
def headPre (c : Dev nD) (t : Fin cfg0.N) (X : sProp 𝕄) : sProp 𝕄 :=
  iprop(owns (c : Thread nD τ) (win0 t) fullShare (iblk m c 0 t) ∗ owns (c : Thread nD τ) (win3 t) fullShare (iblk m c 3 t) ∗ owns (c : Thread nD τ) (win5 t) fullShare (iblk m c 5 t) ∗ owns (c : Thread nD τ) (win6 t) fullShare (iblk m c 6 t) ∗ X)

/-- The head at any point, from what the invariant says of the three carried arrays. -/
theorem head_point (c : Dev nD) (t : Fin cfg0.N) : ∃ X : sProp 𝕄,
    (inv m c t.val (Nat.le_of_lt t.isLt) ⊢ iprop(X ∗ iprop((∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r)))
    ∧ ∀ K' : _ → sProp 𝕄, iprop(headPre m c t X ∗ (∀ r, iprop(⌜r = ⟨0#32, 0#32, qwin (iblk m c 0 t) 0⟩⌝ ∗ owns (c : Thread nD τ) (win0 t) fullShare (iblk m c 0 t) ∗ owns (c : Thread nD τ) (win3 t) fullShare (iblk m c 3 t) ∗ owns (c : Thread nD τ) (win5 t) fullShare (iblk m c 5 t) ∗ owns (c : Thread nD τ) (win6 t) fullShare (iblk m c 6 t) ∗ owns (c : Thread nD τ) scr0 fullShare (v1F (iblk m c 3 t)) ∗ owns (c : Thread nD τ) scr1 fullShare (vc1F (iblk m c 5 t)) ∗ owns (c : Thread nD τ) scr2 fullShare (biasF (iblk m c 6 t))) -∗ K' r))
      ⊢ wp frame (wpE (defs₀ (F := F)) Variants.none c none) Set.univ (k0_part36 (grid0.coords t) (win0 t) (hstage0_0 ((cfg0.slots t 0).cast nbuf0_0)) (win1 t) (hstage0_1 ((cfg0.slots t 1).cast nbuf0_1)) (win2 t) (hstage0_2 ((cfg0.slots t 2).cast nbuf0_2)) (win3 t) (hstage0_3 ((cfg0.slots t 3).cast nbuf0_3)) (win4 t) (hstage0_4 ((cfg0.slots t 4).cast nbuf0_4)) (win5 t) (hstage0_5 ((cfg0.slots t 5).cast nbuf0_5)) (win6 t) (hstage0_6 ((cfg0.slots t 6).cast nbuf0_6)) (win7 t) (hstage0_7 ((cfg0.slots t 7).cast nbuf0_7)) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _)) K' := by
  by_cases hz : t.val = 0
  · refine ⟨iprop((∃ d, owns (c : Thread nD τ) scr0 fullShare d) ∗ (∃ d, owns (c : Thread nD τ) scr1 fullShare d) ∗ (∃ d, owns (c : Thread nD τ) scr2 fullShare d)), ?_, fun K' => ?_⟩
    · rw [inv_zero m c _ _ hz, launch_inv]
      iintro ⟨⟨H0, H1, H2, H3⟩, Hg⟩
      isplitl [H0 H1 H2]
      · isplitl [H0]; · iexact H0
        isplitl [H1]; · iexact H1
        iexact H2
      isplitl [H3]; · iexact H3
      iexact Hg
    · exact head_A c (grid0.coords t) _ _ _ _ _ _ _ _ _ _ _ _ _ _ _ _ _ _ _ _ _ _ _ _ _ _ _ _ _ _ ((firstOfHead_iff t).mpr (by omega)) ((firstOfAll_iff t).mpr hz) _ _ _ _ _ _
  · by_cases h0 : t.val % 2 = 0
    · refine ⟨iprop(owns (c : Thread nD τ) scr0 fullShare (v1F (iblk m c 3 ⟨t.val - 1, by omega⟩)) ∗ owns (c : Thread nD τ) scr1 fullShare (vc1F (iblk m c 5 ⟨t.val - 1, by omega⟩)) ∗ (∃ d, owns (c : Thread nD τ) scr2 fullShare d)), ?_, fun K' => ?_⟩
      · rw [inv_pos m c _ _ hz]; unfold carried
        iintro ⟨⟨H0, H1, H2, H3⟩, Hg⟩
        isplitl [H0 H1 H2]
        · isplitl [H0]; · iexact H0
          isplitl [H1]; · iexact H1
          iexists _; iexact H2
        isplitl [H3]; · iexact H3
        iexact Hg
      · exact head_B c (grid0.coords t) _ _ _ _ _ _ _ _ _ _ _ _ _ _ _ _ _ _ _ _ _ _ _ _ _ _ _ _ _ _ ((firstOfHead_iff t).mpr h0) (fun h => hz ((firstOfAll_iff t).mp h)) _ _ _ _ _ _ _ _
    · refine ⟨iprop(owns (c : Thread nD τ) scr0 fullShare (v1F (iblk m c 3 ⟨t.val - 1, by omega⟩)) ∗ owns (c : Thread nD τ) scr1 fullShare (vc1F (iblk m c 5 ⟨t.val - 1, by omega⟩)) ∗ owns (c : Thread nD τ) scr2 fullShare (biasF (iblk m c 6 t))), ?_, fun K' => ?_⟩
      · rw [inv_pos m c _ _ hz]; unfold carried
        rw [bias_stays m c t ⟨t.val - 1, by omega⟩ h0 rfl]
        iintro ⟨⟨H0, H1, H2, H3⟩, Hg⟩
        isplitl [H0 H1 H2]
        · isplitl [H0]; · iexact H0
          isplitl [H1]; · iexact H1
          iexact H2
        isplitl [H3]; · iexact H3
        iexact Hg
      · exact head_C c (grid0.coords t) _ _ _ _ _ _ _ _ _ _ _ _ _ _ _ _ _ _ _ _ _ _ _ _ _ _ _ _ _ _ (fun h => h0 ((firstOfHead_iff t).mp h)) (fun h => hz ((firstOfAll_iff t).mp h)) _ _ _ _ _ _ _ _ _

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7]
  rw [show (dats m 0 c).Φ t.succ = carried m c t from rfl, inv_castSucc m c t]
  obtain ⟨X, hX, hh⟩ := head_point m c t
  refine (sep_mono hX .rfl).trans ?_
  unfold carried
  iintro ⟨⟨HX, ⟨H13, H14, H15, H16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_of_head c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (biasF (iblk m c 6 t)) (headPre m c t X) Set.univ hh)
  isplitl [HX H0 H3 H5 H6]
  · unfold headPre
    isplitl [H0]; · iexact H0
    isplitl [H3]; · iexact H3
    isplitl [H5]; · iexact H5
    isplitl [H6]; · iexact H6
    iexact HX
  isplitl [H1 H2 H4 H7 H13 H14 H15 H16]
  · isplitl [H1]; · iexact H1
    isplitl [H2]; · iexact H2
    isplitl [H4]; · iexact H4
    isplitl [H7]; · iexists _; iexact H7
    isplitl [H13]; · iexact H13
    isplitl [H14]; · iexact H14
    isplitl [H15]; · iexact H15
    iexact H16
  iintro ⟨H0, H1, H2, H3, H4, H5, H6, H7, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold outBlk
  iexact H7

set_option maxHeartbeats 1000000 in
/-- The pipeline calls the body at the point's buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ (fun _ => false) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 32 := N_0; omega), launch_inv]
  unfold carried
  iintro ⟨⟨H0, H1, H2, H3⟩, Hg⟩
  isplitl [H0 H1 H2 H3]
  · isplitl [H0]; · iexists _; iexact H0
    isplitl [H1]; · iexists _; iexact H1
    isplitl [H2]; · iexists _; iexact H2
    iexact H3
  iexact Hg

set_option backward.isDefEq.respectTransparency.types false in
/-- The run: it ends, the arrays as `dats` says, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame at any float values: the arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Na

end
-- ==== Proof.Frames.lean ====
/- The frames: the kernel at both float values from one run, the reference from its straight-line run; and the named
   constant's statement. -/
module

public import proofs.«01_k».proof.Defs
public import proofs.«01_k».proof.Proof.Gen.Kernel
public import proofs.«01_k».proof.Proof.Launch
public import proofs.«01_k».proof.Proof.Gen.ReferenceIdeal.Run

@[expose] public section

set_option maxRecDepth 16384

noncomputable section

namespace Cert.Proof

open Idealize.ShloMosaic Idealize.SL.Sem

/-- The precondition's side conditions. -/
instance preFacts : Cert.Pre_scores_finite.Facts := by
  constructor <;> decide

/-- At the bit patterns a named constant is the pattern the kernel writes. -/
local instance namedBits : Named Bits where
  named _ _ {φ} bits := Scalar.ofBits φ bits

theorem frame_kernel_ideal : Cert.quiescent_KernelIdeal := fun m ρ _ => Cert.KernelIdeal.Na.frame_any (F := Ideal) m ρ

theorem frame_kernel_ideal_pre : Cert.quiescent_KernelIdeal_pre_scores_finite :=
  fun m ρ _ => Cert.KernelIdeal.Na.frame_any (F := Ideal) m ρ

set_option maxHeartbeats 2000000 in
/-- At the bit patterns the two kernel programs have the same body, label by label. -/
theorem bodies_eq : @Cert.Kernel.defs₀ Bits _ _ = @Cert.KernelIdeal.defs₀ Bits _ _ _ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_eq : @Cert.Kernel.defs Bits _ _ = @Cert.KernelIdeal.defs Bits _ _ _ :=
  congrArg (Pipeline.defs (Cert.KernelIdeal.pcfgs (F := Bits))) bodies_eq

set_option maxHeartbeats 2000000 in
theorem frame_kernel : Cert.quiescent_Kernel := fun m ρ _ => by
  rw [defs_eq]
  exact Cert.KernelIdeal.Na.frame_any (F := Bits) m ρ

/-- The reference ends, its arguments unchanged; it declares no counter. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m g)

theorem frame_reference : Cert.quiescent_ReferenceIdeal := fun m g _ => run_reference m g

theorem frame_reference_pre : Cert.quiescent_ReferenceIdeal_pre_scores_finite := fun m g _ => run_reference m g

theorem preserves : Cert.preserves_Kernel_KernelIdeal := IdealRules.named_const.statement _ _ _ _ _ rfl

end Cert.Proof

end
-- ==== Proof.Blocks.lean ====
/- The blocks a point reads, at coordinates of the arguments, and the result array from its blocks. -/
module

public import proofs.«01_k».proof.Proof.Launch

@[expose] public section

set_option maxRecDepth 16384

noncomputable section

namespace Cert.KernelIdeal.Na

open Idealize.ShloMosaic Idealize.ShloMosaic.TcCoe Idealize.ShloMosaic.Tactic
open Idealize.SL.Sem
open Cert.KernelIdeal.Gen

variable (m : (ℓ : Loc nD τ sig) → Buf (Elt Ideal) ℓ) (c : Dev nD)

theorem index0 : ∀ t : Fin grid0.N, win0_0.index t = ![t.val % 2, 0, t.val / 2] := by decide +kernel
theorem index1 : ∀ t : Fin grid0.N, win0_1.index t = ![t.val % 2, 0, 16 + t.val / 2] := by decide +kernel
theorem index2 : ∀ t : Fin grid0.N, win0_2.index t = ![t.val % 2, 0, 48 + t.val / 2] := by decide +kernel
theorem index3 : ∀ t : Fin grid0.N, win0_3.index t = ![t.val % 2, 0, 64 + t.val / 2] := by decide +kernel
theorem index4 : ∀ t : Fin grid0.N, win0_4.index t = ![t.val % 2, 0, 48 + t.val / 2] := by decide +kernel
theorem index5 : ∀ t : Fin grid0.N, win0_5.index t = ![t.val % 2, 0, 64 + t.val / 2] := by decide +kernel
theorem index6' : ∀ t : Fin grid0.N, win0_6.index t = ![t.val / 2, 0, 0, 0] := by decide +kernel
theorem index7 : ∀ t : Fin grid0.N, win0_7.index t = ![t.val % 2, 0, t.val / 2] := by decide +kernel

theorem lt32 (t : Fin cfg0.N) : t.val < 32 := Nat.lt_of_lt_of_eq t.isLt N_0

/-- The head and the image of a point. -/
def hd (t : Fin cfg0.N) : Fin 16 := ⟨t.val / 2, by have := lt32 t; omega⟩
def im (t : Fin cfg0.N) : Fin 2 := ⟨t.val % 2, by omega⟩

/-- The three arguments. -/
abbrev a0 : FVec Ideal S2x8192x14336 .bf16 := m ((c : Thread nD τ).loc main_arg0)
abbrev a1 : FVec Ideal S2x256x14336 .bf16 := m ((c : Thread nD τ).loc main_arg1)
abbrev a2 : FVec Ideal S16x15x64x64 .f32 := m ((c : Thread nD τ).loc main_arg2)

/-- The array of queries, gates, keys and values the launch reads: the queries scaled, the rest as given. -/
theorem V6_apply (b : Fin 2) (r : Fin 8192) (y : Fin 14336) :
    V m c main_v6 (ix3 b r y)
      = if y.val < 2048 then a0 m c (ix3 b r y) * Ideal.ofBits .f32 0x3DB504F3#32 else a0 m c (ix3 b r y) := by
  entry_read
  pointwise
  by_cases h : y.val < 2048
  · rw [dif_pos h, if_pos h]
  · rw [dif_neg h, if_neg h]
    refine congrArg (a0 m c) (congrArg (ix3 b r) (Fin.ext ?_))
    show 2048 + (y.val - 2048) = y.val
    omega

theorem V6_query (b : Fin 2) (r : Fin 8192) (y : Fin 14336) (h : y.val < 2048) :
    V m c main_v6 (ix3 b r y) = a0 m c (ix3 b r y) * Ideal.ofBits .f32 0x3DB504F3#32 :=
  (V6_apply m c b r y).trans (if_pos h)
theorem V6_other (b : Fin 2) (r : Fin 8192) (y : Fin 14336) (h : ¬ y.val < 2048) :
    V m c main_v6 (ix3 b r y) = a0 m c (ix3 b r y) :=
  (V6_apply m c b r y).trans (if_neg h)

theorem emb0 (t : Fin cfg0.N) (r : Fin 8192) (x : Fin 128) :
    (win0_0.blk t).view.emb (ix3 0 r x) = ix3 (im t) r ⟨128 * hd t + x, by omega⟩ := by
  have ht := lt32 t
  unfold im hd
  blk_ext [index0 t]

theorem iblk0_apply (t : Fin cfg0.N) (r : Fin 8192) (x : Fin 128) :
    iblk m c 0 t (ix3 0 r x) = a0 m c (ix3 (im t) r ⟨128 * hd t + x, by omega⟩) * Ideal.ofBits .f32 0x3DB504F3#32 := by
  refine (congrArg (V m c main_v6) (emb0 t r x)).trans ?_
  exact V6_query m c _ _ _ (by have := (hd t).2; simp only; omega)

theorem emb1 (t : Fin cfg0.N) (r : Fin 8192) (x : Fin 128) :
    (win0_1.blk t).view.emb (ix3 0 r x) = ix3 (im t) r ⟨2048 + (128 * hd t + x), by omega⟩ := by
  have ht := lt32 t
  unfold im hd
  blk_ext [index1 t]

theorem iblk1_apply (t : Fin cfg0.N) (r : Fin 8192) (x : Fin 128) :
    iblk m c 1 t (ix3 0 r x) = a0 m c (ix3 (im t) r ⟨2048 + (128 * hd t + x), by omega⟩) := by
  refine (congrArg (V m c main_v6) (emb1 t r x)).trans ?_
  exact V6_other m c _ _ _ (by have := (hd t).2; simp only; omega)

theorem emb2 (t : Fin cfg0.N) (r : Fin 8192) (x : Fin 128) :
    (win0_2.blk t).view.emb (ix3 0 r x) = ix3 (im t) r ⟨6144 + (128 * hd t + x), by omega⟩ := by
  have ht := lt32 t
  unfold im hd
  blk_ext [index2 t]

theorem iblk2_apply (t : Fin cfg0.N) (r : Fin 8192) (x : Fin 128) :
    iblk m c 2 t (ix3 0 r x) = a0 m c (ix3 (im t) r ⟨6144 + (128 * hd t + x), by omega⟩) := by
  refine (congrArg (V m c main_v6) (emb2 t r x)).trans ?_
  exact V6_other m c _ _ _ (by have := (hd t).2; simp only; omega)

theorem emb3 (t : Fin cfg0.N) (r : Fin 8192) (x : Fin 128) :
    (win0_3.blk t).view.emb (ix3 0 r x) = ix3 (im t) r ⟨8192 + (128 * hd t + x), by omega⟩ := by
  have ht := lt32 t
  unfold im hd
  blk_ext [index3 t]

theorem iblk3_apply (t : Fin cfg0.N) (r : Fin 8192) (x : Fin 128) :
    iblk m c 3 t (ix3 0 r x) = a0 m c (ix3 (im t) r ⟨8192 + (128 * hd t + x), by omega⟩) := by
  refine (congrArg (V m c main_v6) (emb3 t r x)).trans ?_
  exact V6_other m c _ _ _ (by have := (hd t).2; simp only; omega)

theorem iblk4_apply (t : Fin cfg0.N) (r : Fin 256) (x : Fin 128) :
    iblk m c 4 t (ix3 0 r x) = a1 m c (ix3 (im t) r ⟨6144 + (128 * hd t + x), by omega⟩) := by
  have ht := lt32 t
  unfold im hd
  blk_ext [iblk, V_main_arg1, index4 t]

theorem iblk5_apply (t : Fin cfg0.N) (r : Fin 256) (x : Fin 128) :
    iblk m c 5 t (ix3 0 r x) = a1 m c (ix3 (im t) r ⟨8192 + (128 * hd t + x), by omega⟩) := by
  have ht := lt32 t
  unfold im hd
  blk_ext [iblk, V_main_arg1, index5 t]

theorem iblk6_apply (t : Fin cfg0.N) (d : Fin 15) (r x : Fin 64) :
    iblk m c 6 t (ix4 0 d r x) = a2 m c (ix4 (hd t) d r x) := by
  have ht := lt32 t
  unfold hd
  blk_ext [iblk, V_main_arg2, index6' t]

theorem emb7 (t : Fin cfg0.N) (r : Fin 8192) (x : Fin 128) :
    (win0_7.blk t).view.emb (ix3 0 r x) = ix3 (im t) r ⟨128 * hd t + x, by omega⟩ := by
  have ht := lt32 t
  unfold im hd
  blk_ext [index7 t]

/-- The result array is `G` where every point's block is. -/
theorem final_eq (G : S2x8192x2048.Idx → EReal)
    (hG : ∀ (t : Fin cfg0.N) (r : Fin 8192) (d : Fin 128), outBlk m c t (ix3 0 r d) = G (ix3 (im t) r ⟨128 * hd t + d, by omega⟩)) :
    (dats m 0 c).arrAt 7 cfg0.N = G := by
  refine (dats m 0 c).arrAt_eq_of_covers 7 _ (by decide +kernel) fun t _ y => ?_
  blk_simp
  rw [after7]
  have hy : y = ix3 (0 : Fin 1) (y 1) (y 2) := (eq_ix3 y).trans (by
    have h0 : y 0 = (0 : Fin 1) := Subsingleton.elim (α := Fin 1) _ _
    rw [h0]; rfl)
  rw [hy]
  exact (hG t (y 1) (y 2)).trans (congrArg G (emb7 t (y 1) (y 2)).symm)

end Cert.KernelIdeal.Na

end
-- ==== Proof.Math.lean ====
/- Extended-real facts of one row of attention: a row's maximum, the sums over a window inside a longer row whose other
   scores are minus infinity, and the normalisation before and after the product with the values. -/
module

public import Idealize.ShloMosaic.PureOps.Ideal
public import Idealize.ShloMosaic.PureOps.Ideal.Laws
public import Idealize.ShloMosaic.Lib.IdealHost

@[expose] public section

noncomputable section

namespace Cert.Na

open Idealize.ShloMosaic

/-- Neither infinity. -/
def Fin' (x : EReal) : Prop := x ≠ ⊤ ∧ x ≠ ⊥

theorem Fin'.coe (r : ℝ) : Fin' (r : EReal) := ⟨EReal.coe_ne_top r, EReal.coe_ne_bot r⟩

theorem Fin'.exists {x : EReal} (h : Fin' x) : ∃ r : ℝ, x = r := ⟨x.toReal, (EReal.coe_toReal h.1 h.2).symm⟩

theorem Fin'.mul {x y : EReal} (hx : Fin' x) (hy : Fin' y) : Fin' (x * y) := by
  obtain ⟨a, rfl⟩ := hx.exists; obtain ⟨b, rfl⟩ := hy.exists
  rw [← EReal.coe_mul]; exact .coe _

theorem Fin'.add {x y : EReal} (hx : Fin' x) (hy : Fin' y) : Fin' (x + y) := by
  obtain ⟨a, rfl⟩ := hx.exists; obtain ⟨b, rfl⟩ := hy.exists
  rw [← EReal.coe_add]; exact .coe _

theorem Fin'.sum {ι : Type} (s : Finset ι) {f : ι → EReal} (h : ∀ i, Fin' (f i)) : Fin' (∑ i ∈ s, f i) := by
  classical
  induction s using Finset.induction_on with
  | empty => rw [Finset.sum_empty]; exact .coe 0
  | insert a s ha ih => rw [Finset.sum_insert ha]; exact (h a).add ih

/-- A product with a nonnegative real goes into a sum. -/
theorem sum_mul_real {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- What bounds a fold of `max` from minus infinity. -/
theorem fold_max_le_iff {ι : Type} [Fintype ι] (f : ι → EReal) (c : EReal) :
    (Finset.univ : Finset ι).fold max ⊥ f ≤ c ↔ ∀ i, f i ≤ c := by
  rw [Finset.fold_max_le]; simp

/-- The exponential of a difference from a real is a nonnegative real, if the first is not plus infinity. -/
theorem exp_sub_real {x : EReal} (hx : x ≠ ⊤) (M : ℝ) : ∃ r : ℝ, 0 ≤ r ∧ Ideal.exp (x - (M : EReal)) = r := by
  induction x using EReal.rec with
  | bot => exact ⟨0, le_refl _, by rw [EReal.bot_sub]; simp⟩
  | coe a => exact ⟨Real.exp (a - M), (Real.exp_pos _).le, by rw [← EReal.coe_sub, Ideal.exp_coe]⟩
  | top => exact absurd rfl hx

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One row of attention. The longer row `a, sl` (values `vc, vl`) has outside of `f`'s image only minus infinity; on the image it
    is the window `b` (values `vb`). Dividing the sum of the weighted values by the sum of the weights is the sum of the values
    weighted by the divided weights. -/
theorem row_eq {A B L : Type} [Fintype A] [Fintype B] [Fintype L] [Nonempty A] (a vc : A → EReal) (b vb : B → EReal)
    (sl vl : L → EReal) (f : B → L) (hf : Function.Injective f) (hs : ∀ i, sl (f i) = b i) (hv : ∀ i, vl (f i) = vb i)
    (hout : ∀ j, j ∉ Set.range f → sl j = ⊥) (ha : ∀ i, Fin' (a i)) (hb : ∀ i, b i ≠ ⊤) (M M' : EReal)
    (hM : ∀ c, M ≤ c ↔ (∀ i, a i ≤ c) ∧ ∀ j, sl j ≤ c) (hM' : ∀ c, M' ≤ c ↔ (∀ i, b i ≤ c) ∧ ∀ i, a i ≤ c) :
    ((∑ i, Ideal.exp (a i - M) * vc i) + ∑ j, Ideal.exp (sl j - M) * vl j)
        * Ideal.div 1 ((∑ i, Ideal.exp (a i - M) * 1) + ∑ j, Ideal.exp (sl j - M) * 1)
      = (∑ i, vb i * Ideal.div (Ideal.exp (b i - M')) ((∑ i, Ideal.exp (b i - M')) + ∑ i, Ideal.exp (a i - M')))
        + ∑ i, vc i * Ideal.div (Ideal.exp (a i - M')) ((∑ i, Ideal.exp (b i - M')) + ∑ i, Ideal.exp (a i - M')) := by
  classical
  have hMM : M = M' := by
    refine eq_of_forall_ge_iff fun c => ?_
    rw [hM, hM']
    refine ⟨fun h => ⟨fun i => hs i ▸ h.2 (f i), h.1⟩, fun h => ⟨h.2, fun j => ?_⟩⟩
    by_cases hj : j ∈ Set.range f
    · obtain ⟨i, rfl⟩ := hj; rw [hs]; exact h.1 i
    · rw [hout j hj]; exact bot_le
  subst hMM
  have hMt : M ≠ ⊤ := by
    have h1 : (Finset.univ.sup a) < ⊤ := (Finset.sup_lt_iff bot_lt_top).2 fun i _ => lt_top_iff_ne_top.2 (ha i).1
    have h2 : (Finset.univ.sup b) < ⊤ := (Finset.sup_lt_iff bot_lt_top).2 fun i _ => lt_top_iff_ne_top.2 (hb i)
    refine (lt_of_le_of_lt ((hM' (Finset.univ.sup b ⊔ Finset.univ.sup a)).2 ⟨fun i => ?_, fun i => ?_⟩) (max_lt h2 h1)).ne
    · exact le_sup_of_le_left (Finset.le_sup (Finset.mem_univ i))
    · exact le_sup_of_le_right (Finset.le_sup (Finset.mem_univ i))
  have hMb : M ≠ ⊥ := fun h => by
    obtain ⟨i⟩ := ‹Nonempty A›
    have := ((hM M).1 le_rfl).1 i
    rw [h, le_bot_iff] at this
    exact (ha i).2 this
  obtain ⟨m, rfl⟩ := Fin'.exists ⟨hMt, hMb⟩
  have hz : ∀ j, j ∉ Set.range f → Ideal.exp (sl j - (m : EReal)) = 0 := fun j hj => by
    rw [hout j hj, EReal.bot_sub]; rfl
  have e1 : ∑ j, Ideal.exp (sl j - (m : EReal)) * vl j = ∑ i, Ideal.exp (b i - (m : EReal)) * vb i :=
    (Fintype.sum_of_injective f hf _ _ (fun j hj => by rw [hz j hj, zero_mul]) fun i => by rw [hs, hv]).symm
  have e2 : ∑ j, Ideal.exp (sl j - (m : EReal)) * 1 = ∑ i, Ideal.exp (b i - (m : EReal)) :=
    (Fintype.sum_of_injective f hf _ _ (fun j hj => by rw [hz j hj, zero_mul]) fun i => by rw [hs, mul_one]).symm
  rw [e1, e2]
  simp only [mul_one]
  choose ra ha0 hra using fun i => exp_sub_real (ha i).1 m
  choose rb hb0 hrb using fun i => exp_sub_real (hb i) m
  have hapos : ∀ i, 0 < ra i := fun i => by
    obtain ⟨x, hx⟩ := (ha i).exists
    have h := hra i
    rw [hx, ← EReal.coe_sub, Ideal.exp_coe, EReal.coe_eq_coe_iff] at h
    rw [← h]; exact Real.exp_pos _
  have hL : (∑ i, Ideal.exp (b i - (m : EReal))) + ∑ i, Ideal.exp (a i - (m : EReal)) = ((∑ i, rb i + ∑ i, ra i : ℝ) : EReal) := by
    rw [EReal.coe_add, coe_sum, coe_sum]
    exact congrArg₂ (· + ·) (Finset.sum_congr rfl fun i _ => hrb i) (Finset.sum_congr rfl fun i _ => hra i)
  have hpos : 0 < ∑ i, rb i + ∑ i, ra i :=
    add_pos_of_nonneg_of_pos (Finset.sum_nonneg fun i _ => hb0 i)
      (Finset.sum_pos (fun i _ => hapos i) Finset.univ_nonempty)
  rw [add_comm (∑ i, Ideal.exp (a i - (m : EReal))) (∑ i, Ideal.exp (b i - (m : EReal))), hL]
  simp only [Ideal.div_coe hpos.ne', one_mul]
  have hc0 : (0 : EReal) ≤ ((1 / (∑ i, rb i + ∑ i, ra i) : ℝ) : EReal) := EReal.coe_nonneg.2 (one_div_pos.2 hpos).le
  have hct : ((1 / (∑ i, rb i + ∑ i, ra i) : ℝ) : EReal) ≠ ⊤ := EReal.coe_ne_top _
  generalize ((1 / (∑ i, rb i + ∑ i, ra i) : ℝ) : EReal) = c at hc0 hct
  rw [EReal.right_distrib_of_nonneg_of_ne_top hc0 hct, sum_mul_real _ _ hc0 hct, sum_mul_real _ _ hc0 hct, add_comm]
  refine congrArg₂ (· + ·) (Finset.sum_congr rfl fun i _ => ?_) (Finset.sum_congr rfl fun i _ => ?_)
  · rw [mul_comm (Ideal.exp _) (vb i), mul_assoc]
  · rw [mul_comm (Ideal.exp _) (vc i), mul_assoc]

/-- The scale is a nonnegative real. -/
theorem scale_real : 0 ≤ Ideal.ofBits .f32 0x3DB504F3#32 ∧ Fin' (Ideal.ofBits .f32 0x3DB504F3#32) := by
  have h : ∃ r : ℝ, 0 ≤ r ∧ Ideal.ofBits .f32 0x3DB504F3#32 = r := by
    refine ⟨11863283 / 134217728, by norm_num, ?_⟩
    simp [Ideal.ofBits, Ideal.ieee]
    rw [← EReal.coe_mul]
    norm_num
  obtain ⟨r, h0, h⟩ := h
  rw [h]
  exact ⟨EReal.coe_nonneg.2 h0, .coe r⟩

theorem ofBits_neg_inf : Ideal.ofBits .f32 0xFF800000#32 = ⊥ := by
  simp [Ideal.ofBits, Ideal.ieee]

theorem ofBits_inf_f32 : Ideal.ofBits .f32 0x7F800000#32 = ⊤ := by
  simp [Ideal.ofBits, Ideal.ieee]

theorem ofBits_inf_bf16 : Ideal.ofBits .bf16 0x7F80#16 = ⊤ := by
  simp [Ideal.ofBits, Ideal.ieee]

end Cert.Na

end
-- ==== Proof.KernelValue.lean ====
/- What the kernel's output block holds at an index: the attention of one query row, spelt over the blocks it reads. -/
module

public import proofs.«01_k».proof.Proof.Head
public import proofs.«01_k».proof.Proof.Math

@[expose] public section

set_option maxRecDepth 16384

noncomputable section

namespace Cert.KernelIdeal.Na

open Idealize.ShloMosaic Idealize.ShloMosaic.TcCoe
open Cert.KernelIdeal Cert.KernelIdeal.Gen Cert.Na Facts₀ Facts

local notation "VI" => Vec Ideal

theorem qwin_apply (Q : VI S1x8192x128 .bf16) (n : ℕ) (r : Fin 512) (x : Fin 128) :
    qwin Q n (ix3 0 r x) = Q (ix3 0 ⟨512 * blk n + r, by have := blk_le n; omega⟩ x) := by
  refine congrArg Q (funext fun a => ?_)
  match a with
  | ⟨0, _⟩ => rfl
  | ⟨1, _⟩ => exact Fin.ext (congrArg (_ + ·) (Nat.one_mul _))
  | ⟨2, _⟩ => exact Fin.ext ((Nat.zero_add _).trans (Nat.one_mul _))

theorem kwin_apply (K : VI S1x8192x128 .bf16) (n : ℕ) (r : Fin 1024) (x : Fin 128) :
    kwin K n (ix3 0 r x) = K (ix3 0 ⟨64 * kst n + r, by have := kst_le n; omega⟩ x) := by
  refine congrArg K (funext fun a => ?_)
  match a with
  | ⟨0, _⟩ => rfl
  | ⟨1, _⟩ => exact Fin.ext (congrArg (_ + ·) (Nat.one_mul _))
  | ⟨2, _⟩ => exact Fin.ext ((Nat.zero_add _).trans (Nat.one_mul _))

theorem vwin_apply (V : VI S8192x256 .bf16) (n : ℕ) (r : Fin 1024) (x : Fin 256) :
    vwin V n (ix2 r x) = V (ix2 ⟨64 * kst n + r, by have := kst_le n; omega⟩ x) := by
  refine congrArg V (funext fun a => ?_)
  match a with
  | ⟨0, _⟩ => exact Fin.ext (congrArg (_ + ·) (Nat.one_mul _))
  | ⟨1, _⟩ => exact Fin.ext ((Nat.zero_add _).trans (Nat.one_mul _))

theorem bwin_apply (B : VI S3x512x1024 .f32) (n : ℕ) (r : Fin 512) (x : Fin 1024) :
    bwin B n (ix3 0 r x) = B (ix3 ⟨cse n, by have := cse_le n; omega⟩ r x) := by
  refine congrArg B (funext fun a => ?_)
  match a with
  | ⟨0, _⟩ => rfl
  | ⟨1, _⟩ => exact Fin.ext ((Nat.zero_add _).trans (Nat.one_mul _))
  | ⟨2, _⟩ => exact Fin.ext ((Nat.zero_add _).trans (Nat.one_mul _))

theorem pay147_apply (q : VI S1x512x128 .bf16) (k : VI S1x256x128 .bf16) (r : Fin 512) (c : Fin 256) :
    k0_pay147 q k (ix2 r c) = ∑ x : Fin 128, q (ix3 0 r x) * k (ix3 0 c x) := by
  pointwise [k0_pay147, k0_pay146]

theorem pay148_apply (q : VI S1x512x128 .bf16) (k : VI S1x1024x128 .bf16) (b : VI S1x512x1024 .f32) (r : Fin 512) (c : Fin 1024) :
    k0_pay148 q k b (ix2 r c) = (∑ x : Fin 128, q (ix3 0 r x) * k (ix3 0 c x)) + b (ix3 0 r c) := by
  pointwise [k0_pay148, k0_pay146]

theorem pay116_apply (p : VI S512x256 .bf16) (w : VI S256x256 .bf16) (p' : VI S512x1024 .bf16) (w' : VI S1024x256 .bf16) (r : Fin 512) (c : Fin 256) :
    k0_pay116 p w p' w' (ix2 r c) = (∑ x : Fin 256, p (ix2 r x) * w (ix2 x c)) + ∑ x : Fin 1024, p' (ix2 r x) * w' (ix2 x c) := by
  pointwise [k0_pay116]

theorem pay118_apply (s : FVec Ideal S512x256 .f32) (n : FVec Ideal S512x128 .f32) (g : VI S1x512x128 .bf16) (r : Fin 512) (c : Fin 128) :
    k0_pay118 s n g (ix3 0 r c) = n (ix2 r c) * Ideal.div 1 (s (ix2 r ⟨128 + c, by omega⟩)) * (g (ix3 0 r c) * Ideal.div 1 (1 + Ideal.exp (-g (ix3 0 r c)))) := by
  pointwise [k0_pay118]
  rw [zero_sub]

theorem pay117_apply (p : VI S512x256 .bf16) (w : VI S256x256 .bf16) (p' : VI S512x1024 .bf16) (w' : VI S1024x256 .bf16) (r : Fin 512) (c : Fin 128) :
    k0_pay117 p w p' w' (ix2 r c) = k0_pay116 p w p' w' (ix2 r ⟨c, by omega⟩) := by
  pointwise [k0_pay117]

/-- The largest score of a row. -/
def rmax (s : Fin 1280 → EReal) : EReal := Finset.univ.fold max ⊥ s

/-- The largest scores of a group's rows, as the kernel takes them. -/
def mred (s : FVec Ideal S32x1280 .f32) : FVec Ideal S32 .f32 :=
  multiReduction .maximumf [1] S32 s 0xFF800000#32 Gen.reduces_S32x1280_S32 (.inl rfl) rfl

theorem lift_row (r : Fin 32) (c : Fin 1280) : Gen.reduces_S32x1280_S32.lift (ix1 r) c = ix2 r c := by
  funext a; match a with | ⟨0, _⟩ => rfl | ⟨1, _⟩ => rfl

theorem mred_apply (s : FVec Ideal S32x1280 .f32) (r : Fin 32) : mred s (ix1 r) = rmax fun c => s (ix2 r c) := by
  refine (Ideal.multiReduction_maximumf_single s _ Gen.reduces_S32x1280_S32 (.inl rfl) rfl (ix1 r)).trans ?_
  have e : (s ∘ Gen.reduces_S32x1280_S32.lift (ix1 r)) = fun c : Fin 1280 => s (ix2 r c) := funext fun c => congrArg s (lift_row r c)
  show Finset.fold max (Ideal.ofBits .f32 0xFF800000#32) (s ∘ Gen.reduces_S32x1280_S32.lift (ix1 r)) Finset.univ = _
  rw [ofBits_neg_inf]
  exact congrArg (fun f => Finset.fold max ⊥ f (Finset.univ : Finset (Fin 1280))) e

theorem pay93_eq (s : VI S32x1280 .f32) : k0_pay93 s = shapeCast S32x1280 (truncf .bf16 (exp (subf s (broadcastTo S32x1280 (shapeCast S32x1 (mred s) Gen.shapeCasts_S32_S32x1) Gen.broadcasts_S32x1_S32x1280))) Gen.bitsLt_bf16_f32) Gen.shapeCasts_S32x1280_S32x1280 := rfl

theorem pay93_apply (s : VI S32x1280 .f32) (r : Fin 32) (c : Fin 1280) :
    k0_pay93 s (ix2 r c) = Ideal.exp (s (ix2 r c) - rmax fun c => s (ix2 r c)) := by
  rw [pay93_eq, ← mred_apply]
  pointwise []

theorem sm_apply (s : VI S512x1280 .f32) (r : Fin 512) (c : Fin 1280) :
    sm s (ix2 r c) = Ideal.exp (s (ix2 r c) - rmax fun c => s (ix2 r c)) := by
  have hg : ∀ c : Fin 1280, grp s (r.val / 32) (by omega) (ix2 ⟨r.val % 32, by omega⟩ c) = s (ix2 r c) := by
    intro c
    refine congrArg s (funext fun a => ?_)
    match a with
    | ⟨0, _⟩ => exact Fin.ext (by show 32 * (r.val / 32) + 1 * (r.val % 32) = r.val; omega)
    | ⟨1, _⟩ => exact Fin.ext ((Nat.zero_add _).trans (Nat.one_mul _))
  show k0_pay93 (grp s (r.val / 32) _) (ix2 ⟨r.val % 32, _⟩ c) = _
  rw [pay93_apply]
  simp only [hg]

theorem rmax_le_iff (s : Fin 1280 → EReal) (c : EReal) : rmax s ≤ c ↔ ∀ y, s y ≤ c := fold_max_le_iff s c

theorem sc_ctx (Q K : VI S1x8192x128 .bf16) (Kc : VI S1x256x128 .bf16) (B : VI S3x512x1024 .f32) (n : ℕ) (r : Fin 512) (y : Fin 1280) (h : y.val < 256) :
    sc Q K Kc B n (ix2 r y) = scC Q Kc n (ix2 r ⟨y, h⟩) := dif_pos h

theorem sc_lat (Q K : VI S1x8192x128 .bf16) (Kc : VI S1x256x128 .bf16) (B : VI S3x512x1024 .f32) (n : ℕ) (r : Fin 512) (y : Fin 1280) (h : ¬ y.val < 256) :
    sc Q K Kc B n (ix2 r y) = scL Q K B n (ix2 r ⟨y - 256, by omega⟩) := dif_neg h

theorem v1F_val (v : VI S1x8192x128 .bf16) (r : Fin 8192) (d : Fin 128) : v1F v (ix2 r ⟨d, by omega⟩) = v (ix3 0 r d) := dif_pos d.2
theorem v1F_one (v : VI S1x8192x128 .bf16) (r : Fin 8192) (d : Fin 128) : v1F v (ix2 r ⟨128 + d, by omega⟩) = (1 : EReal) :=
  (dif_neg (show ¬ 128 + d.val < 128 by omega)).trans Ideal.ofBits_one_bf16
theorem vc1F_val (v : VI S1x256x128 .bf16) (r : Fin 256) (d : Fin 128) : vc1F v (ix2 r ⟨d, by omega⟩) = v (ix3 0 r d) := dif_pos d.2
theorem vc1F_one (v : VI S1x256x128 .bf16) (r : Fin 256) (d : Fin 128) : vc1F v (ix2 r ⟨128 + d, by omega⟩) = (1 : EReal) :=
  (dif_neg (show ¬ 128 + d.val < 128 by omega)).trans Ideal.ofBits_one_bf16

theorem pctx_apply (p : VI S512x1280 .bf16) (r : Fin 512) (x : Fin 256) :
    VecWindow.window p ![0, 0] S512x256.size pc_inb (ix2 r x) = p (ix2 r ⟨x, by omega⟩) := by
  refine congrArg p (funext fun a => ?_)
  match a with
  | ⟨0, _⟩ => exact Fin.ext ((Nat.zero_add _).trans (Nat.one_mul _))
  | ⟨1, _⟩ => exact Fin.ext ((Nat.zero_add _).trans (Nat.one_mul _))

theorem plat_apply (p : VI S512x1280 .bf16) (r : Fin 512) (x : Fin 1024) :
    VecWindow.window p ![0, 256] S512x1024.size pl_inb (ix2 r x) = p (ix2 r ⟨256 + x, by omega⟩) := by
  refine congrArg p (funext fun a => ?_)
  match a with
  | ⟨0, _⟩ => exact Fin.ext ((Nat.zero_add _).trans (Nat.one_mul _))
  | ⟨1, _⟩ => exact Fin.ext (congrArg (_ + ·) (Nat.one_mul _))

theorem val_apply (G : VI S1x8192x128 .bf16) (V : VI S8192x256 .bf16) (Vc : VI S256x256 .bf16) (p : VI S512x1280 .bf16) (n : ℕ) (r : Fin 512) (d : Fin 128) :
    val G V Vc p n (ix3 0 r d)
      = ((∑ x : Fin 256, p (ix2 r ⟨x, by omega⟩) * Vc (ix2 x ⟨d, by omega⟩))
          + ∑ x : Fin 1024, p (ix2 r ⟨256 + x, by omega⟩) * V (ix2 ⟨64 * kst n + x, by have := kst_le n; omega⟩ ⟨d, by omega⟩))
        * Ideal.div 1 ((∑ x : Fin 256, p (ix2 r ⟨x, by omega⟩) * Vc (ix2 x ⟨128 + d, by omega⟩))
          + ∑ x : Fin 1024, p (ix2 r ⟨256 + x, by omega⟩) * V (ix2 ⟨64 * kst n + x, by have := kst_le n; omega⟩ ⟨128 + d, by omega⟩))
        * (G (ix3 0 ⟨512 * blk n + r, by have := blk_le n; omega⟩ d) * Ideal.div 1 (1 + Ideal.exp (-G (ix3 0 ⟨512 * blk n + r, by have := blk_le n; omega⟩ d)))) := by
  unfold val
  have h1 := pctx_apply p r
  have h2 := plat_apply p r
  generalize VecWindow.window p ![0, 0] S512x256.size pc_inb = p1 at h1 ⊢
  generalize VecWindow.window p ![0, 256] S512x1024.size pl_inb = p2 at h2 ⊢
  rw [pay118_apply, pay117_apply, pay116_apply, pay116_apply]
  simp only [h1, h2, vwin_apply, qwin_apply]

/-- The output block at a row: the attention of the row over its context and its keys, times the gate. -/
theorem out_apply (Q G K : VI S1x8192x128 .bf16) (Kc : VI S1x256x128 .bf16) (V : VI S1x8192x128 .bf16) (Vc : VI S1x256x128 .bf16) (B : VI S3x512x1024 .f32)
    (n : Fin 16) (r : Fin 512) (d : Fin 128) :
    ∃ M : EReal, (∀ c, M ≤ c ↔ (∀ i : Fin 256, scC Q Kc n (ix2 r i) ≤ c) ∧ ∀ j : Fin 1024, scL Q K B n (ix2 r j) ≤ c) ∧
      out Q G K Kc (v1F V) (vc1F Vc) B (ix3 0 ⟨512 * n + r, by omega⟩ d)
        = ((∑ i : Fin 256, Ideal.exp (scC Q Kc n (ix2 r i) - M) * Vc (ix3 0 i d))
            + ∑ j : Fin 1024, Ideal.exp (scL Q K B n (ix2 r j) - M) * V (ix3 0 ⟨64 * kst n + j, by have := kst_le n; omega⟩ d))
          * Ideal.div 1 ((∑ i : Fin 256, Ideal.exp (scC Q Kc n (ix2 r i) - M) * 1) + ∑ j : Fin 1024, Ideal.exp (scL Q K B n (ix2 r j) - M) * 1)
          * (G (ix3 0 ⟨512 * n + r, by omega⟩ d) * Ideal.div 1 (1 + Ideal.exp (-G (ix3 0 ⟨512 * n + r, by omega⟩ d)))) := by
  have hc : ∀ i : Fin 256, sc Q K Kc B n (ix2 r ⟨i, by omega⟩) = scC Q Kc n (ix2 r i) := fun i => sc_ctx Q K Kc B n r ⟨i, by omega⟩ i.2
  have hl : ∀ j : Fin 1024, sc Q K Kc B n (ix2 r ⟨256 + j, by omega⟩) = scL Q K B n (ix2 r j) := fun j => by
    rw [sc_lat Q K Kc B n r ⟨256 + j, by omega⟩ (by simp only; omega)]
    exact congrArg _ (congrArg (ix2 r) (Fin.ext (by simp only; omega)))
  refine ⟨rmax fun c => sc Q K Kc B n (ix2 r c), fun c => ?_, ?_⟩
  · rw [rmax_le_iff]
    constructor
    · intro H
      exact ⟨fun i => hc i ▸ H _, fun j => hl j ▸ H _⟩
    · rintro ⟨H1, H2⟩ y
      by_cases hy : y.val < 256
      · rw [sc_ctx _ _ _ _ _ _ _ hy]; exact H1 _
      · rw [sc_lat _ _ _ _ _ _ _ hy]; exact H2 _
  · have hb : blk n = n := by have := n.2; unfold blk; omega
    have e : out Q G K Kc (v1F V) (vc1F Vc) B (ix3 0 ⟨512 * n + r, by omega⟩ d) = val G (v1F V) (vc1F Vc) (sm (sc Q K Kc B n)) n (ix3 0 r d) := by
      have key : ∀ (n' : ℕ) (r' : Fin 512), n' = n → r' = r → val G (v1F V) (vc1F Vc) (sm (sc Q K Kc B n')) n' (ix3 0 r' d) = val G (v1F V) (vc1F Vc) (sm (sc Q K Kc B n)) n (ix3 0 r d) := by
        intro n' r' h1 h2; subst h1 h2; rfl
      exact key _ _ (by show (512 * n.val + r.val) / 512 = _; omega) (Fin.ext (by show (512 * n.val + r.val) % 512 = _; omega))
    rw [e, val_apply]
    simp only [sm_apply, hc, hl, v1F_val, v1F_one, vc1F_val, vc1F_one, hb]

theorem cast_block (x : FVec Ideal S1x1x64x64 .f32) (r c : Fin 64) :
    shapeCast S64x64 x Gen.shapeCasts_S1x1x64x64_S64x64 (ix2 r c) = x (ix4 0 0 r c) := by pointwise

theorem blockV_some (C : VI S1x15x64x64 .f32) (k : Fin 15) (r c : Fin 64) : blockV C (some k) (ix2 r c) = C (ix4 0 k r c) := by
  refine (cast_block (VecWindow.window C ![0, k.val, 0, 0] S1x1x64x64.size (blk_inb k)) r c).trans ?_
  refine congrArg C (funext fun a => ?_)
  match a with
  | ⟨0, _⟩ => rfl
  | ⟨1, _⟩ => exact Fin.ext (congrArg (_ + ·) (Nat.one_mul _))
  | ⟨2, _⟩ => exact Fin.ext ((Nat.zero_add _).trans (Nat.one_mul _))
  | ⟨3, _⟩ => exact Fin.ext ((Nat.zero_add _).trans (Nat.one_mul _))

theorem blockV_none (C : VI S1x15x64x64 .f32) (r c : Fin 64) : blockV C none (ix2 r c) = (⊥ : EReal) := by
  show (Named.named κ "mask" 0xF149F2CA#32 : Ideal .f32) = _
  exact IdealRules.named_const.ideal_named_scalar κ "mask" _ _ rfl

theorem biasF_apply (C : VI S1x15x64x64 .f32) (a : Fin 3) (r : Fin 512) (j : Fin 1024) :
    biasF C (ix3 a r j) = blockV C (bIdx a (r.val / 64) (j.val / 64)) (ix2 ⟨r.val % 64, by omega⟩ ⟨j.val % 64, by omega⟩) := by
  have e : j = ⟨64 * (j.val / 64) + j.val % 64, by omega⟩ := Fin.ext (by simp only; omega)
  show strip C a (r.val / 64) (ix3 0 ⟨r.val % 64, _⟩ j) = _
  unfold strip
  conv_lhs => rw [e]
  exact cat_apply (fun k => blockV C (bIdx a (r.val / 64) k.val)) ⟨r.val % 64, by omega⟩ ⟨j.val / 64, by omega⟩ ⟨j.val % 64, by omega⟩

theorem scC_apply (Q : VI S1x8192x128 .bf16) (Kc : VI S1x256x128 .bf16) (n : Fin 16) (r : Fin 512) (i : Fin 256) :
    scC Q Kc n (ix2 r i) = ∑ x : Fin 128, Q (ix3 0 ⟨512 * n + r, by omega⟩ x) * Kc (ix3 0 i x) := by
  have hb : blk n = n := by have := n.2; unfold blk; omega
  unfold scC
  rw [pay147_apply]
  simp only [qwin_apply, hb]

theorem scL_apply (Q K : VI S1x8192x128 .bf16) (C : VI S1x15x64x64 .f32) (n : Fin 16) (r : Fin 512) (j : Fin 1024) :
    scL Q K (biasF C) n (ix2 r j) = (∑ x : Fin 128, Q (ix3 0 ⟨512 * n + r, by omega⟩ x) * K (ix3 0 ⟨64 * kst n + j, by have := kst_le n; omega⟩ x))
      + blockV C (bIdx (cse n) (r.val / 64) (j.val / 64)) (ix2 ⟨r.val % 64, by omega⟩ ⟨j.val % 64, by omega⟩) := by
  have hb : blk n = n := by have := n.2; unfold blk; omega
  unfold scL
  rw [pay148_apply, bwin_apply, biasF_apply]
  simp only [qwin_apply, kwin_apply, hb]

end Cert.KernelIdeal.Na

end
-- ==== Proof.RefValue.lean ====
/- What the reference's result holds at an index: the attention of one query row, spelt over its scores. -/
module

public import proofs.«01_k».proof.Proof.Gen.ReferenceIdeal.Run
public import proofs.«01_k».proof.Proof.Math
public import Idealize.ShloMosaic.Lib.Pointwise
public import Idealize.ShloMosaic.Lib.Pipeline.Value
public import Idealize.ShloMosaic.Lib.ValueIdx

@[expose] public section

set_option maxRecDepth 16384

noncomputable section

namespace Cert.ReferenceIdeal.Na

open Idealize.ShloMosaic Idealize.SL.Sem Cert.ReferenceIdeal Facts₀ Facts Cert.Na

variable (P : FVec Ideal S2x8192x14336 .bf16) (C : FVec Ideal S2x256x14336 .bf16) (B : FVec Ideal S16x15x64x64 .f32)

/-- The grid row of the window's `j`-th row, as a word. -/
def win : IVec S128x8 32 :=
  addi (broadcastInDim S128x8 ![0, 1] bcast_S128x1_S128x8_0_1 (broadcastInDim S128x1 ![0] bcast_S128_S128x1_0 (minsi (broadcastInDim S128 ![] bcast_S_S128 (id (constantI S_ 32 120#32))) (maxsi (broadcastInDim S128 ![] bcast_S_S128 (id (constantI S_ 32 0#32))) (subi (iotaInDim S128 32 0) (broadcastInDim S128 ![] bcast_S_S128 (constantI S_ 32 4#32))))))) (broadcastInDim S128x8 ![0, 1] bcast_S1x8_S128x8_0_1 (broadcastInDim S1x8 ![1] bcast_S8_S1x8_1 (iotaInDim S8 32 0)))
/-- The same with negative rows wrapped, the gather's index. -/
def winIx : IVec S128x8x1 32 :=
  broadcastInDim S128x8x1 ![0, 1] bcast_S128x8_S128x8x1_0_1 (select (cmpi .slt win (broadcastInDim S128x8 ![] bcast_S_S128x8 (constantI S_ 32 0#32))) (addi win (broadcastInDim S128x8 ![] bcast_S_S128x8 (constantI S_ 32 128#32))) win)
/-- The row distance of the window's `j`-th row, as a word. -/
def dist : IVec S128x8 32 :=
  addi (subi win (broadcastInDim S128x8 ![0, 1] bcast_S128x1_S128x8_0_1 (broadcastInDim S128x1 ![0] bcast_S128_S128x1_0 (iotaInDim S128 32 0)))) (broadcastInDim S128x8 ![] bcast_S_S128x8 (constantI S_ 32 7#32))
def distIx : IVec S128x8x1 32 :=
  broadcastInDim S128x8x1 ![0, 1] bcast_S128x8_S128x8x1_0_1 (select (cmpi .slt dist (broadcastInDim S128x8 ![] bcast_S_S128x8 (constantI S_ 32 0#32))) (addi dist (broadcastInDim S128x8 ![] bcast_S_S128x8 (constantI S_ 32 15#32))) dist)

def cols (o : Fin S2x8192x14336.rank → ℕ) (h : S2x8192x14336.Slices o S2x8192x2048) : FVec Ideal S2x8192x2048 .f32 :=
  extf .f32 (extractStridedSlice S2x8192x2048 o P h) bitsLt_bf16_f32
def ccols (o : Fin S2x256x14336.rank → ℕ) (h : S2x256x14336.Slices o S2x256x2048) : FVec Ideal S2x256x16x128 .f32 :=
  shapeCast _ (extf .f32 (extractStridedSlice S2x256x2048 o C h) bitsLt_bf16_f32) shapeCasts_S2x256x2048_S2x256x16x128
def heads (x : FVec Ideal S2x8192x2048 .f32) : FVec Ideal S2x128x64x16x128 .f32 :=
  shapeCast _ x shapeCasts_S2x8192x2048_S2x128x64x16x128
/-- The rows of a window, in one axis. -/
def wins (x : FVec Ideal S2x128x64x16x128 .f32) : FVec Ideal S2x128x512x16x128 .f32 :=
  shapeCast _ (Host.gather gather_S2x128x64x16x128_S128x8x1_S2x128x8x64x16x128_0345_1_n_n_1_2_216416128 x winIx) shapeCasts_S2x128x8x64x16x128_S2x128x512x16x128
def bias : FVec Ideal S16x128x64x512 .f32 :=
  shapeCast _ (transpose S16x128x64x8x64 [0, 1, 3, 2, 4] (Host.gather gather_S16x15x64x64_S128x8x1_S16x128x8x64x64_034_1_n_n_1_2_1616464 B distIx) transposes_S16x128x8x64x64_S16x128x64x8x64_0_1_3_2_4) shapeCasts_S16x128x64x8x64_S16x128x64x512
def q : FVec Ideal S2x128x64x16x128 .f32 := heads (cols P ![0, 0, 0] slices_S2x8192x14336_S2x8192x2048_0_0_0)
def k : FVec Ideal S2x128x64x16x128 .f32 := heads (cols P ![0, 0, 6144] slices_S2x8192x14336_S2x8192x2048_0_0_6144)
def v : FVec Ideal S2x128x64x16x128 .f32 := heads (cols P ![0, 0, 8192] slices_S2x8192x14336_S2x8192x2048_0_0_8192)
def kc : FVec Ideal S2x256x16x128 .f32 := ccols C ![0, 0, 6144] slices_S2x256x14336_S2x256x2048_0_0_6144
def vc : FVec Ideal S2x256x16x128 .f32 := ccols C ![0, 0, 8192] slices_S2x256x14336_S2x256x2048_0_0_8192
def slat : FVec Ideal S2x16x128x64x512 .f32 :=
  addf (mulf (Host.dotGeneral dot_S2x128x64x16x128_S2x128x512x16x128_S2x16x128x64x512_4_4_2_2_031_031 none (q P) (wins (k P)))
    (broadcastInDim S2x16x128x64x512 ![] bcast_S_S2x16x128x64x512 (constant S_ .f32 0x3DB504F3#32)))
    (broadcastInDim S2x16x128x64x512 ![0, 1, 2, 3, 4] bcast_S1x16x128x64x512_S2x16x128x64x512_0_1_2_3_4 (broadcastInDim S1x16x128x64x512 ![1, 2, 3, 4] bcast_S16x128x64x512_S1x16x128x64x512_1_2_3_4 (bias B)))
def sctx : FVec Ideal S2x16x128x64x256 .f32 :=
  mulf (Host.dotGeneral dot_S2x128x64x16x128_S2x256x16x128_S2x16x128x64x256_4_3_12_1_03_02 none (q P) (kc C))
    (broadcastInDim S2x16x128x64x256 ![] bcast_S_S2x16x128x64x256 (constant S_ .f32 0x3DB504F3#32))
def sall : FVec Ideal S2x16x128x64x768 .f32 :=
  concatenate S2x16x128x64x768 4 [⟨S2x16x128x64x512, slat P B⟩, ⟨S2x16x128x64x256, sctx P C⟩] concatenates_S2x16x128x64x512_S2x16x128x64x256_S2x16x128x64x768_d4
def mx (s : FVec Ideal S2x16x128x64x768 .f32) : FVec Ideal S2x16x128x64 .f32 :=
  maximumf (broadcastInDim S2x16x128x64 ![] bcast_S_S2x16x128x64 (constant S_ .f32 0xFF800000#32)) (Host.reduce FloatOps.maximumf s (constant S_ .f32 0xFF800000#32) reducesTo_S2x16x128x64x768_S2x16x128x64_d4 h_S_)
def spread (x : FVec Ideal S2x16x128x64 .f32) : FVec Ideal S2x16x128x64x768 .f32 :=
  broadcastInDim S2x16x128x64x768 ![0, 1, 2, 3, 4] bcast_S2x16x128x64x1_S2x16x128x64x768_0_1_2_3_4 (broadcastInDim S2x16x128x64x1 ![0, 1, 2, 3] bcast_S2x16x128x64_S2x16x128x64x1_0_1_2_3 x)
def ex (s : FVec Ideal S2x16x128x64x768 .f32) : FVec Ideal S2x16x128x64x768 .f32 := Host.exp (subf s (spread (mx s)))
def den (e : FVec Ideal S2x16x128x64x768 .f32) : FVec Ideal S2x16x128x64 .f32 :=
  Host.reduceAdd e (constant S_ .f32 0x00000000#32) reducesTo_S2x16x128x64x768_S2x16x128x64_d4 h_S_
def pr (e : FVec Ideal S2x16x128x64x768 .f32) : FVec Ideal S2x16x128x64x768 .f32 := Host.divf e (spread (den e))
def olat (p : FVec Ideal S2x16x128x64x768 .f32) : FVec Ideal S2x128x64x16x128 .f32 :=
  transpose S2x128x64x16x128 [0, 1, 4, 2, 3] (Host.dotGeneral dot_S2x128x512x16x128_S2x16x128x64x512_S2x128x16x128x64_2_4_4_3_013_021 none (wins (v P)) (extractStridedSlice S2x16x128x64x512 ![0, 0, 0, 0, 0] p slices_S2x16x128x64x768_S2x16x128x64x512_0_0_0_0_0)) transposes_S2x128x16x128x64_S2x128x64x16x128_0_1_4_2_3
def octx (p : FVec Ideal S2x16x128x64x768 .f32) : FVec Ideal S2x128x64x16x128 .f32 :=
  transpose S2x128x64x16x128 [0, 3, 4, 1, 2] (Host.dotGeneral dot_S2x256x16x128_S2x16x128x64x256_S2x16x128x128x64_1_4_3_23_02_01 none (vc C) (extractStridedSlice S2x16x128x64x256 ![0, 0, 0, 0, 512] p slices_S2x16x128x64x768_S2x16x128x64x256_0_0_0_0_512)) transposes_S2x16x128x128x64_S2x128x64x16x128_0_3_4_1_2
def silu (g : FVec Ideal S2x8192x2048 .f32) : FVec Ideal S2x8192x2048 .f32 :=
  mulf g (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf g))))
def res : FVec Ideal S2x8192x2048 .bf16 :=
  truncf .bf16 (mulf (shapeCast _ (addf (olat P (pr (ex (sall P C B)))) (octx C (pr (ex (sall P C B))))) shapeCasts_S2x128x64x16x128_S2x8192x2048)
    (silu (cols P ![0, 0, 2048] slices_S2x8192x14336_S2x8192x2048_0_0_2048))) bitsLt_bf16_f32

set_option maxHeartbeats 2000000 in
/-- The reference's result is that stack of its operations. -/
theorem res_eq (m : (ℓ : Loc nD τ sig) → Buf (Elt Ideal) ℓ) (c : Dev nD) :
    Value.res_main_v88 m c = res (m ((c.tc : Thread nD τ).loc main_arg0)) (m ((c.tc : Thread nD τ).loc main_arg1)) (m ((c.tc : Thread nD τ).loc main_arg2)) := by
  rfl

end Cert.ReferenceIdeal.Na

end
-- ==== Proof.RefRow.lean ====
/- The reference's result at an index: each operation of its stack read there. -/
module

public import proofs.«01_k».proof.Proof.RefValue

@[expose] public section

set_option maxRecDepth 16384

noncomputable section

namespace Cert.ReferenceIdeal.Na

open Idealize.ShloMosaic Idealize.SL.Sem Cert.ReferenceIdeal Facts₀ Facts Cert.Na

variable (P : FVec Ideal S2x8192x14336 .bf16) (C : FVec Ideal S2x256x14336 .bf16) (B : FVec Ideal S16x15x64x64 .f32)

/-! ## The window's rows -/

/-- The first grid row of the window of grid row `r`. -/
def w0 (r : ℕ) : ℕ := min (r - 4) 120

theorem w0_le (r : ℕ) : w0 r ≤ 120 := by unfold w0; omega
theorem w0_dist {r : ℕ} (hr : r < 128) (j : ℕ) (hj : j < 8) : r ≤ w0 r + j + 7 ∧ w0 r + j + 7 - r < 15 := by unfold w0; omega

theorem winIx_row : ∀ (r : Fin 128) (j : Fin 8), min (winIx (ix3 r j 0)).toInt.toNat 127 = w0 r + j := by
  have h : ∀ (r : Fin 128) (j : Fin 8), winIx (ix3 r j 0) = Scalar.select
      (IntOp.cmpi CmpIPredicate.slt
        (IntOp.addi (IntOp.minsi 120#32 (IntOp.maxsi 0#32 (IntOp.subi (BitVec.ofNat 32 r) 4#32))) (BitVec.ofNat 32 j)) 0#32)
      (IntOp.addi (IntOp.addi (IntOp.minsi 120#32 (IntOp.maxsi 0#32 (IntOp.subi (BitVec.ofNat 32 r) 4#32))) (BitVec.ofNat 32 j)) 128#32)
      (IntOp.addi (IntOp.minsi 120#32 (IntOp.maxsi 0#32 (IntOp.subi (BitVec.ofNat 32 r) 4#32))) (BitVec.ofNat 32 j)) := by
    intro r j
    pointwise [winIx, win]
    rfl
  intro r j
  rw [h]
  revert r j
  decide +kernel

theorem distIx_row : ∀ (r : Fin 128) (j : Fin 8), min (distIx (ix3 r j 0)).toInt.toNat 14 = w0 r + j + 7 - r := by
  have h : ∀ (r : Fin 128) (j : Fin 8), distIx (ix3 r j 0) = Scalar.select
      (IntOp.cmpi CmpIPredicate.slt
        (IntOp.addi (IntOp.subi (IntOp.addi (IntOp.minsi 120#32 (IntOp.maxsi 0#32 (IntOp.subi (BitVec.ofNat 32 r) 4#32))) (BitVec.ofNat 32 j)) (BitVec.ofNat 32 r)) 7#32) 0#32)
      (IntOp.addi (IntOp.addi (IntOp.subi (IntOp.addi (IntOp.minsi 120#32 (IntOp.maxsi 0#32 (IntOp.subi (BitVec.ofNat 32 r) 4#32))) (BitVec.ofNat 32 j)) (BitVec.ofNat 32 r)) 7#32) 15#32)
      (IntOp.addi (IntOp.subi (IntOp.addi (IntOp.minsi 120#32 (IntOp.maxsi 0#32 (IntOp.subi (BitVec.ofNat 32 r) 4#32))) (BitVec.ofNat 32 j)) (BitVec.ofNat 32 r)) 7#32) := by
    intro r j
    pointwise [distIx, dist, win]
    rfl
  intro r j
  rw [h]
  revert r j
  decide +kernel

theorem gather_rows (x : FVec Ideal S2x128x64x16x128 .f32) (idx : IVec S128x8x1 32) (b : Fin 2) (r : Fin 128) (j : Fin 8) (q : Fin 64) (h : Fin 16) (d : Fin 128) :
    Host.gather gather_S2x128x64x16x128_S128x8x1_S2x128x8x64x16x128_0345_1_n_n_1_2_216416128 x idx (ix6 b r j q h d)
      = x (ix5 b ⟨min (idx (ix3 r j 0)).toInt.toNat 127, by omega⟩ q h d) := by
  unfold Host.gather
  congr 1
  funext a
  refine Fin.ext ?_
  match a with
  | ⟨0, _⟩ => exact Nat.zero_add _
  | ⟨1, _⟩ =>
    show GatherDims.start gather_S2x128x64x16x128_S128x8x1_S2x128x8x64x16x128_0345_1_n_n_1_2_216416128 _ idx (1 : Fin 5) + GatherDims.batchCoord gather_S2x128x64x16x128_S128x8x1_S2x128x8x64x16x128_0345_1_n_n_1_2_216416128 _ (1 : Fin 5) + GatherDims.offCoord gather_S2x128x64x16x128_S128x8x1_S2x128x8x64x16x128_0345_1_n_n_1_2_216416128 _ (1 : Fin 5) = _
    rw [GatherDims.batchCoord_eq_zero _ _ _ (by decide), GatherDims.offCoord_eq_zero _ _ _ (by decide)]
    simp only [Nat.add_zero]
    unfold GatherDims.start
    rw [dif_pos (by decide)]
    have hsi : ∀ hh, GatherDims.siIdx gather_S2x128x64x16x128_S128x8x1_S2x128x8x64x16x128_0345_1_n_n_1_2_216416128 (ix6 b r j q h d) ⟨List.idxOf (1 : Fin 5) [1], hh⟩ = ix3 r j 0 := by
      intro hh
      funext b; refine Fin.ext ?_
      match b with
      | ⟨0, _⟩ => rfl
      | ⟨1, _⟩ => rfl
      | ⟨2, _⟩ => rfl
    erw [hsi]
    rfl
  | ⟨2, _⟩ => exact Nat.zero_add _
  | ⟨3, _⟩ => exact Nat.zero_add _
  | ⟨4, _⟩ => exact Nat.zero_add _

theorem gather_bias (x : FVec Ideal S16x15x64x64 .f32) (idx : IVec S128x8x1 32) (h : Fin 16) (r : Fin 128) (j : Fin 8) (q c : Fin 64) :
    Host.gather gather_S16x15x64x64_S128x8x1_S16x128x8x64x64_034_1_n_n_1_2_1616464 x idx (ix5 h r j q c)
      = x (ix4 h ⟨min (idx (ix3 r j 0)).toInt.toNat 14, by omega⟩ q c) := by
  unfold Host.gather
  congr 1
  funext a
  refine Fin.ext ?_
  match a with
  | ⟨0, _⟩ => exact Nat.zero_add _
  | ⟨1, _⟩ =>
    show GatherDims.start gather_S16x15x64x64_S128x8x1_S16x128x8x64x64_034_1_n_n_1_2_1616464 _ idx (1 : Fin 4) + GatherDims.batchCoord gather_S16x15x64x64_S128x8x1_S16x128x8x64x64_034_1_n_n_1_2_1616464 _ (1 : Fin 4) + GatherDims.offCoord gather_S16x15x64x64_S128x8x1_S16x128x8x64x64_034_1_n_n_1_2_1616464 _ (1 : Fin 4) = _
    rw [GatherDims.batchCoord_eq_zero _ _ _ (by decide), GatherDims.offCoord_eq_zero _ _ _ (by decide)]
    simp only [Nat.add_zero]
    unfold GatherDims.start
    rw [dif_pos (by decide)]
    have hsi : ∀ hh, GatherDims.siIdx gather_S16x15x64x64_S128x8x1_S16x128x8x64x64_034_1_n_n_1_2_1616464 (ix5 h r j q c) ⟨List.idxOf (1 : Fin 4) [1], hh⟩ = ix3 r j 0 := by
      intro hh
      funext b; refine Fin.ext ?_
      match b with
      | ⟨0, _⟩ => rfl
      | ⟨1, _⟩ => rfl
      | ⟨2, _⟩ => rfl
    erw [hsi]
    rfl
  | ⟨2, _⟩ => exact Nat.zero_add _
  | ⟨3, _⟩ => exact Nat.zero_add _

/-! ## The scores -/

theorem wins_apply (x : FVec Ideal S2x8192x2048 .f32) (b : Fin 2) (r : Fin 128) (y : Fin 512) (h : Fin 16) (d : Fin 128) :
    wins (heads x) (ix5 b r y h d) = x (ix3 b ⟨64 * w0 r + y, by have := w0_le r; omega⟩ ⟨128 * h + d, by omega⟩) := by
  pointwise [wins]
  rw [gather_rows]
  pointwise [heads]
  congr 1
  simp only [winIx_row]
  refine congrArg₂ (ix3 b) (Fin.ext ?_) (Fin.ext ?_) <;> simp only <;> omega

theorem bias_apply (h : Fin 16) (r : Fin 128) (q : Fin 64) (y : Fin 512) :
    bias B (ix4 h r q y) = B (ix4 h ⟨w0 r + y / 64 + 7 - r, by have := w0_dist r.2 (y / 64) (by omega); omega⟩ q ⟨y % 64, by omega⟩) := by
  pointwise [bias]
  rw [gather_bias]
  congr 1
  simp only [distIx_row]

/-- The latent scores of query row `q` of grid row `r`. -/
def sL (b : Fin 2) (h : Fin 16) (r : Fin 128) (q : Fin 64) (y : Fin 512) : EReal :=
  (∑ x : Fin 128, P (ix3 b ⟨64 * r + q, by omega⟩ ⟨128 * h + x, by omega⟩)
      * P (ix3 b ⟨64 * w0 r + y, by have := w0_le r; omega⟩ ⟨6144 + (128 * h + x), by omega⟩)) * Ideal.ofBits .f32 0x3DB504F3#32
    + B (ix4 h ⟨w0 r + y / 64 + 7 - r, by have := w0_dist r.2 (y / 64) (by omega); omega⟩ q ⟨y % 64, by omega⟩)

/-- Its context scores. -/
def sC (b : Fin 2) (h : Fin 16) (r : Fin 128) (q : Fin 64) (y : Fin 256) : EReal :=
  (∑ x : Fin 128, P (ix3 b ⟨64 * r + q, by omega⟩ ⟨128 * h + x, by omega⟩)
      * C (ix3 b y ⟨6144 + (128 * h + x), by omega⟩)) * Ideal.ofBits .f32 0x3DB504F3#32

theorem q_apply (b : Fin 2) (r : Fin 128) (p : Fin 64) (h : Fin 16) (d : Fin 128) :
    q P (ix5 b r p h d) = P (ix3 b ⟨64 * r + p, by omega⟩ ⟨128 * h + d, by omega⟩) := by
  pointwise [q, heads, cols]
  congr 1
  refine congrArg₂ (ix3 b) (Fin.ext ?_) (Fin.ext ?_) <;> simp only <;> omega

theorem kwins_apply (b : Fin 2) (r : Fin 128) (y : Fin 512) (h : Fin 16) (d : Fin 128) :
    wins (k P) (ix5 b r y h d) = P (ix3 b ⟨64 * w0 r + y, by have := w0_le r; omega⟩ ⟨6144 + (128 * h + d), by omega⟩) := by
  unfold k
  rw [wins_apply]
  pointwise [cols]

theorem vwins_apply (b : Fin 2) (r : Fin 128) (y : Fin 512) (h : Fin 16) (d : Fin 128) :
    wins (v P) (ix5 b r y h d) = P (ix3 b ⟨64 * w0 r + y, by have := w0_le r; omega⟩ ⟨8192 + (128 * h + d), by omega⟩) := by
  unfold v
  rw [wins_apply]
  pointwise [cols]

theorem kc_apply (b : Fin 2) (y : Fin 256) (h : Fin 16) (d : Fin 128) :
    kc C (ix4 b y h d) = C (ix3 b y ⟨6144 + (128 * h + d), by omega⟩) := by
  pointwise [kc, ccols]
  congr 1
  refine congrArg (ix3 b y) (Fin.ext ?_) ; simp only ; omega

theorem vc_apply (b : Fin 2) (y : Fin 256) (h : Fin 16) (d : Fin 128) :
    vc C (ix4 b y h d) = C (ix3 b y ⟨8192 + (128 * h + d), by omega⟩) := by
  pointwise [vc, ccols]
  congr 1
  refine congrArg (ix3 b y) (Fin.ext ?_) ; simp only ; omega

theorem slat_apply (b : Fin 2) (h : Fin 16) (r : Fin 128) (p : Fin 64) (y : Fin 512) :
    slat P B (ix5 b h r p y) = sL P B b h r p y := by
  pointwise [slat]
  rw [bias_apply]
  simp only [q_apply, kwins_apply]
  rfl

theorem sctx_apply (b : Fin 2) (h : Fin 16) (r : Fin 128) (p : Fin 64) (y : Fin 256) :
    sctx P C (ix5 b h r p y) = sC P C b h r p y := by
  pointwise [sctx]
  simp only [q_apply, kc_apply]
  rfl

theorem sall_lat (b : Fin 2) (h : Fin 16) (r : Fin 128) (p : Fin 64) (y : Fin 768) (hy : y.val < 512) :
    sall P C B (ix5 b h r p y) = sL P B b h r p ⟨y, hy⟩ := by
  pointwise [sall]
  rw [dif_pos hy, slat_apply]

theorem sall_ctx (b : Fin 2) (h : Fin 16) (r : Fin 128) (p : Fin 64) (y : Fin 768) (hy : ¬ y.val < 512) :
    sall P C B (ix5 b h r p y) = sC P C b h r p ⟨y - 512, by omega⟩ := by
  pointwise [sall]
  rw [dif_neg hy, sctx_apply]

theorem max_const (R : FVec Ideal S2x16x128x64 .f32) (i : S2x16x128x64.Idx) :
    maximumf (broadcastInDim S2x16x128x64 ![] bcast_S_S2x16x128x64 (constant S_ .f32 0xFF800000#32)) R i = R i := by
  have e : maximumf (broadcastInDim S2x16x128x64 ![] bcast_S_S2x16x128x64 (constant S_ .f32 0xFF800000#32)) R i = max (Ideal.ofBits .f32 0xFF800000#32) (R i) := rfl
  rw [e, ofBits_neg_inf, max_eq_right bot_le]

theorem lift_row (hr : S2x16x128x64x768.Reduces [4] S2x16x128x64) (b : Fin 2) (h : Fin 16) (r : Fin 128) (p : Fin 64) (y : Fin 768) :
    hr.lift (ix4 b h r p) y = ix5 b h r p y := by
  funext a; match a with | ⟨0, _⟩ => rfl | ⟨1, _⟩ => rfl | ⟨2, _⟩ => rfl | ⟨3, _⟩ => rfl | ⟨4, _⟩ => rfl

theorem fold_const (f : Fin 768 → EReal) (c : EReal) :
    Finset.fold (FloatOps.maximumf (F := Ideal) (φ := .f32)) ((constant (F := Ideal) S_ .f32 0xFF800000#32) (Shape.Idx.first h_S_)) f Finset.univ ≤ c ↔ ∀ y, f y ≤ c := by
  have h0 : (constant (F := Ideal) S_ .f32 0xFF800000#32) (Shape.Idx.first h_S_) = (⊥ : EReal) := ofBits_neg_inf
  rw [h0]
  exact fold_max_le_iff f c

theorem mx_le_iff (s : FVec Ideal S2x16x128x64x768 .f32) (b : Fin 2) (h : Fin 16) (r : Fin 128) (p : Fin 64) (c : EReal) :
    mx s (ix4 b h r p) ≤ c ↔ ∀ y : Fin 768, s (ix5 b h r p y) ≤ c := by
  have hr : S2x16x128x64x768.Reduces [4] S2x16x128x64 := by decide
  unfold mx
  rw [max_const, Host.reduce_eq_fold_single (FloatOps.maximumf (F := Ideal)) s _ _ hr]
  have e2 : (s ∘ hr.lift (ix4 b h r p)) = fun y : Fin 768 => s (ix5 b h r p y) :=
    funext fun y => congrArg s (lift_row hr b h r p y)
  rw [e2]
  exact fold_const _ c

theorem ex_apply (s : FVec Ideal S2x16x128x64x768 .f32) (b : Fin 2) (h : Fin 16) (r : Fin 128) (p : Fin 64) (y : Fin 768) :
    ex s (ix5 b h r p y) = Ideal.exp (s (ix5 b h r p y) - mx s (ix4 b h r p)) := by
  pointwise [ex, spread]

theorem pr_apply (s : FVec Ideal S2x16x128x64x768 .f32) (b : Fin 2) (h : Fin 16) (r : Fin 128) (p : Fin 64) (y : Fin 768) :
    pr s (ix5 b h r p y) = Ideal.div (s (ix5 b h r p y)) (∑ x : Fin 768, s (ix5 b h r p x)) := by
  pointwise [pr, spread, den]

theorem olat_apply (s : FVec Ideal S2x16x128x64x768 .f32) (b : Fin 2) (h : Fin 16) (r : Fin 128) (p : Fin 64) (d : Fin 128) :
    olat P s (ix5 b r p h d) = ∑ y : Fin 512, wins (v P) (ix5 b r y h d) * s (ix5 b h r p ⟨y, by omega⟩) := by
  pointwise [olat]

theorem octx_apply (s : FVec Ideal S2x16x128x64x768 .f32) (b : Fin 2) (h : Fin 16) (r : Fin 128) (p : Fin 64) (d : Fin 128) :
    octx C s (ix5 b r p h d) = ∑ y : Fin 256, vc C (ix4 b y h d) * s (ix5 b h r p ⟨512 + y, by omega⟩) := by
  pointwise [octx]

theorem res_split (b : Fin 2) (h : Fin 16) (r : Fin 128) (p : Fin 64) (d : Fin 128) :
    res P C B (ix3 b ⟨64 * r + p, by omega⟩ ⟨128 * h + d, by omega⟩)
      = (olat P (pr (ex (sall P C B))) (ix5 b r p h d) + octx C (pr (ex (sall P C B))) (ix5 b r p h d))
        * (P (ix3 b ⟨64 * r + p, by omega⟩ ⟨2048 + (128 * h + d), by omega⟩)
          * Ideal.div 1 (1 + Ideal.exp (-P (ix3 b ⟨64 * r + p, by omega⟩ ⟨2048 + (128 * h + d), by omega⟩)))) := by
  pointwise [res, silu, cols]

theorem sum_768 (f : Fin 768 → EReal) :
    ∑ y, f y = (∑ y : Fin 512, f ⟨y, by omega⟩) + ∑ y : Fin 256, f ⟨512 + y, by omega⟩ :=
  Fin.sum_univ_add (a := 512) (b := 256) f

/-- The reference's result: the attention of a query row over its window and the context, times the gate. -/
theorem res_apply (b : Fin 2) (h : Fin 16) (r : Fin 128) (p : Fin 64) (d : Fin 128) :
    ∃ M : EReal, (∀ c, M ≤ c ↔ (∀ y, sL P B b h r p y ≤ c) ∧ ∀ y, sC P C b h r p y ≤ c) ∧
      res P C B (ix3 b ⟨64 * r + p, by omega⟩ ⟨128 * h + d, by omega⟩)
        = ((∑ y : Fin 512, P (ix3 b ⟨64 * w0 r + y, by have := w0_le r; omega⟩ ⟨8192 + (128 * h + d), by omega⟩)
              * Ideal.div (Ideal.exp (sL P B b h r p y - M)) ((∑ x, Ideal.exp (sL P B b h r p x - M)) + ∑ x, Ideal.exp (sC P C b h r p x - M)))
            + ∑ y : Fin 256, C (ix3 b y ⟨8192 + (128 * h + d), by omega⟩)
              * Ideal.div (Ideal.exp (sC P C b h r p y - M)) ((∑ x, Ideal.exp (sL P B b h r p x - M)) + ∑ x, Ideal.exp (sC P C b h r p x - M)))
          * (P (ix3 b ⟨64 * r + p, by omega⟩ ⟨2048 + (128 * h + d), by omega⟩)
            * Ideal.div 1 (1 + Ideal.exp (-P (ix3 b ⟨64 * r + p, by omega⟩ ⟨2048 + (128 * h + d), by omega⟩)))) := by
  have hl : ∀ y : Fin 512, sall P C B (ix5 b h r p ⟨y, by omega⟩) = sL P B b h r p y := fun y => sall_lat P C B b h r p ⟨y, by omega⟩ y.2
  have hc : ∀ y : Fin 256, sall P C B (ix5 b h r p ⟨512 + y, by omega⟩) = sC P C b h r p y := fun y => by
    rw [sall_ctx P C B b h r p ⟨512 + y, by omega⟩ (by simp only; omega)]
    exact congrArg _ (Fin.ext (by simp only; omega))
  refine ⟨mx (sall P C B) (ix4 b h r p), fun c => ?_, ?_⟩
  · rw [mx_le_iff]
    constructor
    · intro H
      exact ⟨fun y => hl y ▸ H _, fun y => hc y ▸ H _⟩
    · rintro ⟨H1, H2⟩ y
      by_cases hy : y.val < 512
      · rw [sall_lat _ _ _ _ _ _ _ _ hy]; exact H1 _
      · rw [sall_ctx _ _ _ _ _ _ _ _ hy]; exact H2 _
  · rw [res_split, olat_apply, octx_apply]
    simp only [vwins_apply, vc_apply, pr_apply, sum_768, ex_apply, hl, hc]

end Cert.ReferenceIdeal.Na

end
-- ==== Proof.Pre.lean ====
/- What the precondition says of the arguments: the scores' factors are finite and the bias is below plus infinity. -/
module

public import proofs.«01_k».proof.Pre_scores_finite
public import proofs.«01_k».proof.Proof.Math
public import Idealize.ShloMosaic.Lib.ReduceAll
public import Idealize.ShloMosaic.Lib.Pointwise

@[expose] public section

set_option maxRecDepth 16384

noncomputable section

namespace Cert.Pre_scores_finite

open Idealize.ShloMosaic Cert.Na Facts

variable [Facts]

instance : Subsingleton S_.Idx := ⟨fun a b => funext fun i => i.elim0⟩

theorem andi_one {x y : BitVec 1} (h : IntOp.andi x y = 1#1) : x = 1#1 ∧ y = 1#1 := by
  revert x y; decide

theorem lt_top_of_cmp {φ : FTy} {x y : Ideal φ} (h : FloatOps.cmpf .olt x y = 1#1) (hy : y = (⊤ : EReal)) : (x : EReal) ≠ ⊤ := by
  subst hy
  intro hx
  subst hx
  revert h
  show ¬ Ideal.cmp CmpFPredicate.olt ⊤ ⊤ = 1#1
  simp [Ideal.cmp]

theorem abs_lt_top {x : EReal} (h : max x (-x) ≠ ⊤) : Fin' x :=
  ⟨fun e => h (by rw [e]; simp), fun e => h (by rw [e]; simp)⟩

variable (P : FVec Ideal S2x8192x14336 .bf16) (C : FVec Ideal S2x256x14336 .bf16) (B : FVec Ideal S16x15x64x64 .f32)

theorem slice_q (h) (b : Fin 2) (r : Fin 8192) (x : Fin 2048) :
    extractStridedSlice S2x8192x2048 ![0, 0, 0] P h (ix3 b r x) = P (ix3 b r ⟨x, by omega⟩) := by pointwise
theorem slice_k (h) (b : Fin 2) (r : Fin 8192) (x : Fin 2048) :
    extractStridedSlice S2x8192x2048 ![0, 0, 6144] P h (ix3 b r x) = P (ix3 b r ⟨6144 + x, by omega⟩) := by pointwise
theorem slice_kc (h) (b : Fin 2) (r : Fin 256) (x : Fin 2048) :
    extractStridedSlice S2x256x2048 ![0, 0, 6144] C h (ix3 b r x) = C (ix3 b r ⟨6144 + x, by omega⟩) := by pointwise

theorem parts (h : fn (F := Ideal) P C B = fun _ => 1#1) :
    (∀ (b : Fin 2) (r : Fin 8192) (x : Fin 2048), Fin' (P (ix3 b r ⟨x, by omega⟩)))
    ∧ (∀ (b : Fin 2) (r : Fin 8192) (x : Fin 2048), Fin' (P (ix3 b r ⟨6144 + x, by omega⟩)))
    ∧ (∀ (b : Fin 2) (r : Fin 256) (x : Fin 2048), Fin' (C (ix3 b r ⟨6144 + x, by omega⟩)))
    ∧ ∀ (h : Fin 16) (d : Fin 15) (r x : Fin 64), B (ix4 h d r x) ≠ ⊤ := by
  have h0 := congrFun h ix0
  unfold fn fn_part1 at h0
  obtain ⟨h1, hB⟩ := andi_one h0
  obtain ⟨h2, hC⟩ := andi_one h1
  obtain ⟨hQ, hK⟩ := andi_one h2
  refine ⟨fun b r x => ?_, fun b r x => ?_, fun b r x => ?_, fun hh d r x => ?_⟩
  · have e := Host.reduce_andi_all _ _ _ _ _ hQ (ix3 b r x)
    have e2 := abs_lt_top (x := extractStridedSlice S2x8192x2048 ![0, 0, 0] P _ (ix3 b r x)) (lt_top_of_cmp e ofBits_inf_bf16)
    rwa [slice_q] at e2
  · have e := Host.reduce_andi_all _ _ _ _ _ hK (ix3 b r x)
    have e2 := abs_lt_top (x := extractStridedSlice S2x8192x2048 ![0, 0, 6144] P _ (ix3 b r x)) (lt_top_of_cmp e ofBits_inf_bf16)
    rwa [slice_k] at e2
  · have e := Host.reduce_andi_all _ _ _ _ _ hC (ix3 b r x)
    have e2 := abs_lt_top (x := extractStridedSlice S2x256x2048 ![0, 0, 6144] C _ (ix3 b r x)) (lt_top_of_cmp e ofBits_inf_bf16)
    rwa [slice_kc] at e2
  · have e := Host.reduce_andi_all _ _ _ _ _ hB (ix4 hh d r x)
    exact lt_top_of_cmp e ofBits_inf_f32

end Cert.Pre_scores_finite

end
-- ==== Proof.Equal.lean ====
/- The kernel's result equals the reference's: block by block, row by row, one row of attention (`row_eq`). -/
module

public import proofs.«01_k».proof.Defs
public import proofs.«01_k».proof.Proof.Frames
public import proofs.«01_k».proof.Proof.Blocks
public import proofs.«01_k».proof.Proof.KernelValue
public import proofs.«01_k».proof.Proof.RefRow
public import proofs.«01_k».proof.Proof.Pre

@[expose] public section

set_option maxRecDepth 16384

noncomputable section

namespace Cert.Na

open Idealize.ShloMosaic Idealize.ShloMosaic.TcCoe Idealize.SL.Sem
open Cert.KernelIdeal (S1x8192x128 S1x256x128 S1x15x64x64 S2x8192x14336 S2x256x14336 S16x15x64x64)
open Cert.KernelIdeal.Na (blk kst cse bIdx blo bdr blockV blockV_some blockV_none scC scL scC_apply scL_apply out_apply kst_le cse_le)
open Cert.ReferenceIdeal.Na (w0 w0_le w0_dist sL sC)

/-! ## Which key rows a query row sees -/

/-- The kernel's first key row is at or before the window's, by at most eight rows. -/
theorem kst_w0 (n : Fin 16) (qr : Fin 8) : kst n ≤ w0 (8 * n + qr) ∧ w0 (8 * n + qr) ≤ kst n + 8 := by
  revert n qr
  decide +kernel

theorem bIdx_in (n : Fin 16) (qr : Fin 8) (k : Fin 16) (j : Fin 8) (h : kst n + k = w0 (8 * n + qr) + j) :
    bIdx (cse n) qr k = some ⟨w0 (8 * n + qr) + j + 7 - (8 * n + qr), (w0_dist (by omega) j j.2).2⟩ := by
  revert n qr k j
  decide +kernel

theorem bIdx_out (n : Fin 16) (qr : Fin 8) (k : Fin 16) (h : ∀ j : Fin 8, kst n + k ≠ w0 (8 * n + qr) + j) :
    bIdx (cse n) qr k = none := by
  revert n qr k
  decide +kernel

/-! ## One row -/

theorem scale_sum (f g : Fin 128 → EReal) :
    ∑ x, (f x * Ideal.ofBits .f32 0x3DB504F3#32) * g x = (∑ x, f x * g x) * Ideal.ofBits .f32 0x3DB504F3#32 := by
  rw [sum_mul_real _ _ scale_real.1 scale_real.2.1]
  exact Finset.sum_congr rfl fun x _ => mul_right_comm _ _ _

theorem scL_at (Q K : Vec Ideal S1x8192x128 .bf16) (T : Vec Ideal S1x15x64x64 .f32) (n : Fin 16) (qr : Fin 8) (p : Fin 64) (k : Fin 16) (y : Fin 64) :
    scL Q K (Cert.KernelIdeal.Na.biasF T) n (ix2 ⟨64 * qr + p, by omega⟩ ⟨64 * k + y, by omega⟩)
      = (∑ x : Fin 128, Q (ix3 0 ⟨64 * (8 * n + qr) + p, by omega⟩ x) * K (ix3 0 ⟨64 * (kst n + k) + y, by have := kst_le n; omega⟩ x))
        + blockV T (bIdx (cse n) qr k) (ix2 p y) := by
  have hk := kst_le n
  rw [scL_apply]
  have e1 : (64 * qr.val + p.val) / 64 = qr := by omega
  have e2 : (64 * k.val + y.val) / 64 = k := by omega
  have e3 : (⟨(64 * qr.val + p.val) % 64, by omega⟩ : Fin 64) = p := Fin.ext (by simp only; omega)
  have e4 : (⟨(64 * k.val + y.val) % 64, by omega⟩ : Fin 64) = y := Fin.ext (by simp only; omega)
  have e5 : (⟨512 * n + (64 * qr + p), by omega⟩ : Fin 8192) = ⟨64 * (8 * n + qr) + p, by omega⟩ := Fin.ext (by simp only; omega)
  have e6 : (⟨64 * kst n + (64 * k + y), by omega⟩ : Fin 8192) = ⟨64 * (kst n + k) + y, by omega⟩ := Fin.ext (by simp only; omega)
  simp only [e1, e2, e3, e4, e5, e6]

variable (P : FVec Ideal S2x8192x14336 .bf16) (C : FVec Ideal S2x256x14336 .bf16) (B : FVec Ideal S16x15x64x64 .f32)

/-- A row of the kernel's block is the reference's row. -/
theorem row (hq : ∀ (b : Fin 2) (r : Fin 8192) (x : Fin 2048), Fin' (P (ix3 b r ⟨x, by omega⟩)))
    (hk : ∀ (b : Fin 2) (r : Fin 8192) (x : Fin 2048), Fin' (P (ix3 b r ⟨6144 + x, by omega⟩)))
    (hkc : ∀ (b : Fin 2) (r : Fin 256) (x : Fin 2048), Fin' (C (ix3 b r ⟨6144 + x, by omega⟩)))
    (hbias : ∀ (h : Fin 16) (d : Fin 15) (r x : Fin 64), B (ix4 h d r x) ≠ ⊤)
    (b : Fin 2) (h : Fin 16)
    (Q G K : Vec Ideal S1x8192x128 .bf16) (Kc : Vec Ideal S1x256x128 .bf16) (V : Vec Ideal S1x8192x128 .bf16) (Vc : Vec Ideal S1x256x128 .bf16) (T : Vec Ideal S1x15x64x64 .f32)
    (hQ : ∀ (r : Fin 8192) (x : Fin 128), Q (ix3 0 r x) = P (ix3 b r ⟨128 * h + x, by omega⟩) * Ideal.ofBits .f32 0x3DB504F3#32)
    (hG : ∀ (r : Fin 8192) (x : Fin 128), G (ix3 0 r x) = P (ix3 b r ⟨2048 + (128 * h + x), by omega⟩))
    (hK : ∀ (r : Fin 8192) (x : Fin 128), K (ix3 0 r x) = P (ix3 b r ⟨6144 + (128 * h + x), by omega⟩))
    (hV : ∀ (r : Fin 8192) (x : Fin 128), V (ix3 0 r x) = P (ix3 b r ⟨8192 + (128 * h + x), by omega⟩))
    (hKc : ∀ (r : Fin 256) (x : Fin 128), Kc (ix3 0 r x) = C (ix3 b r ⟨6144 + (128 * h + x), by omega⟩))
    (hVc : ∀ (r : Fin 256) (x : Fin 128), Vc (ix3 0 r x) = C (ix3 b r ⟨8192 + (128 * h + x), by omega⟩))
    (hT : ∀ (d : Fin 15) (r x : Fin 64), T (ix4 0 d r x) = B (ix4 h d r x))
    (n : Fin 16) (qr : Fin 8) (p : Fin 64) (d : Fin 128) :
    Cert.KernelIdeal.Na.out Q G K Kc (Cert.KernelIdeal.Na.v1F V) (Cert.KernelIdeal.Na.vc1F Vc) (Cert.KernelIdeal.Na.biasF T) (ix3 0 ⟨64 * (8 * n + qr) + p, by omega⟩ d)
      = Cert.ReferenceIdeal.Na.res P C B (ix3 b ⟨64 * (8 * n + qr) + p, by omega⟩ ⟨128 * h + d, by omega⟩) := by
  have hkst := kst_le n
  obtain ⟨hw1, hw2⟩ := kst_w0 n qr
  have hw0 := w0_le (8 * n + qr)
  obtain ⟨M, hM, eM⟩ := out_apply Q G K Kc V Vc (Cert.KernelIdeal.Na.biasF T) n ⟨64 * qr + p, by omega⟩ d
  obtain ⟨M', hM', eM'⟩ := Cert.ReferenceIdeal.Na.res_apply P C B b h ⟨8 * n + qr, by omega⟩ p d
  have erow : (⟨512 * n + (64 * qr + p), by omega⟩ : Fin 8192) = ⟨64 * (8 * n + qr) + p, by omega⟩ := Fin.ext (by simp only; omega)
  have ha : ∀ i, scC Q Kc n (ix2 ⟨64 * qr + p, by omega⟩ i) = sC P C b h ⟨8 * n + qr, by omega⟩ p i := fun i => by
    rw [scC_apply]
    simp only [erow, hQ, hKc]
    exact scale_sum _ _
  have hfin : ∀ i, Fin' (sC P C b h ⟨8 * n + qr, by omega⟩ p i) := fun i =>
    (Fin'.sum Finset.univ fun (x : Fin 128) => (hq b _ ⟨128 * h + x, by omega⟩).mul (hkc b i ⟨128 * h + x, by omega⟩)).mul scale_real.2
  have hnt : ∀ y, sL P B b h ⟨8 * n + qr, by omega⟩ p y ≠ ⊤ := fun y =>
    EReal.add_ne_top ((Fin'.sum Finset.univ fun (x : Fin 128) => (hq b _ ⟨128 * h + x, by omega⟩).mul (hk b _ ⟨128 * h + x, by omega⟩)).mul scale_real.2).1 (hbias _ _ _ _)
  let f : Fin 512 → Fin 1024 := fun y => ⟨64 * (w0 (8 * n + qr) - kst n) + y, by omega⟩
  have hf : Function.Injective f := fun y y' e => Fin.ext (by have := congrArg Fin.val e; simp only [f] at this; omega)
  have hs : ∀ y, scL Q K (Cert.KernelIdeal.Na.biasF T) n (ix2 ⟨64 * qr + p, by omega⟩ (f y)) = sL P B b h ⟨8 * n + qr, by omega⟩ p y := fun y => by
    have ef : f y = ⟨64 * (⟨w0 (8 * n + qr) - kst n + y / 64, by omega⟩ : Fin 16).val + (⟨y.val % 64, by omega⟩ : Fin 64).val, by simp only; omega⟩ :=
      Fin.ext (by simp only [f]; omega)
    rw [ef, scL_at, bIdx_in n qr _ ⟨y.val / 64, by omega⟩ (by simp only; omega), blockV_some, hT]
    simp only [hQ, hK]
    rw [scale_sum]
    have ek : (⟨64 * (kst n + (w0 (8 * n + qr) - kst n + y / 64)) + y % 64, by omega⟩ : Fin 8192) = ⟨64 * w0 (8 * n + qr) + y, by omega⟩ := Fin.ext (by simp only; omega)
    simp only [ek]
    rfl
  have hv : ∀ y, V (ix3 0 ⟨64 * kst n + f y, by omega⟩ d) = P (ix3 b ⟨64 * w0 (8 * n + qr) + y, by omega⟩ ⟨8192 + (128 * h + d), by omega⟩) := fun y => by
    have ek : (⟨64 * kst n + f y, by omega⟩ : Fin 8192) = ⟨64 * w0 (8 * n + qr) + y, by omega⟩ := Fin.ext (by simp only [f]; omega)
    rw [ek, hV]
  have hout : ∀ j, j ∉ Set.range f → scL Q K (Cert.KernelIdeal.Na.biasF T) n (ix2 ⟨64 * qr + p, by omega⟩ j) = ⊥ := fun j hj => by
    have ej : j = ⟨64 * (⟨j.val / 64, by omega⟩ : Fin 16).val + (⟨j.val % 64, by omega⟩ : Fin 64).val, by simp only; omega⟩ :=
      Fin.ext (by simp only; omega)
    rw [ej, scL_at, bIdx_out n qr _ (fun i hi => hj ⟨⟨64 * i + j.val % 64, by omega⟩, Fin.ext (by simp only [f] at hi ⊢; omega)⟩), blockV_none]
    exact EReal.add_bot _
  have key := row_eq (fun i => sC P C b h ⟨8 * n + qr, by omega⟩ p i) (fun i => C (ix3 b i ⟨8192 + (128 * h + d), by omega⟩))
    (fun y => sL P B b h ⟨8 * n + qr, by omega⟩ p y) (fun y => P (ix3 b ⟨64 * w0 (8 * n + qr) + y, by omega⟩ ⟨8192 + (128 * h + d), by omega⟩))
    (fun j => scL Q K (Cert.KernelIdeal.Na.biasF T) n (ix2 ⟨64 * qr + p, by omega⟩ j)) (fun j => V (ix3 0 ⟨64 * kst n + j, by omega⟩ d))
    f hf hs hv hout hfin hnt M M' (by simpa only [ha] using hM) hM'
  rw [erow] at eM
  rw [eM, eM']
  simp only [ha, hVc, hG]
  exact congrArg (· * _) key

end Cert.Na

namespace Cert.Proof

open Idealize.ShloMosaic Idealize.ShloMosaic.TcCoe Idealize.SL.Sem
open Cert.KernelIdeal.Na (a0 a1 a2 dats hd im final_eq outBlk run_quiescent)

/-- The result array of the kernel is the reference's result of the same arguments. -/
theorem result_eq (m : (ℓ : Loc Cert.KernelIdeal.nD Cert.KernelIdeal.τ Cert.KernelIdeal.sig) → Buf (Elt Ideal) ℓ) (hpre : Pre_KernelIdeal_scores_finite m) (c : Dev Cert.KernelIdeal.nD) :
    (dats m 0 c).arrAt 7 Cert.KernelIdeal.cfg0.N = Cert.ReferenceIdeal.Na.res (a0 m c) (a1 m c) (a2 m c) := by
  obtain ⟨hq, hk, hkc, hb⟩ := Cert.Pre_scores_finite.parts (a0 m c) (a1 m c) (a2 m c) (hpre c)
  refine final_eq m c _ fun t r d => ?_
  have e : r = ⟨64 * (8 * (⟨r.val / 512, by omega⟩ : Fin 16).val + (⟨r.val / 64 % 8, by omega⟩ : Fin 8).val) + (⟨r.val % 64, by omega⟩ : Fin 64).val, by simp only; omega⟩ :=
    Fin.ext (by simp only; omega)
  rw [e]
  exact Cert.Na.row (a0 m c) (a1 m c) (a2 m c) hq hk hkc hb (im t) (hd t) _ _ _ _ _ _ _
    (Cert.KernelIdeal.Na.iblk0_apply m c t) (Cert.KernelIdeal.Na.iblk1_apply m c t) (Cert.KernelIdeal.Na.iblk2_apply m c t) (Cert.KernelIdeal.Na.iblk3_apply m c t)
    (Cert.KernelIdeal.Na.iblk4_apply m c t) (Cert.KernelIdeal.Na.iblk5_apply m c t) (Cert.KernelIdeal.Na.iblk6_apply m c t) _ _ _ _

theorem run_value (m : (ℓ : Loc Cert.KernelIdeal.nD Cert.KernelIdeal.τ Cert.KernelIdeal.sig) → Buf (Elt Ideal) ℓ) (ρ : Dev Cert.KernelIdeal.nD → PrngReg) (hpre : Pre_KernelIdeal_scores_finite m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v7) = Cert.ReferenceIdeal.Na.res (a0 m c) (a1 m c) (a2 m c)) :=
  (θ_run Cert.KernelIdeal.defs _ _).mono (fun _ h c => (h.1.out_eq c 7).trans (result_eq m hpre c)) (run_quiescent m ρ)

theorem algebraic : Cert.algebraic_KernelIdeal_ReferenceIdeal_pre_scores_finite := fun m ρ m' ρ' hpre hag =>
  ⟨fun c => Cert.ReferenceIdeal.Na.res (a0 m c) (a1 m c) (a2 m c),
    (θ_run Cert.KernelIdeal.defs _ _).mono (fun _ h c => ⟨h.1 c, h.2.1 c⟩)
      (θ_run_and (run_value m ρ hpre) (Cert.KernelIdeal.Na.frame_any m ρ)),
    (θ_run Cert.ReferenceIdeal.defs _ _).mono
      (fun r h c => ⟨(h c).1.trans (by
        rw [Cert.ReferenceIdeal.Na.res_eq, (hag c).1, (hag c).2.1, (hag c).2.2]), (h c).2⟩)
      (Cert.ReferenceIdeal.Value.run (F := Ideal) m' ρ')⟩

end Cert.Proof

end
-- ==== Proof.OutValue.lean ====
/- The output projection of an even layer: what its result holds at an index, and that the reference's is the same. -/
module

public import proofs.«01_k».proof.Defs
public import proofs.«01_k».proof.Proof.Gen.KernelOutIdeal.Value
public import proofs.«01_k».proof.Proof.Gen.KernelOut
public import proofs.«01_k».proof.Proof.Gen.ReferenceOutIdeal.Run
public import Idealize.ShloMosaic.Lib.Pointwise
public import Idealize.ShloMosaic.Lib.Pipeline.Value
public import Idealize.ShloMosaic.Lib.Pipeline.ValueKit
public import Idealize.ShloMosaic.Lib.ValueIdx
public import Idealize.ShloMosaic.Lib.Claim

@[expose] public section

set_option maxRecDepth 16384

noncomputable section

namespace Cert.ReferenceOutIdeal.Val

open Idealize.ShloMosaic Idealize.SL.Sem Cert.ReferenceOutIdeal Facts₀ Facts

variable (ya yb : FVec Ideal S2x8192x2048 .bf16) (w : FVec Ideal S2x4096x2048 .f32) (x : FVec Ideal S2x8192x2048 .f32) (md : FVec Ideal S4x8x1x6144 .f32)

/-- The reference's result. -/
def res : FVec Ideal S16384x2048 .f32 :=
  shapeCast _ (addf x (mulf (broadcastInDim S2x8192x2048 ![0, 1, 2] bcast_S2x1x2048_S2x8192x2048_0_1_2 (broadcastInDim S2x1x2048 ![0, 2] bcast_S2x2048_S2x1x2048_0_2 (shapeCast _ (extractStridedSlice S1x2x1x2048 ![0, 0, 0, 4096] md slices_S4x8x1x6144_S1x2x1x2048_0_0_0_4096) shapeCasts_S1x2x1x2048_S2x2048)))
    (Host.dotGeneral dot_S2x8192x4096_S4096x2048_S2x8192x2048_2_0_01_1_n_n none (extf .f32 (concatenate S2x8192x4096 2 [⟨S2x8192x2048, ya⟩, ⟨S2x8192x2048, yb⟩] concatenates_S2x8192x2048_S2x8192x2048_S2x8192x4096_d2) bitsLt_bf16_f32)
      (shapeCast _ (extractStridedSlice S1x4096x2048 ![0, 0, 0] w slices_S2x4096x2048_S1x4096x2048_0_0_0) shapeCasts_S1x4096x2048_S4096x2048))))
    shapeCasts_S2x8192x2048_S16384x2048

/-- The residual plus the gate times the product of the two halves with the two halves of the weights. -/
theorem res_apply (r : Fin 16384) (n : Fin 2048) :
    res ya yb w x md (ix2 r n)
      = x (ix3 ⟨r / 8192, by omega⟩ ⟨r % 8192, by omega⟩ n)
        + md (ix4 0 ⟨r / 8192, by omega⟩ 0 ⟨4096 + n, by omega⟩)
          * ((∑ k : Fin 2048, ya (ix3 ⟨r / 8192, by omega⟩ ⟨r % 8192, by omega⟩ k) * w (ix3 0 ⟨k, by omega⟩ n))
            + ∑ k : Fin 2048, yb (ix3 ⟨r / 8192, by omega⟩ ⟨r % 8192, by omega⟩ k) * w (ix3 0 ⟨2048 + k, by omega⟩ n)) := by
  pointwise [res]

end Cert.ReferenceOutIdeal.Val

namespace Cert.KernelOutIdeal.Val

open Idealize.ShloMosaic Idealize.ShloMosaic.TcCoe Idealize.ShloMosaic.Tactic
open Idealize.SL.Sem Cert.KernelOutIdeal Cert.KernelOutIdeal.Gen

/-- A block of the result. -/
theorem out_apply (x0 x1 : Vec Ideal S1024x2048 .bf16) (x2 x3 : Vec Ideal S1x2048x512 .bf16) (x4 : Vec Ideal S1024x512 .f32) (x5 : Vec Ideal S1x1x1x512 .f32) (r : Fin 1024) (n : Fin 512) :
    out0_6 x0 x1 x2 x3 x4 x5 (ix2 r n)
      = x4 (ix2 r n) + x5 (ix4 0 0 0 n) * ((∑ k : Fin 2048, x0 (ix2 r k) * x2 (ix3 0 k n)) + ∑ k : Fin 2048, x1 (ix2 r k) * x3 (ix3 0 k n)) := by
  unfold out0_6
  rw [show View.canon [(⟨r0_2, k0_pay1 (View.ld x0 r0_0) (View.ld x2 r0_1) (View.ld x1 r0_0) (View.ld x3 r0_1) (View.ld x4 r0_2) (View.ld x5 r0_3)⟩ : View.Piece (Elt Ideal) S1024x512 .f32)] = _ from
    View.canon_cons_unit_lit _ _ _ (by decide)]
  rw [show View.ld x0 r0_0 = x0 from View.ld_unit_lit _ _ (by decide), show View.ld x1 r0_0 = x1 from View.ld_unit_lit _ _ (by decide),
    show View.ld x2 r0_1 = x2 from View.ld_unit_lit _ _ (by decide), show View.ld x3 r0_1 = x3 from View.ld_unit_lit _ _ (by decide),
    show View.ld x4 r0_2 = x4 from View.ld_unit_lit _ _ (by decide), show View.ld x5 r0_3 = x5 from View.ld_unit_lit _ _ (by decide)]
  pointwise [k0_pay1]

variable (m : (ℓ : Loc nD τ sig) → Buf (Elt Ideal) ℓ) (c : Dev nD)

theorem index0 : ∀ t : Fin grid0.N, win0_0.index t = ![t.val / 4, 0] := by decide +kernel
theorem index1 : ∀ t : Fin grid0.N, win0_1.index t = ![t.val / 4, 0] := by decide +kernel
theorem index2 : ∀ t : Fin grid0.N, win0_2.index t = ![0, 0, t.val % 4] := by decide +kernel
theorem index3 : ∀ t : Fin grid0.N, win0_3.index t = ![0, 1, t.val % 4] := by decide +kernel
theorem index4 : ∀ t : Fin grid0.N, win0_4.index t = ![t.val / 4, t.val % 4] := by decide +kernel
theorem index5 : ∀ t : Fin grid0.N, win0_5.index t = ![0, t.val / 32, 0, 8 + t.val % 4] := by decide +kernel
theorem index6 : ∀ t : Fin grid0.N, win0_6.index t = ![t.val / 4, t.val % 4] := by decide +kernel

theorem lt64 (t : Fin cfg0.N) : t.val < 64 := Nat.lt_of_lt_of_eq t.isLt N_0

/-- The rows and columns of a point. -/
def row (t : Fin cfg0.N) (r : Fin 1024) : Fin 16384 := ⟨1024 * (t.val / 4) + r, by have := lt64 t; omega⟩
def col (t : Fin cfg0.N) (n : Fin 512) : Fin 2048 := ⟨512 * (t.val % 4) + n, by omega⟩

abbrev a0 : FVec Ideal S2x8192x2048 .bf16 := m ((c : Thread nD τ).loc main_arg0)
abbrev a1 : FVec Ideal S2x8192x2048 .bf16 := m ((c : Thread nD τ).loc main_arg1)
abbrev a2 : FVec Ideal S2x4096x2048 .f32 := m ((c : Thread nD τ).loc main_arg2)
abbrev a3 : FVec Ideal S2x8192x2048 .f32 := m ((c : Thread nD τ).loc main_arg3)
abbrev a4 : FVec Ideal S4x8x1x6144 .f32 := m ((c : Thread nD τ).loc main_arg4)

theorem V0_apply (r : Fin 16384) (k : Fin 2048) : V m c main_v0 (ix2 r k) = a0 m c (ix3 ⟨r / 8192, by omega⟩ ⟨r % 8192, by omega⟩ k) := by
  entry_read; pointwise
theorem V1_apply (r : Fin 16384) (k : Fin 2048) : V m c main_v1 (ix2 r k) = a1 m c (ix3 ⟨r / 8192, by omega⟩ ⟨r % 8192, by omega⟩ k) := by
  entry_read; pointwise
theorem V2_apply (l : Fin 2) (k : Fin 4096) (n : Fin 2048) : V m c main_v2 (ix3 l k n) = a2 m c (ix3 l k n) := by
  entry_read; pointwise
theorem V3_apply (r : Fin 16384) (n : Fin 2048) : V m c main_v3 (ix2 r n) = a3 m c (ix3 ⟨r / 8192, by omega⟩ ⟨r % 8192, by omega⟩ n) := by
  entry_read; pointwise

theorem emb0 (t : Fin cfg0.N) (r : Fin 1024) (k : Fin 2048) : (win0_0.blk t).view.emb (ix2 r k) = ix2 (row t r) k := by
  unfold row; blk_ext [index0 t]
theorem emb1 (t : Fin cfg0.N) (r : Fin 1024) (k : Fin 2048) : (win0_1.blk t).view.emb (ix2 r k) = ix2 (row t r) k := by
  unfold row; blk_ext [index1 t]
theorem emb2 (t : Fin cfg0.N) (k : Fin 2048) (n : Fin 512) : (win0_2.blk t).view.emb (ix3 0 k n) = ix3 0 ⟨k, by omega⟩ (col t n) := by
  unfold col; blk_ext [index2 t]
theorem emb3 (t : Fin cfg0.N) (k : Fin 2048) (n : Fin 512) : (win0_3.blk t).view.emb (ix3 0 k n) = ix3 0 ⟨2048 + k, by omega⟩ (col t n) := by
  unfold col; blk_ext [index3 t]
theorem emb4 (t : Fin cfg0.N) (r : Fin 1024) (n : Fin 512) : (win0_4.blk t).view.emb (ix2 r n) = ix2 (row t r) (col t n) := by
  unfold row col; blk_ext [index4 t]
theorem emb6 (t : Fin cfg0.N) (r : Fin 1024) (n : Fin 512) : (win0_6.blk t).view.emb (ix2 r n) = ix2 (row t r) (col t n) := by
  unfold row col; blk_ext [index6 t]

theorem iblk5_apply (t : Fin cfg0.N) (n : Fin 512) :
    iblk m c 5 t (ix4 0 0 0 n) = a4 m c (ix4 0 ⟨row t 0 / 8192, by omega⟩ 0 ⟨4096 + col t n, by omega⟩) := by
  have ht := lt64 t
  have e : (row t 0 : ℕ) / 8192 = t.val / 32 := by unfold row; simp only [Fin.coe_ofNat_eq_mod]; omega
  simp only [e]
  unfold col
  blk_ext [iblk, V_main_arg4, index5 t]

theorem result_eq : (dats m 0 c).arrAt 6 cfg0.N = Cert.ReferenceOutIdeal.Val.res (a0 m c) (a1 m c) (a2 m c) (a3 m c) (a4 m c) := by
  refine (dats m 0 c).arrAt_eq_of_covers 6 _ (by decide +kernel) fun t _ y => ?_
  blk_simp
  rw [after0_6, eq_ix2 y]
  generalize y 0 = r
  generalize y 1 = n
  refine Eq.trans ?_ (congrArg _ (emb6 t r n).symm)
  rw [Cert.ReferenceOutIdeal.Val.res_apply]
  refine (out_apply _ _ _ _ _ _ r n).trans ?_
  have e0 : ∀ k, iblk m c 0 t (ix2 r k) = _ := fun k => (congrArg (V m c main_v0) (emb0 t r k)).trans (V0_apply m c _ _)
  have e1 : ∀ k, iblk m c 1 t (ix2 r k) = _ := fun k => (congrArg (V m c main_v1) (emb1 t r k)).trans (V1_apply m c _ _)
  have e2 : ∀ k, iblk m c 2 t (ix3 0 k n) = _ := fun k => (congrArg (V m c main_v2) (emb2 t k n)).trans (V2_apply m c _ _ _)
  have e3 : ∀ k, iblk m c 3 t (ix3 0 k n) = _ := fun k => (congrArg (V m c main_v2) (emb3 t k n)).trans (V2_apply m c _ _ _)
  have e4 : iblk m c 4 t (ix2 r n) = _ := (congrArg (V m c main_v3) (emb4 t r n)).trans (V3_apply m c _ _)
  have ht := lt64 t
  have er : (row t 0 : ℕ) / 8192 = row t r / 8192 := by unfold row; simp only [Fin.coe_ofNat_eq_mod]; omega
  have e5 := iblk5_apply m c t n
  simp only [er] at e5
  simp only [e0, e1, e2, e3, e4, e5]

end Cert.KernelOutIdeal.Val

namespace Cert.Proof

open Idealize.ShloMosaic Idealize.ShloMosaic.TcCoe Idealize.SL.Sem

theorem frame_out_ideal : Cert.quiescent_KernelOutIdeal := fun m ρ _ => Cert.KernelOutIdeal.Gen.frame m ρ

/-- At the bit patterns the two kernel programs have the same body, label by label. -/
theorem bodies_out_eq : @Cert.KernelOut.defs₀ Bits _ _ = @Cert.KernelOutIdeal.defs₀ Bits _ _ := by
  unfold Cert.KernelOut.defs₀ Cert.KernelOutIdeal.defs₀
  refine congrArg Defs.onTc ?_
  funext l a
  match l, a with
  | 0, (t, s) => rfl
  | ⟨_ + 1, h⟩, _ => exact absurd h (Nat.not_lt.2 (Nat.le_add_left _ _))

theorem defs_out_eq : @Cert.KernelOut.defs Bits _ _ = @Cert.KernelOutIdeal.defs Bits _ _ :=
  congrArg (Pipeline.defs (Cert.KernelOutIdeal.pcfgs (F := Bits))) bodies_out_eq

theorem frame_out : Cert.quiescent_KernelOut := fun m ρ _ => by
  rw [defs_out_eq]
  exact Cert.KernelOutIdeal.Gen.frame (F := Bits) m ρ

theorem frame_reference_out : Cert.quiescent_ReferenceOutIdeal := fun m ρ _ =>
  (θ_run Cert.ReferenceOutIdeal.defs _ _).mono
    (fun r h => ⟨fun c => (h c).2, sem_eq_zero_of_no_sems (by decide) r.2⟩) (Cert.ReferenceOutIdeal.Value.run (F := Ideal) m ρ)

open Cert.KernelOutIdeal.Val (a0 a1 a2 a3 a4 result_eq) in
theorem algebraic_out : Cert.algebraic_KernelOutIdeal_ReferenceOutIdeal := fun m ρ m' ρ' _ hag =>
  ⟨fun c => Cert.ReferenceOutIdeal.Val.res (a0 m c) (a1 m c) (a2 m c) (a3 m c) (a4 m c),
    (θ_run Cert.KernelOutIdeal.defs _ _).mono (fun _ h c => ⟨(h c).1.trans (result_eq m c), (h c).2⟩)
      (Cert.KernelOutIdeal.Value.run_blocks m ρ),
    (θ_run Cert.ReferenceOutIdeal.defs _ _).mono
      (fun r h c => ⟨(h c).1.trans (by
        rw [(hag c).1, (hag c).2.1, (hag c).2.2.1, (hag c).2.2.2.1, (hag c).2.2.2.2]; rfl), (h c).2⟩)
      (Cert.ReferenceOutIdeal.Value.run (F := Ideal) m' ρ')⟩

end Cert.Proof

end
-- ==== Proof.LastValue.lean ====
/- The output projection of the last layer: what its result holds at an index, and that the reference's is the same. -/
module

public import proofs.«01_k».proof.Defs
public import proofs.«01_k».proof.Proof.Gen.KernelLastIdeal.Value
public import proofs.«01_k».proof.Proof.Gen.KernelLast
public import proofs.«01_k».proof.Proof.Gen.ReferenceLastIdeal.Run
public import Idealize.ShloMosaic.Lib.Pointwise
public import Idealize.ShloMosaic.Lib.Pipeline.Value
public import Idealize.ShloMosaic.Lib.Pipeline.ValueKit
public import Idealize.ShloMosaic.Lib.ValueIdx
public import Idealize.ShloMosaic.Lib.Claim

@[expose] public section

set_option maxRecDepth 16384

noncomputable section

namespace Cert.ReferenceLastIdeal.Val

open Idealize.ShloMosaic Idealize.SL.Sem Cert.ReferenceLastIdeal Facts₀ Facts

variable (z : FVec Ideal S2x8192x2048 .bf16) (w : FVec Ideal S2x2048x2048 .f32) (x : FVec Ideal S2x8192x2048 .f32) (md : FVec Ideal S4x8x1x6144 .f32)

/-- The reference's result. -/
def res : FVec Ideal S16384x2048 .f32 :=
  shapeCast _ (addf x (mulf (broadcastInDim S2x8192x2048 ![0, 1, 2] bcast_S2x1x2048_S2x8192x2048_0_1_2 (broadcastInDim S2x1x2048 ![0, 2] bcast_S2x2048_S2x1x2048_0_2 (shapeCast _ (extractStridedSlice S1x2x1x2048 ![3, 0, 0, 4096] md slices_S4x8x1x6144_S1x2x1x2048_3_0_0_4096) shapeCasts_S1x2x1x2048_S2x2048)))
    (Host.dotGeneral dot_S2x8192x2048_S2048x2048_S2x8192x2048_2_0_01_1_n_n none (extf .f32 z bitsLt_bf16_f32)
      (shapeCast _ (extractStridedSlice S1x2048x2048 ![1, 0, 0] w slices_S2x2048x2048_S1x2048x2048_1_0_0) shapeCasts_S1x2048x2048_S2048x2048))))
    shapeCasts_S2x8192x2048_S16384x2048

/-- The residual plus the gate times the product with the layer's weights. -/
theorem res_apply (r : Fin 16384) (n : Fin 2048) :
    res z w x md (ix2 r n)
      = x (ix3 ⟨r / 8192, by omega⟩ ⟨r % 8192, by omega⟩ n)
        + md (ix4 3 ⟨r / 8192, by omega⟩ 0 ⟨4096 + n, by omega⟩)
          * (∑ k : Fin 2048, z (ix3 ⟨r / 8192, by omega⟩ ⟨r % 8192, by omega⟩ k) * w (ix3 1 k n)) := by
  pointwise [res]

end Cert.ReferenceLastIdeal.Val

namespace Cert.KernelLastIdeal.Val

open Idealize.ShloMosaic Idealize.ShloMosaic.TcCoe Idealize.ShloMosaic.Tactic
open Idealize.SL.Sem Cert.KernelLastIdeal Cert.KernelLastIdeal.Gen

/-- A block of the result. -/
theorem out_apply (x0 : Vec Ideal S2048x2048 .bf16) (x1 : Vec Ideal S1x2048x512 .f32) (x2 : Vec Ideal S2048x512 .f32) (x3 : Vec Ideal S1x1x1x512 .f32) (r : Fin 2048) (n : Fin 512) :
    out0_4 x0 x1 x2 x3 (ix2 r n)
      = x2 (ix2 r n) + x3 (ix4 0 0 0 n) * (∑ k : Fin 2048, x0 (ix2 r k) * x1 (ix3 0 k n)) := by
  unfold out0_4
  rw [show View.canon [(⟨r0_2, k0_pay1 (View.ld x0 r0_0) (View.ld x1 r0_1) (View.ld x2 r0_2) (View.ld x3 r0_3)⟩ : View.Piece (Elt Ideal) S2048x512 .f32)] = _ from
    View.canon_cons_unit_lit _ _ _ (by decide)]
  rw [show View.ld x0 r0_0 = x0 from View.ld_unit_lit _ _ (by decide), show View.ld x1 r0_1 = x1 from View.ld_unit_lit _ _ (by decide),
    show View.ld x2 r0_2 = x2 from View.ld_unit_lit _ _ (by decide), show View.ld x3 r0_3 = x3 from View.ld_unit_lit _ _ (by decide)]
  pointwise [k0_pay1]

variable (m : (ℓ : Loc nD τ sig) → Buf (Elt Ideal) ℓ) (c : Dev nD)

theorem index0 : ∀ t : Fin grid0.N, win0_0.index t = ![t.val / 4, 0] := by decide +kernel
theorem index1 : ∀ t : Fin grid0.N, win0_1.index t = ![1, 0, t.val % 4] := by decide +kernel
theorem index2 : ∀ t : Fin grid0.N, win0_2.index t = ![t.val / 4, t.val % 4] := by decide +kernel
theorem index3 : ∀ t : Fin grid0.N, win0_3.index t = ![3, t.val / 16, 0, 8 + t.val % 4] := by decide +kernel
theorem index4 : ∀ t : Fin grid0.N, win0_4.index t = ![t.val / 4, t.val % 4] := by decide +kernel

theorem lt32 (t : Fin cfg0.N) : t.val < 32 := Nat.lt_of_lt_of_eq t.isLt N_0

/-- The rows and columns of a point. -/
def row (t : Fin cfg0.N) (r : Fin 2048) : Fin 16384 := ⟨2048 * (t.val / 4) + r, by have := lt32 t; omega⟩
def col (t : Fin cfg0.N) (n : Fin 512) : Fin 2048 := ⟨512 * (t.val % 4) + n, by omega⟩

abbrev a0 : FVec Ideal S2x8192x2048 .bf16 := m ((c : Thread nD τ).loc main_arg0)
abbrev a1 : FVec Ideal S2x2048x2048 .f32 := m ((c : Thread nD τ).loc main_arg1)
abbrev a2 : FVec Ideal S2x8192x2048 .f32 := m ((c : Thread nD τ).loc main_arg2)
abbrev a3 : FVec Ideal S4x8x1x6144 .f32 := m ((c : Thread nD τ).loc main_arg3)

theorem V0_apply (r : Fin 16384) (k : Fin 2048) : V m c main_v0 (ix2 r k) = a0 m c (ix3 ⟨r / 8192, by omega⟩ ⟨r % 8192, by omega⟩ k) := by
  entry_read; pointwise
theorem V1_apply (r : Fin 16384) (n : Fin 2048) : V m c main_v1 (ix2 r n) = a2 m c (ix3 ⟨r / 8192, by omega⟩ ⟨r % 8192, by omega⟩ n) := by
  entry_read; pointwise

theorem emb0 (t : Fin cfg0.N) (r : Fin 2048) (k : Fin 2048) : (win0_0.blk t).view.emb (ix2 r k) = ix2 (row t r) k := by
  unfold row; blk_ext [index0 t]
theorem emb2 (t : Fin cfg0.N) (r : Fin 2048) (n : Fin 512) : (win0_2.blk t).view.emb (ix2 r n) = ix2 (row t r) (col t n) := by
  unfold row col; blk_ext [index2 t]
theorem emb4 (t : Fin cfg0.N) (r : Fin 2048) (n : Fin 512) : (win0_4.blk t).view.emb (ix2 r n) = ix2 (row t r) (col t n) := by
  unfold row col; blk_ext [index4 t]

theorem iblk1_apply (t : Fin cfg0.N) (k : Fin 2048) (n : Fin 512) : iblk m c 1 t (ix3 0 k n) = a1 m c (ix3 1 k (col t n)) := by
  unfold col; blk_ext [iblk, V_main_arg1, index1 t]

theorem iblk3_apply (t : Fin cfg0.N) (n : Fin 512) :
    iblk m c 3 t (ix4 0 0 0 n) = a3 m c (ix4 3 ⟨row t 0 / 8192, by omega⟩ 0 ⟨4096 + col t n, by omega⟩) := by
  have ht := lt32 t
  have e : (row t 0 : ℕ) / 8192 = t.val / 16 := by unfold row; simp only [Fin.coe_ofNat_eq_mod]; omega
  simp only [e]
  unfold col
  blk_ext [iblk, V_main_arg3, index3 t]

theorem result_eq : (dats m 0 c).arrAt 4 cfg0.N = Cert.ReferenceLastIdeal.Val.res (a0 m c) (a1 m c) (a2 m c) (a3 m c) := by
  refine (dats m 0 c).arrAt_eq_of_covers 4 _ (by decide +kernel) fun t _ y => ?_
  blk_simp
  rw [after0_4, eq_ix2 y]
  generalize y 0 = r
  generalize y 1 = n
  refine Eq.trans ?_ (congrArg _ (emb4 t r n).symm)
  rw [Cert.ReferenceLastIdeal.Val.res_apply]
  refine (out_apply _ _ _ _ r n).trans ?_
  have e0 : ∀ k, iblk m c 0 t (ix2 r k) = _ := fun k => (congrArg (V m c main_v0) (emb0 t r k)).trans (V0_apply m c _ _)
  have e1 : ∀ k, iblk m c 1 t (ix3 0 k n) = _ := fun k => iblk1_apply m c t k n
  have e2 : iblk m c 2 t (ix2 r n) = _ := (congrArg (V m c main_v1) (emb2 t r n)).trans (V1_apply m c _ _)
  have ht := lt32 t
  have er : (row t 0 : ℕ) / 8192 = row t r / 8192 := by unfold row; simp only [Fin.coe_ofNat_eq_mod]; omega
  have e3 := iblk3_apply m c t n
  simp only [er] at e3
  simp only [e0, e1, e2, e3]

end Cert.KernelLastIdeal.Val

namespace Cert.Proof

open Idealize.ShloMosaic Idealize.ShloMosaic.TcCoe Idealize.SL.Sem

theorem frame_last_ideal : Cert.quiescent_KernelLastIdeal := fun m ρ _ => Cert.KernelLastIdeal.Gen.frame m ρ

/-- At the bit patterns the two kernel programs have the same body, label by label. -/
theorem bodies_last_eq : @Cert.KernelLast.defs₀ Bits _ _ = @Cert.KernelLastIdeal.defs₀ Bits _ _ := by
  unfold Cert.KernelLast.defs₀ Cert.KernelLastIdeal.defs₀
  refine congrArg Defs.onTc ?_
  funext l a
  match l, a with
  | 0, (t, s) => rfl
  | ⟨_ + 1, h⟩, _ => exact absurd h (Nat.not_lt.2 (Nat.le_add_left _ _))

theorem defs_last_eq : @Cert.KernelLast.defs Bits _ _ = @Cert.KernelLastIdeal.defs Bits _ _ :=
  congrArg (Pipeline.defs (Cert.KernelLastIdeal.pcfgs (F := Bits))) bodies_last_eq

theorem frame_last : Cert.quiescent_KernelLast := fun m ρ _ => by
  rw [defs_last_eq]
  exact Cert.KernelLastIdeal.Gen.frame (F := Bits) m ρ

theorem frame_reference_last : Cert.quiescent_ReferenceLastIdeal := fun m ρ _ =>
  (θ_run Cert.ReferenceLastIdeal.defs _ _).mono
    (fun r h => ⟨fun c => (h c).2, sem_eq_zero_of_no_sems (by decide) r.2⟩) (Cert.ReferenceLastIdeal.Value.run (F := Ideal) m ρ)

open Cert.KernelLastIdeal.Val (a0 a1 a2 a3 result_eq) in
theorem algebraic_last : Cert.algebraic_KernelLastIdeal_ReferenceLastIdeal := fun m ρ m' ρ' _ hag =>
  ⟨fun c => Cert.ReferenceLastIdeal.Val.res (a0 m c) (a1 m c) (a2 m c) (a3 m c),
    (θ_run Cert.KernelLastIdeal.defs _ _).mono (fun _ h c => ⟨(h c).1.trans (result_eq m c), (h c).2⟩)
      (Cert.KernelLastIdeal.Value.run_blocks m ρ),
    (θ_run Cert.ReferenceLastIdeal.defs _ _).mono
      (fun r h c => ⟨(h c).1.trans (by
        rw [(hag c).1, (hag c).2.1, (hag c).2.2.1, (hag c).2.2.2]; rfl), (h c).2⟩)
      (Cert.ReferenceLastIdeal.Value.run (F := Ideal) m' ρ')⟩

end Cert.Proof

end
-- ==== Proof.ProjSpec.lean ====
/- What one grid point of the input projection leaves in its buffers: the normalized, modulated rows of a row block; the
   column tiles whose heads are normalized; the plain column tiles. -/
module

public import proofs.«01_k».proof.Proof.Gen.KernelProjectIdeal.Loops
public import Idealize.ShloMosaic.Lib.VecWindow
public import Idealize.ShloMosaic.Lib.Pointwise
public import Idealize.ShloMosaic.Lib.Pipeline.Value

@[expose] public section

set_option maxRecDepth 16384

noncomputable section

namespace Cert.KernelProjectIdeal.Proj

open Idealize.ShloMosaic Idealize.ShloMosaic.TcCoe Idealize.ShloMosaic.Tactic
open Cert.KernelProjectIdeal.Gen

variable {F : FTy → Type} [FloatOps F]

theorem rows_inb (k : ℕ) (hk : k < 16) : ∀ a, (![128 * k, 0] : Fin 2 → ℕ) a + S128x2048.size a ≤ S2048x2048.size a := by
  intro a; fin_cases a
  · show 128 * k + 128 ≤ 2048; omega
  · show 0 + 2048 ≤ 2048; omega

/-- The `k`-th 128 rows of a row block. -/
def rowsAt (x : Vec F S2048x2048 .f32) (k : ℕ) (hk : k < 16) : Vec F S128x2048 .f32 := VecWindow.window x ![128 * k, 0] S128x2048.size (rows_inb k hk)

/-- The normalized, modulated rows of a row block. -/
def hF (x : Vec F S2048x2048 .f32) (sh sc : Vec F S1x1x1x2048 .f32) (g : Vec F S1x2048 .f32) : Vec F S2048x2048 .bf16 := fun y =>
  k0_pay1 g sc sh (rowsAt x ((y 0).val / 128) (by have h : (y 0).val < 2048 := (y 0).isLt; omega)) (ix2 ⟨(y 0).val % 128, Nat.mod_lt _ (by decide)⟩ (y 1))

/-- What a trip stores is those rows of it. -/
theorem hF_piece (x : Vec F S2048x2048 .f32) (sh sc : Vec F S1x1x1x2048 .f32) (g : Vec F S1x2048 .f32) (k : ℕ) (hk : k < 16) (off : Fin 2 → ℕ) (hoff : off = ![128 * k, 0])
    (w : Vec F S128x2048 .f32) (hw : w = rowsAt x k hk) (inb : ∀ a, off a + S128x2048.size a ≤ S2048x2048.size a) (z : S128x2048.Idx) :
    k0_pay1 g sc sh w z = hF x sh sc g ((Rect.unit (s := S2048x2048) off S128x2048.size inb).emb z) := by
  subst hoff hw
  have h0 : (z 0).val < 128 := (z 0).isLt
  have e0 : (((Rect.unit (s := S2048x2048) ![128 * k, 0] S128x2048.size inb).emb z) 0).val = 128 * k + (z 0).val := by
    show 128 * k + 1 * (z 0).val = _; omega
  have e1 : ((Rect.unit (s := S2048x2048) ![128 * k, 0] S128x2048.size inb).emb z) 1 = z 1 := Fin.ext (by show 0 + 1 * (z 1).val = _; omega)
  unfold hF
  have key : ∀ (k' : ℕ) (h' : k' < 16) (r : Fin 128) (c : Fin 2048), k' = k → r = z 0 → c = z 1 → k0_pay1 g sc sh (rowsAt x k hk) z = k0_pay1 g sc sh (rowsAt x k' h') (ix2 r c) := by
    intro k' h' r c a b d; subst a b d; exact congrArg _ (eq_ix2 z)
  exact key _ _ _ _ (by rw [e0]; omega) (Fin.ext (by show _ % 128 = _; rw [e0]; omega)) e1

theorem slices_blk (a b : ℕ) (ha : a < 8) (hb : b < 4) : S2048x512.Slices ![256 * a, 128 * b] S256x128 := ⟨rfl, by
  intro x; fin_cases x
  · show 256 * a + 256 ≤ 2048; omega
  · show 128 * b + 128 ≤ 512; omega⟩
theorem slices_gain (b : ℕ) (hb : b < 4) : S1x512.Slices ![0, 128 * b] S1x128 := ⟨rfl, by
  intro x; fin_cases x
  · show 0 + 1 ≤ 1; omega
  · show 128 * b + 128 ≤ 512; omega⟩

/-- The rows `256a …` of the head `b` of a tile, normalized. -/
def headBlk (v19 : FVec F S2048x512 .f32) (v24 : FVec F S1x512 .f32) (a b : ℕ) (ha : a < 8) (hb : b < 4) : FVec F S256x128 .bf16 :=
  have x : FVec F S256x128 .f32 := extractStridedSlice S256x128 ![256 * a, 128 * b] v19 (slices_blk a b ha hb)
  have xx : FVec F S256x128 .f32 := mulf x x
  have ssum : FVec F S256 .f32 := multiReduction .add [1] S256 xx 0x00000000#32 reduces_S256x128_S256 (.inl rfl) rfl
  have scol : FVec F S256x1 .f32 := shapeCast S256x1 ssum shapeCasts_S256_S256x1
  have n128 : F .f32 := Scalar.ofBits .f32 0x43000000#32
  have nb : FVec F S256x1 .f32 := broadcast S256x1 n128
  have mean : FVec F S256x1 .f32 := divf scol nb
  have eps : F .f32 := Scalar.ofBits .f32 0x358637BD#32
  have epsb : FVec F S256x1 .f32 := broadcast S256x1 eps
  have reg : FVec F S256x1 .f32 := addf mean epsb
  have inv : FVec F S256x1 .f32 := rsqrt reg
  have invb : FVec F S256x128 .f32 := broadcastTo S256x128 inv broadcasts_S256x1_S256x128
  have xn : FVec F S256x128 .f32 := mulf x invb
  have g : FVec F S1x128 .f32 := extractStridedSlice S1x128 ![0, 128 * b] v24 (slices_gain b hb)
  have gb : FVec F S256x128 .f32 := broadcastTo S256x128 g broadcasts_S1x128_S256x128
  have y : FVec F S256x128 .f32 := mulf xn gb
  have out : FVec F S256x128 .bf16 := truncf .bf16 y bitsLt_bf16_f32
  out

/-- The tile, its heads normalized. -/
def normF (v19 : FVec F S2048x512 .f32) (v24 : FVec F S1x512 .f32) : Vec F S2048x512 .bf16 := fun y =>
  headBlk v19 v24 ((y 0).val / 256) ((y 1).val / 128) (by have h : (y 0).val < 2048 := (y 0).isLt; omega) (by have h : (y 1).val < 512 := (y 1).isLt; omega)
    (ix2 ⟨(y 0).val % 256, Nat.mod_lt _ (by decide)⟩ ⟨(y 1).val % 128, Nat.mod_lt _ (by decide)⟩)

/-- What is stored at a place of the tile is that part of it. -/
theorem norm_piece (v19 : FVec F S2048x512 .f32) (v24 : FVec F S1x512 .f32) (a b : ℕ) (ha : a < 8) (hb : b < 4) (w : FVec F S256x128 .bf16) (hw : w = headBlk v19 v24 a b ha hb)
    (inb : ∀ x, (![256 * a, 128 * b] : Fin 2 → ℕ) x + S256x128.size x ≤ S2048x512.size x) (z : S256x128.Idx) :
    w z = normF v19 v24 ((Rect.unit (s := S2048x512) ![256 * a, 128 * b] S256x128.size inb).emb z) := by
  subst hw
  have h0 : (z 0).val < 256 := (z 0).isLt
  have h1 : (z 1).val < 128 := (z 1).isLt
  have e0 : (((Rect.unit (s := S2048x512) ![256 * a, 128 * b] S256x128.size inb).emb z) 0).val = 256 * a + (z 0).val := by
    show 256 * a + 1 * (z 0).val = _; omega
  have e1 : (((Rect.unit (s := S2048x512) ![256 * a, 128 * b] S256x128.size inb).emb z) 1).val = 128 * b + (z 1).val := by
    show 128 * b + 1 * (z 1).val = _; omega
  unfold normF
  have key : ∀ (a' b' : ℕ) (ha' : a' < 8) (hb' : b' < 4) (r : Fin 256) (c : Fin 128), a' = a → b' = b → r = z 0 → c = z 1 → headBlk v19 v24 a b ha hb z = headBlk v19 v24 a' b' ha' hb' (ix2 r c) := by
    intro a' b' ha' hb' r c p q u v; subst p q u v; exact congrArg _ (eq_ix2 z)
  exact key _ _ _ _ _ _ (by rw [e0]; omega) (by rw [e1]; omega) (Fin.ext (by show _ % 256 = _; rw [e0]; omega)) (Fin.ext (by show _ % 128 = _; rw [e1]; omega))

/-- Whether the tile is one of the queries. -/
def isQuery (i : grid0.Coords) : BitVec 1 := Scalar.andi (Scalar.cmpi .sge (BitVec.ofNat 32 (i 1).val) 0#32) (Scalar.cmpi .slt (BitVec.ofNat 32 (i 1).val) 4#32)

/-- A buffer whose pieces all agree with `G` where they lie and cover it reads `G`. -/
theorem read_of_pieces {sp : Space} {s : Shape} {e : EltTy} (v : View sig .tc sp s e) (f : v.ty.Contents (Elt F)) (L : List (View.Piece (Elt F) s e)) (G : s.Idx → Elt F e)
    (hG : ∀ p ∈ L, ∀ x, p.2 x = G (p.1.emb x)) (hc : ∀ y, ∃ p ∈ L, y ∈ p.1.set) : v.read (Elt F) (v.writes (Elt F) f L) = G :=
  funext fun y => v.read_writes_apply_of_pieces f G L hG y (hc y)

/-- A buffer stored whole reads what was stored. -/
theorem read_whole {sp : Space} {s : Shape} {e : EltTy} (v : View sig .tc sp s e) (f : v.ty.Contents (Elt F)) {off : Fin s.rank → ℕ} (inb : ∀ a, off a + s.size a ≤ s.size a) (w : s.Idx → Elt F e) :
    v.read (Elt F) (v.writes (Elt F) f [⟨Rect.unit off s.size inb, w⟩]) = w := by
  have he : ∀ x : s.Idx, (Rect.unit off s.size inb).emb x = x := fun x => funext fun a => Fin.ext (by
    show off a + 1 * (x a).val = (x a).val
    have := inb a; omega)
  funext y
  refine View.read_writes_apply_of_pieces _ _ w _ ?_ y ⟨_, List.mem_cons_self, (Rect.mem_set_unit (inb := inb)).mpr fun a => ⟨by have := inb a; omega, Nat.lt_of_lt_of_le (y a).isLt (Nat.le_add_left _ _)⟩⟩
  simp only [List.forall_mem_cons, List.not_mem_nil, false_imp_iff, implies_true, and_true]
  exact fun x => (congrArg w (he x)).symm

/-! ## The loop over the rows -/

theorem off1_eq : ∀ k : Fin k0_t1_loop.trips, k0_off1 k = ![128 * k.val, 0] := by decide +kernel
theorem trips_eq : k0_t1_loop.trips = 16 := by decide +kernel

section
variable (𝒱 : Variants) (c : Dev nD) (bd : Option 𝒱.V) (i : grid0.Coords) (arg2 : Memref sig .tc .vmem S2048x2048 .f32) (harg2 : arg2.IsWhole) (arg3 : Memref sig .tc .vmem S1x1x1x2048 .f32) (harg3 : arg3.IsWhole) (arg4 : Memref sig .tc .vmem S1x1x1x2048 .f32) (harg4 : arg4.IsWhole) (arg5 : Memref sig .tc .vmem S1x2048 .f32) (harg5 : arg5.IsWhole) (arg6 : Memref sig .tc .vmem S1x2048x512 .bf16) (harg6 : arg6.IsWhole) (arg7 : Memref sig .tc .vmem S128x2048 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S128x2048 .f32) (harg11 : arg11.IsWhole) (arg12 : Memref sig .tc .vmem S2048x2048 .bf16) (harg12 : arg12.IsWhole)
  (h1 : k0_cond1 i = 1#1) (sh sc : Vec F S1x1x1x2048 .f32) (g : Vec F S1x2048 .f32) (X : arg2.view.ty.Contents (Elt F)) (x : Vec F S2048x2048 .f32)

theorem trip_rows (hx : arg2.view.read (Elt F) X = x) (k : Fin k0_t1_loop.trips) (f : arg12.view.ty.Contents (Elt F))
    (hf : ∀ y : S2048x2048.Idx, (y 0).val < 128 * k.val → arg12.view.read (Elt F) f y = hF x sh sc g y) (y : S2048x2048.Idx) (hy : (y 0).val < 128 * (k.val + 1)) :
    arg12.view.read (Elt F) (arg12.view.writes (Elt F) f (tripL_k0_t1 𝒱 c bd i arg2 harg2 arg3 harg3 arg4 harg4 arg5 harg5 arg6 harg6 arg7 harg7 arg8 harg8 arg9 harg9 arg10 harg10 arg11 harg11 arg12 harg12 h1 g sc sh X k)) y = hF x sh sc g y := by
  have hk : k.val < 16 := Nat.lt_of_lt_of_le k.isLt k0_t1_abs.2.1
  have e := off1_eq k
  have y1 : (y 1).val < 2048 := (y 1).isLt
  unfold tripL_k0_t1 trip_k0_t1
  dsimp only
  by_cases hlo : (y 0).val < 128 * k.val
  · rw [View.read_writes_apply_of_forall_not_mem]
    · exact hf y hlo
    · simp only [List.forall_mem_cons, List.not_mem_nil, false_imp_iff, implies_true, and_true]
      intro hm
      have q := Rect.mem_set_unit.mp hm 0
      rw [e] at q
      have : 128 * k.val ≤ (y 0).val := q.1
      omega
  · refine View.read_writes_apply_of_pieces _ _ (hF x sh sc g) _ ?_ y ⟨_, List.mem_cons_self, (Rect.mem_set_unit (inb := k0_off1_inb i k h1)).mpr ?_⟩
    · simp only [List.forall_mem_cons, List.not_mem_nil, false_imp_iff, implies_true, and_true]
      refine hF_piece x sh sc g k.val hk _ e _ ?_ _
      subst hx
      have key : ∀ (off : Fin 2 → ℕ) (ho : off = ![128 * k.val, 0]) (inb : ∀ a, off a + S128x2048.size a ≤ S2048x2048.size a),
          arg2.view.readAt (Elt F) (Rect.unit (s := S2048x2048) off S128x2048.size inb).toLoadRect X = rowsAt (arg2.view.read (Elt F) X) k.val hk := by
        intro off ho inb; subst ho; rfl
      exact key _ e _
    · rw [e]
      intro a; fin_cases a
      · show 128 * k.val ≤ (y 0).val ∧ (y 0).val < 128 * k.val + 128; omega
      · show 0 ≤ (y 1).val ∧ (y 1).val < 0 + 2048; omega

/-- Before trip `n`: the first `128n` rows are there. -/
theorem loop_rows (hx : arg2.view.read (Elt F) X = x) (f : arg12.view.ty.Contents (Elt F)) : ∀ n : ℕ, n ≤ k0_t1_loop.trips →
    ∀ y : S2048x2048.Idx, (y 0).val < 128 * n → arg12.view.read (Elt F) (arg12.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 h1 g sc sh X n)) y = hF x sh sc g y
  | 0, _ => fun y hy => absurd hy (by omega)
  | n + 1, hn => fun y hy => by
    have ih := loop_rows hx f n (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 h1 g sc sh X ⟨n, by omega⟩
    rw [show pb_k0_t1 (F := F) 𝒱 c bd i arg2 harg2 arg3 harg3 arg4 harg4 arg5 harg5 arg6 harg6 arg7 harg7 arg8 harg8 arg9 harg9 arg10 harg10 arg11 harg11 arg12 harg12 h1 g sc sh X (n + 1) = _ from hs, View.writes_append]
    exact trip_rows 𝒱 c bd i arg2 harg2 arg3 harg3 arg4 harg4 arg5 harg5 arg6 harg6 arg7 harg7 arg8 harg8 arg9 harg9 arg10 harg10 arg11 harg11 arg12 harg12 h1 sh sc g X x hx ⟨n, by omega⟩ _ ih y hy

/-- After the loop the scratch holds the row block's normalized, modulated rows. -/
theorem loop_read (hx : arg2.view.read (Elt F) X = x) (f : arg12.view.ty.Contents (Elt F)) :
    arg12.view.read (Elt F) (arg12.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 h1 g sc sh X k0_t1_loop.trips)) = hF x sh sc g := by
  funext y
  refine loop_rows 𝒱 c bd i arg2 harg2 arg3 harg3 arg4 harg4 arg5 harg5 arg6 harg6 arg7 harg7 arg8 harg8 arg9 harg9 arg10 harg10 arg11 harg11 arg12 harg12 h1 sh sc g X x hx f _ le_rfl y ?_
  have hy : (y 0).val < 2048 := (y 0).isLt
  rw [trips_eq]; exact hy

end

end Cert.KernelProjectIdeal.Proj

end
-- ==== Proof.ProjRunA.lean ====
/- One grid point of the input projection, run: the first tile of a row block. -/
module

public import proofs.«01_k».proof.Proof.ProjSpec
public import proofs.«01_k».proof.Proof.Gen.KernelProjectIdeal.Frame

@[expose] public section

set_option maxRecDepth 16384

noncomputable section

namespace Cert.KernelProjectIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelProjectIdeal.Gen

variable {F : FTy → Type} [FloatOps F]

local notation "𝕄" => MT nD τ sig Unit (Elt F) ℕ (UR sig nD τ) ℕ

set_option maxHeartbeats 4000000 in
/-- The first tile of a row block. -/
theorem run_A (c : Dev nD) (i : grid0.Coords) (arg2 : Memref sig .tc .vmem S2048x2048 .f32) (harg2 : arg2.IsWhole) (arg3 : Memref sig .tc .vmem S1x1x1x2048 .f32) (harg3 : arg3.IsWhole) (arg4 : Memref sig .tc .vmem S1x1x1x2048 .f32) (harg4 : arg4.IsWhole) (arg5 : Memref sig .tc .vmem S1x2048 .f32) (harg5 : arg5.IsWhole) (arg6 : Memref sig .tc .vmem S1x2048x512 .bf16) (harg6 : arg6.IsWhole) (arg7 : Memref sig .tc .vmem S128x2048 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S128x2048 .f32) (harg11 : arg11.IsWhole) (arg12 : Memref sig .tc .vmem S2048x2048 .bf16) (harg12 : arg12.IsWhole) (hc0 : k0_cond1 i = 1#1) (hc1 : k0_cond2 i = 1#1) (hc2 : ¬k0_cond3 i = 1#1)
    (x0 : Vec F S2048x2048 .f32) (x1 : Vec F S1x1x1x2048 .f32) (x2 : Vec F S1x1x1x2048 .f32) (x3 : Vec F S1x2048 .f32) (x4 : Vec F S1x2048x512 .bf16) (x5 : Vec F S128x2048 .bf16) (x6 : Vec F S1x512 .f32) (x7 : Vec F S1x512 .f32)  (E : Set ℕ) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d))
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (normF (k0_pay4 (hF x0 x1 x2 x3) x4) (k0_pay5 (isQuery i) x6 x7)) ∗ owns (c : Thread nD τ) arg11 fullShare (k0_pay2 x5 (hF x0 x1 x2 x3)) ∗ owns (c : Thread nD τ) arg12 fullShare (hF x0 x1 x2 x3)) -∗ K ⟨⟩))
      ⊢ wp frame (wpE (defs₀ (F := F)) Variants.none c none) E (cc0_proj_dt i arg2 harg2 arg3 harg3 arg4 harg4 arg5 harg5 arg6 harg6 arg7 harg7 arg8 harg8 arg9 harg9 arg10 harg10 arg11 harg11 arg12 harg12) K := by
  simp only [cc0_proj_dt_eq_skeleton]; unfold cc0_proj_dt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds, %fs, -, HS⟩⟩, Hk⟩
  subst hf0 hf1 hf2 hf3 hf4 hf5 hf6 hf7
  sl_exec (disch := first | sl_exact hc0 | sl_exact hc1 | sl_exact hc2)
  have hs0 : ∀ (g : Vec F S1x2048 .f32) (sc sh : Vec F S1x1x1x2048 .f32), g = arg5.view.read (Elt F) f3 → sc = arg4.view.read (Elt F) f2 → sh = arg3.view.read (Elt F) f1 →
      arg12.view.read (Elt F) (arg12.view.writes (Elt F) fs (pb_k0_t1 (F := F) Variants.none c none i arg2 harg2 arg3 harg3 arg4 harg4 arg5 harg5 arg6 harg6 arg7 harg7 arg8 harg8 arg9 harg9 arg10 harg10 arg11 harg11 arg12 harg12 hc0 g sc sh f0 k0_t1_loop.trips))
        = hF (arg2.view.read (Elt F) f0) (arg3.view.read (Elt F) f1) (arg4.view.read (Elt F) f2) (arg5.view.read (Elt F) f3) := by
    intro g sc sh a b d; subst a b d
    exact loop_read Variants.none c none i arg2 harg2 arg3 harg3 arg4 harg4 arg5 harg5 arg6 harg6 arg7 harg7 arg8 harg8 arg9 harg9 arg10 harg10 arg11 harg11 arg12 harg12 hc0 _ _ _ f0 _ rfl fs
  have hs := hs0 _ _ _ (View.readAt_full arg5.view f3 inb_S1x2048_S1x2048_0_0) (View.readAt_full arg4.view f2 inb_S1x1x1x2048_S1x1x1x2048_0_0_0_0) (View.readAt_full arg3.view f1 inb_S1x1x1x2048_S1x1x1x2048_0_0_0_0)
  have h16 : run_A.sl.v16 c i arg2 harg2 arg3 harg3 arg4 harg4 arg5 harg5 arg6 harg6 arg7 harg7 arg8 harg8 arg9 harg9 arg10 harg10 arg11 harg11 arg12 harg12 hc0 f0 f1 f2 f3 fs = hF (arg2.view.read (Elt F) f0) (arg3.view.read (Elt F) f1) (arg4.view.read (Elt F) f2) (arg5.view.read (Elt F) f3) := (View.readAt_full _ _ _).trans hs
  have h28 : run_A.sl.v28 c i arg2 harg2 arg3 harg3 arg4 harg4 arg5 harg5 arg6 harg6 arg7 harg7 arg8 harg8 arg9 harg9 arg10 harg10 arg11 harg11 arg12 harg12 hc0 f0 f1 f2 f3 fs = hF (arg2.view.read (Elt F) f0) (arg3.view.read (Elt F) f1) (arg4.view.read (Elt F) f2) (arg5.view.read (Elt F) f3) := (View.readAt_full _ _ _).trans hs
  sl_step
  iapply Hk
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro
    have hv : run_A.sl.r c i arg2 harg2 arg3 harg3 arg4 harg4 arg5 harg5 arg6 harg6 arg7 harg7 arg8 harg8 arg9 harg9 arg10 harg10 arg11 harg11 arg12 harg12 hc0 f0 f1 f2 f3 f4 fs = k0_pay4 (hF (arg2.view.read (Elt F) f0) (arg3.view.read (Elt F) f1) (arg4.view.read (Elt F) f2) (arg5.view.read (Elt F) f3)) (arg6.view.read (Elt F) f4) := congrArg₂ k0_pay4 h16 (View.readAt_full _ _ _)
    have hg : run_A.sl.r_1 c i arg8 arg9 f6 f7 = k0_pay5 (isQuery i) (arg8.view.read (Elt F) f6) (arg9.view.read (Elt F) f7) := congrArg₂ (k0_pay5 (isQuery i)) (View.readAt_full _ _ _) (View.readAt_full _ _ _)
    rw [← hv, ← hg]
    refine read_of_pieces _ _ _ _ ?_ (View.cover_of_tiledBy _ ![256, 128] (by sl_kernel_rfl))
    simp only [List.forall_mem_cons, List.not_mem_nil, false_imp_iff, implies_true, and_true]
    exact ⟨norm_piece _ _ 7 3 (by decide) (by decide) _ rfl _,
        norm_piece _ _ 7 2 (by decide) (by decide) _ rfl _,
        norm_piece _ _ 7 1 (by decide) (by decide) _ rfl _,
        norm_piece _ _ 7 0 (by decide) (by decide) _ rfl _,
        norm_piece _ _ 6 3 (by decide) (by decide) _ rfl _,
        norm_piece _ _ 6 2 (by decide) (by decide) _ rfl _,
        norm_piece _ _ 6 1 (by decide) (by decide) _ rfl _,
        norm_piece _ _ 6 0 (by decide) (by decide) _ rfl _,
        norm_piece _ _ 5 3 (by decide) (by decide) _ rfl _,
        norm_piece _ _ 5 2 (by decide) (by decide) _ rfl _,
        norm_piece _ _ 5 1 (by decide) (by decide) _ rfl _,
        norm_piece _ _ 5 0 (by decide) (by decide) _ rfl _,
        norm_piece _ _ 4 3 (by decide) (by decide) _ rfl _,
        norm_piece _ _ 4 2 (by decide) (by decide) _ rfl _,
        norm_piece _ _ 4 1 (by decide) (by decide) _ rfl _,
        norm_piece _ _ 4 0 (by decide) (by decide) _ rfl _,
        norm_piece _ _ 3 3 (by decide) (by decide) _ rfl _,
        norm_piece _ _ 3 2 (by decide) (by decide) _ rfl _,
        norm_piece _ _ 3 1 (by decide) (by decide) _ rfl _,
        norm_piece _ _ 3 0 (by decide) (by decide) _ rfl _,
        norm_piece _ _ 2 3 (by decide) (by decide) _ rfl _,
        norm_piece _ _ 2 2 (by decide) (by decide) _ rfl _,
        norm_piece _ _ 2 1 (by decide) (by decide) _ rfl _,
        norm_piece _ _ 2 0 (by decide) (by decide) _ rfl _,
        norm_piece _ _ 1 3 (by decide) (by decide) _ rfl _,
        norm_piece _ _ 1 2 (by decide) (by decide) _ rfl _,
        norm_piece _ _ 1 1 (by decide) (by decide) _ rfl _,
        norm_piece _ _ 1 0 (by decide) (by decide) _ rfl _,
        norm_piece _ _ 0 3 (by decide) (by decide) _ rfl _,
        norm_piece _ _ 0 2 (by decide) (by decide) _ rfl _,
        norm_piece _ _ 0 1 (by decide) (by decide) _ rfl _,
        norm_piece _ _ 0 0 (by decide) (by decide) _ rfl _⟩
  isplitl [H9]
  · iexists _; isplitr; swap; · iexact H9
    ipureintro
    exact (read_whole _ _ _ _).trans (congrArg₂ k0_pay2 (View.readAt_full _ _ _) h28)
  iexists _; isplitr; swap; · iexact HS
  ipureintro; exact hs

end Cert.KernelProjectIdeal.Proj

end
-- ==== Proof.ProjRunB.lean ====
/- One grid point of the input projection, run: a tile after a row block's first whose heads are normalized. -/
module

public import proofs.«01_k».proof.Proof.ProjSpec
public import proofs.«01_k».proof.Proof.Gen.KernelProjectIdeal.Frame

@[expose] public section

set_option maxRecDepth 16384

noncomputable section

namespace Cert.KernelProjectIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelProjectIdeal.Gen

variable {F : FTy → Type} [FloatOps F]

local notation "𝕄" => MT nD τ sig Unit (Elt F) ℕ (UR sig nD τ) ℕ

set_option maxHeartbeats 4000000 in
/-- A later tile whose heads are normalized. -/
theorem run_B (c : Dev nD) (i : grid0.Coords) (arg2 : Memref sig .tc .vmem S2048x2048 .f32) (harg2 : arg2.IsWhole) (arg3 : Memref sig .tc .vmem S1x1x1x2048 .f32) (harg3 : arg3.IsWhole) (arg4 : Memref sig .tc .vmem S1x1x1x2048 .f32) (harg4 : arg4.IsWhole) (arg5 : Memref sig .tc .vmem S1x2048 .f32) (harg5 : arg5.IsWhole) (arg6 : Memref sig .tc .vmem S1x2048x512 .bf16) (harg6 : arg6.IsWhole) (arg7 : Memref sig .tc .vmem S128x2048 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S128x2048 .f32) (harg11 : arg11.IsWhole) (arg12 : Memref sig .tc .vmem S2048x2048 .bf16) (harg12 : arg12.IsWhole) (hc0 : ¬k0_cond1 i = 1#1) (hc1 : k0_cond2 i = 1#1) (hc2 : ¬k0_cond3 i = 1#1)
    (x0 : Vec F S2048x2048 .f32) (x1 : Vec F S1x1x1x2048 .f32) (x2 : Vec F S1x1x1x2048 .f32) (x3 : Vec F S1x2048 .f32) (x4 : Vec F S1x2048x512 .bf16) (x5 : Vec F S128x2048 .bf16) (x6 : Vec F S1x512 .f32) (x7 : Vec F S1x512 .f32) (z : Vec F S128x2048 .f32) (h : Vec F S2048x2048 .bf16) (E : Set ℕ) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare z ∗ owns (c : Thread nD τ) arg12 fullShare h)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (normF (k0_pay4 h x4) (k0_pay5 (isQuery i) x6 x7)) ∗ owns (c : Thread nD τ) arg11 fullShare z ∗ owns (c : Thread nD τ) arg12 fullShare h) -∗ K ⟨⟩))
      ⊢ wp frame (wpE (defs₀ (F := F)) Variants.none c none) E (cc0_proj_dt i arg2 harg2 arg3 harg3 arg4 harg4 arg5 harg5 arg6 harg6 arg7 harg7 arg8 harg8 arg9 harg9 arg10 harg10 arg11 harg11 arg12 harg12) K := by
  simp only [cc0_proj_dt_eq_skeleton]; unfold cc0_proj_dt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs, %hfs, HS⟩⟩, Hk⟩
  subst hf0 hf1 hf2 hf3 hf4 hf5 hf6 hf7 hfs
  subst hf9
  sl_exec (disch := first | sl_exact hc0 | sl_exact hc1 | sl_exact hc2)
  sl_step
  iapply Hk
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro
    have hv : run_B.sl.r c arg6 arg12 f4 fs = k0_pay4 (arg12.view.read (Elt F) fs) (arg6.view.read (Elt F) f4) := congrArg₂ k0_pay4 (View.readAt_full _ _ _) (View.readAt_full _ _ _)
    have hg : run_B.sl.r_1 c i arg8 arg9 f6 f7 = k0_pay5 (isQuery i) (arg8.view.read (Elt F) f6) (arg9.view.read (Elt F) f7) := congrArg₂ (k0_pay5 (isQuery i)) (View.readAt_full _ _ _) (View.readAt_full _ _ _)
    rw [← hv, ← hg]
    refine read_of_pieces _ _ _ _ ?_ (View.cover_of_tiledBy _ ![256, 128] (by sl_kernel_rfl))
    simp only [List.forall_mem_cons, List.not_mem_nil, false_imp_iff, implies_true, and_true]
    exact ⟨norm_piece _ _ 7 3 (by decide) (by decide) _ rfl _,
        norm_piece _ _ 7 2 (by decide) (by decide) _ rfl _,
        norm_piece _ _ 7 1 (by decide) (by decide) _ rfl _,
        norm_piece _ _ 7 0 (by decide) (by decide) _ rfl _,
        norm_piece _ _ 6 3 (by decide) (by decide) _ rfl _,
        norm_piece _ _ 6 2 (by decide) (by decide) _ rfl _,
        norm_piece _ _ 6 1 (by decide) (by decide) _ rfl _,
        norm_piece _ _ 6 0 (by decide) (by decide) _ rfl _,
        norm_piece _ _ 5 3 (by decide) (by decide) _ rfl _,
        norm_piece _ _ 5 2 (by decide) (by decide) _ rfl _,
        norm_piece _ _ 5 1 (by decide) (by decide) _ rfl _,
        norm_piece _ _ 5 0 (by decide) (by decide) _ rfl _,
        norm_piece _ _ 4 3 (by decide) (by decide) _ rfl _,
        norm_piece _ _ 4 2 (by decide) (by decide) _ rfl _,
        norm_piece _ _ 4 1 (by decide) (by decide) _ rfl _,
        norm_piece _ _ 4 0 (by decide) (by decide) _ rfl _,
        norm_piece _ _ 3 3 (by decide) (by decide) _ rfl _,
        norm_piece _ _ 3 2 (by decide) (by decide) _ rfl _,
        norm_piece _ _ 3 1 (by decide) (by decide) _ rfl _,
        norm_piece _ _ 3 0 (by decide) (by decide) _ rfl _,
        norm_piece _ _ 2 3 (by decide) (by decide) _ rfl _,
        norm_piece _ _ 2 2 (by decide) (by decide) _ rfl _,
        norm_piece _ _ 2 1 (by decide) (by decide) _ rfl _,
        norm_piece _ _ 2 0 (by decide) (by decide) _ rfl _,
        norm_piece _ _ 1 3 (by decide) (by decide) _ rfl _,
        norm_piece _ _ 1 2 (by decide) (by decide) _ rfl _,
        norm_piece _ _ 1 1 (by decide) (by decide) _ rfl _,
        norm_piece _ _ 1 0 (by decide) (by decide) _ rfl _,
        norm_piece _ _ 0 3 (by decide) (by decide) _ rfl _,
        norm_piece _ _ 0 2 (by decide) (by decide) _ rfl _,
        norm_piece _ _ 0 1 (by decide) (by decide) _ rfl _,
        norm_piece _ _ 0 0 (by decide) (by decide) _ rfl _⟩
  isplitl [H9]
  · iexists _; isplitr; swap; · iexact H9
    ipureintro; exact rfl
  iexists _; isplitr; swap; · iexact HS
  ipureintro; exact rfl

end Cert.KernelProjectIdeal.Proj

end
-- ==== Proof.ProjRunC.lean ====
/- One grid point of the input projection, run: a tile kept as it is. -/
module

public import proofs.«01_k».proof.Proof.ProjSpec
public import proofs.«01_k».proof.Proof.Gen.KernelProjectIdeal.Frame

@[expose] public section

set_option maxRecDepth 16384

noncomputable section

namespace Cert.KernelProjectIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelProjectIdeal.Gen

variable {F : FTy → Type} [FloatOps F]

local notation "𝕄" => MT nD τ sig Unit (Elt F) ℕ (UR sig nD τ) ℕ

set_option maxHeartbeats 4000000 in
/-- A tile kept as it is. -/
theorem run_C (c : Dev nD) (i : grid0.Coords) (arg2 : Memref sig .tc .vmem S2048x2048 .f32) (harg2 : arg2.IsWhole) (arg3 : Memref sig .tc .vmem S1x1x1x2048 .f32) (harg3 : arg3.IsWhole) (arg4 : Memref sig .tc .vmem S1x1x1x2048 .f32) (harg4 : arg4.IsWhole) (arg5 : Memref sig .tc .vmem S1x2048 .f32) (harg5 : arg5.IsWhole) (arg6 : Memref sig .tc .vmem S1x2048x512 .bf16) (harg6 : arg6.IsWhole) (arg7 : Memref sig .tc .vmem S128x2048 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .bf16) (harg10 : arg10.IsWhole) (arg11 : Memref sig .tc .vmem S128x2048 .f32) (harg11 : arg11.IsWhole) (arg12 : Memref sig .tc .vmem S2048x2048 .bf16) (harg12 : arg12.IsWhole) (hc0 : ¬k0_cond1 i = 1#1) (hc1 : ¬k0_cond2 i = 1#1) (hc2 : k0_cond3 i = 1#1)
    (x0 : Vec F S2048x2048 .f32) (x1 : Vec F S1x1x1x2048 .f32) (x2 : Vec F S1x1x1x2048 .f32) (x3 : Vec F S1x2048 .f32) (x4 : Vec F S1x2048x512 .bf16) (x5 : Vec F S128x2048 .bf16) (x6 : Vec F S1x512 .f32) (x7 : Vec F S1x512 .f32) (z : Vec F S128x2048 .f32) (h : Vec F S2048x2048 .bf16) (E : Set ℕ) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare z ∗ owns (c : Thread nD τ) arg12 fullShare h)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay3 h x4) ∗ owns (c : Thread nD τ) arg11 fullShare z ∗ owns (c : Thread nD τ) arg12 fullShare h) -∗ K ⟨⟩))
      ⊢ wp frame (wpE (defs₀ (F := F)) Variants.none c none) E (cc0_proj_dt i arg2 harg2 arg3 harg3 arg4 harg4 arg5 harg5 arg6 harg6 arg7 harg7 arg8 harg8 arg9 harg9 arg10 harg10 arg11 harg11 arg12 harg12) K := by
  simp only [cc0_proj_dt_eq_skeleton]; unfold cc0_proj_dt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs, %hfs, HS⟩⟩, Hk⟩
  subst hf0 hf1 hf2 hf3 hf4 hf5 hf6 hf7 hfs
  subst hf9
  sl_exec (disch := first | sl_exact hc0 | sl_exact hc1 | sl_exact hc2)
  sl_step
  iapply Hk
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro
    refine (read_whole _ _ _ _).trans ?_
    exact congrArg₂ k0_pay3 (View.readAt_full _ _ _) (View.readAt_full _ _ _)
  isplitl [H9]
  · iexists _; isplitr; swap; · iexact H9
    ipureintro; exact rfl
  iexists _; isplitr; swap; · iexact HS
  ipureintro; exact rfl

end Cert.KernelProjectIdeal.Proj

end
-- ==== Proof.ProjLaunch.lean ====
/- The input projection's launch. Between two points of one band of rows the carried array holds the band's normed rows
   in bf16; at a point the body finds its blocks and leaves the tile of the output. Nothing is stated of the second
   output, which the call drops. From these the whole program's run: it ends, every counter at zero, the arguments
   unchanged, and every tile of the output array at `tile`. -/
module

public import proofs.«01_k».proof.Proof.ProjRunA
public import proofs.«01_k».proof.Proof.ProjRunB
public import proofs.«01_k».proof.Proof.ProjRunC
public import Idealize.ShloMosaic.Lib.Claim
public import Idealize.ShloMosaic.Lib.Pipeline.ValueKit

@[expose] public section

set_option maxRecDepth 16384

noncomputable section

namespace Cert.KernelProjectIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelProjectIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A band's first point. -/
theorem first_iff (t : Fin cfg0.N) : k0_cond1 (grid0.coords t) = 1#1 ↔ t.val % 28 = 0 := by
  have ht : t.val < 224 := Nat.lt_of_lt_of_eq t.isLt N_0
  have e0 : (grid0.coords t 0).val = t.val / 28 % 8 := Pipeline.Grid.coords_val t 0 (by decide) rfl
  have e1 : (grid0.coords t 1).val = t.val / 1 % 28 := Pipeline.Grid.coords_val t 1 (by decide) rfl
  simp only [k0_cond1, e0, e1]
  word_cmp

/-- The points whose columns are queries or keys. -/
theorem normed_iff : ∀ t : Fin grid0.N, k0_cond2 (grid0.coords t) = 1#1 ↔ (t.val % 28 = 0 ∨ t.val % 28 = 1 ∨ t.val % 28 = 2 ∨ t.val % 28 = 3 ∨ t.val % 28 = 12 ∨ t.val % 28 = 13 ∨ t.val % 28 = 14 ∨ t.val % 28 = 15) := by
  decide +kernel

/-- The other points. -/
theorem plain_iff : ∀ t : Fin grid0.N, k0_cond3 (grid0.coords t) = 1#1 ↔ ¬(t.val % 28 = 0 ∨ t.val % 28 = 1 ∨ t.val % 28 = 2 ∨ t.val % 28 = 3 ∨ t.val % 28 = 12 ∨ t.val % 28 = 13 ∨ t.val % 28 = 14 ∨ t.val % 28 = 15) := by
  decide +kernel

abbrev win0 (t : Fin cfg0.N) : Memref sig .tc .vmem S2048x2048 .f32 := win0_0.stage (cfg0.slots t 0)
abbrev win1 (t : Fin cfg0.N) : Memref sig .tc .vmem S1x1x1x2048 .f32 := win0_1.stage (cfg0.slots t 1)
abbrev win2 (t : Fin cfg0.N) : Memref sig .tc .vmem S1x1x1x2048 .f32 := win0_2.stage (cfg0.slots t 2)
abbrev win3 (t : Fin cfg0.N) : Memref sig .tc .vmem S1x2048 .f32 := win0_3.stage (cfg0.slots t 3)
abbrev win4 (t : Fin cfg0.N) : Memref sig .tc .vmem S1x2048x512 .bf16 := win0_4.stage (cfg0.slots t 4)
abbrev win5 (t : Fin cfg0.N) : Memref sig .tc .vmem S128x2048 .bf16 := win0_5.stage (cfg0.slots t 5)
abbrev win6 (t : Fin cfg0.N) : Memref sig .tc .vmem S1x512 .f32 := win0_6.stage (cfg0.slots t 6)
abbrev win7 (t : Fin cfg0.N) : Memref sig .tc .vmem S1x512 .f32 := win0_7.stage (cfg0.slots t 7)
abbrev win8 (t : Fin cfg0.N) : Memref sig .tc .vmem S2048x512 .bf16 := win0_8.stage (cfg0.slots t 8)
abbrev win9 (t : Fin cfg0.N) : Memref sig .tc .vmem S128x2048 .f32 := win0_9.stage (cfg0.slots t 9)
abbrev scr0 : Memref sig .tc .vmem S2048x2048 .bf16 := Memref.whole cc0_scratch0

/-- What the launch hands over: the carried array at some contents, and the generator. -/
theorem launch_inv (c : Dev nD) : (Pipeline.ΦA spec0 c : sProp 𝕄)
    = iprop(iprop((∃ d, owns (c : Thread nD τ) scr0 fullShare d)) ∗ (∃ r, prngReg c r)) := by
  unfold Pipeline.ΦA; rw [scopedRest0_eq]; simp only [scr0, owns_whole]; try rfl

/-- The band's normed rows, as point `t` has them. -/
def rows (c : Dev nD) (t : Fin cfg0.N) : Vec F S2048x2048 .bf16 :=
  hF (iblk m c 0 t) (iblk m c 1 t) (iblk m c 2 t) (iblk m c 3 t)

/-- The output's tile after point `t`: of the queries and the keys the normed product, of the other columns the product. -/
def tile (c : Dev nD) (t : Fin cfg0.N) : Vec F S2048x512 .bf16 :=
  if k0_cond2 (grid0.coords t) = 1#1 then
    normF (k0_pay4 (rows m c t) (iblk m c 4 t)) (k0_pay5 (isQuery (grid0.coords t)) (iblk m c 6 t) (iblk m c 7 t))
  else k0_pay3 (rows m c t) (iblk m c 4 t)

/-- What holds of the carried array after point `t`. -/
def carried (c : Dev nD) (t : Fin cfg0.N) : sProp 𝕄 :=
  iprop(owns (c : Thread nD τ) scr0 fullShare (rows m c t) ∗ (∃ r, prngReg c r))

/-- The invariant before point `n`. -/
def inv (c : Dev nD) : (n : ℕ) → n ≤ cfg0.N → sProp 𝕄
  | 0, _ => Pipeline.ΦA spec0 c
  | n + 1, hn => carried m c ⟨n, hn⟩

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) : inv m c n h = carried m c ⟨n - 1, by omega⟩ := by
  cases n with
  | zero => exact absurd rfl hz
  | succ n => rfl

/-- The output of which nothing is stated. -/
def forgets0 : Fin 10 → Bool := fun w => w.val == 9

/-- The pipeline's data: the inputs stay, the output's tile is `tile`, the second output is at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tile m c t
    | ⟨9, h⟩ => Pipeline.Dat.unnamed (cfg := cfg0) ⟨9, h⟩ t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = tile m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem leaves0 (c : Dev nD) (t : Fin cfg0.N) : (dats m 0 c).leavesExact 0 t = owns (c : Thread nD τ) (win0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (win1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (win2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (win3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (win4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (win5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (win6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (win7 t) fullShare (iblk m c 7 t) := by
  unfold Dat.leavesExact; rw [show cfg0.idle 7 (grid0.coords t) = false from rfl, after7]
/-- The output's tile is left at `tile`: it is written back at every point. -/
theorem leaves8 (c : Dev nD) (t : Fin cfg0.N) : (dats m 0 c).leavesExact 8 t = owns (c : Thread nD τ) (win8 t) fullShare (tile m c t) := by
  unfold Dat.leavesExact; rw [flush0_8 t, after8]; cases cfg0.idle 8 (grid0.coords t) <;> rfl

theorem index_stays0 : ∀ t : Fin grid0.N, ¬t.val % 28 = 0 → win0_0.index ⟨t.val - 1, Nat.lt_of_le_of_lt (Nat.sub_le _ _) t.isLt⟩ = win0_0.index t := by
  decide +kernel
theorem block_stays0 (c : Dev nD) (t : Fin cfg0.N) (h : ¬t.val % 28 = 0) : iblk m c 0 ⟨t.val - 1, Nat.lt_of_le_of_lt (Nat.sub_le _ _) t.isLt⟩ = iblk m c 0 t := by
  have e2 := index_stays0 t h
  funext y
  refine congrArg (V m c (Pipeline.arrRef spec0 0)) (funext fun a => Fin.ext ?_)
  blk_simp
  rw [e2]
theorem index_stays1 : ∀ t : Fin grid0.N, ¬t.val % 28 = 0 → win0_1.index ⟨t.val - 1, Nat.lt_of_le_of_lt (Nat.sub_le _ _) t.isLt⟩ = win0_1.index t := by
  decide +kernel
theorem block_stays1 (c : Dev nD) (t : Fin cfg0.N) (h : ¬t.val % 28 = 0) : iblk m c 1 ⟨t.val - 1, Nat.lt_of_le_of_lt (Nat.sub_le _ _) t.isLt⟩ = iblk m c 1 t := by
  have e2 := index_stays1 t h
  funext y
  refine congrArg (V m c (Pipeline.arrRef spec0 1)) (funext fun a => Fin.ext ?_)
  blk_simp
  rw [e2]
theorem index_stays2 : ∀ t : Fin grid0.N, ¬t.val % 28 = 0 → win0_2.index ⟨t.val - 1, Nat.lt_of_le_of_lt (Nat.sub_le _ _) t.isLt⟩ = win0_2.index t := by
  decide +kernel
theorem block_stays2 (c : Dev nD) (t : Fin cfg0.N) (h : ¬t.val % 28 = 0) : iblk m c 2 ⟨t.val - 1, Nat.lt_of_le_of_lt (Nat.sub_le _ _) t.isLt⟩ = iblk m c 2 t := by
  have e2 := index_stays2 t h
  funext y
  refine congrArg (V m c (Pipeline.arrRef spec0 2)) (funext fun a => Fin.ext ?_)
  blk_simp
  rw [e2]
theorem index_stays3 : ∀ t : Fin grid0.N, ¬t.val % 28 = 0 → win0_3.index ⟨t.val - 1, Nat.lt_of_le_of_lt (Nat.sub_le _ _) t.isLt⟩ = win0_3.index t := by
  decide +kernel
theorem block_stays3 (c : Dev nD) (t : Fin cfg0.N) (h : ¬t.val % 28 = 0) : iblk m c 3 ⟨t.val - 1, Nat.lt_of_le_of_lt (Nat.sub_le _ _) t.isLt⟩ = iblk m c 3 t := by
  have e2 := index_stays3 t h
  funext y
  refine congrArg (V m c (Pipeline.arrRef spec0 3)) (funext fun a => Fin.ext ?_)
  blk_simp
  rw [e2]

/-- Inside a band the normed rows are those of the point before. -/
theorem rows_stay (c : Dev nD) (t : Fin cfg0.N) (h : ¬t.val % 28 = 0) : rows m c ⟨t.val - 1, Nat.lt_of_le_of_lt (Nat.sub_le _ _) t.isLt⟩ = rows m c t := by
  unfold rows
  rw [block_stays0 m c t h, block_stays1 m c t h, block_stays2 m c t h, block_stays3 m c t h]

def bodyPre (c : Dev nD) (t : Fin cfg0.N) : sProp 𝕄 :=
  iprop((dats m 0 c).Φ t.castSucc ∗ (dats m 0 c).owesAt () t.castSucc
    ∗ (∃ d, owns (c : Thread nD τ) (win0 t) fullShare ((dats m 0 c).before 0 t d))
    ∗ (∃ d, owns (c : Thread nD τ) (win1 t) fullShare ((dats m 0 c).before 1 t d))
    ∗ (∃ d, owns (c : Thread nD τ) (win2 t) fullShare ((dats m 0 c).before 2 t d))
    ∗ (∃ d, owns (c : Thread nD τ) (win3 t) fullShare ((dats m 0 c).before 3 t d))
    ∗ (∃ d, owns (c : Thread nD τ) (win4 t) fullShare ((dats m 0 c).before 4 t d))
    ∗ (∃ d, owns (c : Thread nD τ) (win5 t) fullShare ((dats m 0 c).before 5 t d))
    ∗ (∃ d, owns (c : Thread nD τ) (win6 t) fullShare ((dats m 0 c).before 6 t d))
    ∗ (∃ d, owns (c : Thread nD τ) (win7 t) fullShare ((dats m 0 c).before 7 t d))
    ∗ (∃ d, owns (c : Thread nD τ) (win8 t) fullShare ((dats m 0 c).before 8 t d))
    ∗ (∃ d, owns (c : Thread nD τ) (win9 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (win9 t) fullShare d))

/-- What the invariant says at a band's first point: the carried array holds something. -/
theorem inv_any (c : Dev nD) (t : Fin cfg0.N) : inv m c t.val (Nat.le_of_lt t.isLt) ⊢ iprop((∃ d, owns (c : Thread nD τ) scr0 fullShare d) ∗ (∃ r, prngReg c r)) := by
  by_cases hz : t.val = 0
  · rw [inv_zero m c _ _ hz, launch_inv]
  · rw [inv_pos m c _ _ hz]; unfold carried
    iintro ⟨H, Hg⟩
    isplitl [H]; · iexists _; iexact H
    iexact Hg

/-- What it says inside a band: the carried array holds the band's normed rows. -/
theorem inv_rows (c : Dev nD) (t : Fin cfg0.N) (h : ¬t.val % 28 = 0) : inv m c t.val (Nat.le_of_lt t.isLt) = carried m c t := by
  rw [inv_pos m c _ _ (by omega)]
  unfold carried
  rw [rows_stay m c t h]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    leaves0, leaves1, leaves2, leaves3, leaves4, leaves5, leaves6, leaves7, leaves8]
  rw [show (dats m 0 c).Φ t.succ = carried m c t from rfl, inv_castSucc m c t]
  by_cases h0 : t.val % 28 = 0
  · have hn := (normed_iff t).mpr (Or.inl h0)
    refine (sep_mono (inv_any m c t) .rfl).trans ?_
    unfold carried
    rw [show tile m c t = _ from if_pos hn]
    unfold rows
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_A c (grid0.coords t) _ _ _ _ _ _ _ _ _ _ _ _ _ _ _ _ _ _ _ _ _ _ ((first_iff t).mpr h0) hn (fun h => (plain_iff t).mp h (Or.inl h0)) (iblk m c 0 t) (iblk m c 1 t) (iblk m c 2 t) (iblk m c 3 t) (iblk m c 4 t) (iblk m c 5 t) (iblk m c 6 t) (iblk m c 7 t)  Set.univ _)
    isplitl [H0 H1 H2 H3 H4 H5 H6 H7 H8 H9 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases h1 : (t.val % 28 = 0 ∨ t.val % 28 = 1 ∨ t.val % 28 = 2 ∨ t.val % 28 = 3 ∨ t.val % 28 = 12 ∨ t.val % 28 = 13 ∨ t.val % 28 = 14 ∨ t.val % 28 = 15)
  · have hn := (normed_iff t).mpr h1
    rw [inv_rows m c t h0]
    unfold carried
    rw [show tile m c t = _ from if_pos hn]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_B c (grid0.coords t) _ _ _ _ _ _ _ _ _ _ _ _ _ _ _ _ _ _ _ _ _ _ (fun h => h0 ((first_iff t).mp h)) hn (fun h => (plain_iff t).mp h h1) (iblk m c 0 t) (iblk m c 1 t) (iblk m c 2 t) (iblk m c 3 t) (iblk m c 4 t) (iblk m c 5 t) (iblk m c 6 t) (iblk m c 7 t) _ (rows m c t) Set.univ _)
    isplitl [H0 H1 H2 H3 H4 H5 H6 H7 H8 H9 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hn : ¬k0_cond2 (grid0.coords t) = 1#1 := fun h => h1 ((normed_iff t).mp h)
    rw [inv_rows m c t h0]
    unfold carried
    rw [show tile m c t = _ from if_neg hn]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_C c (grid0.coords t) _ _ _ _ _ _ _ _ _ _ _ _ _ _ _ _ _ _ _ _ _ _ (fun h => h0 ((first_iff t).mp h)) hn ((plain_iff t).mpr h1) (iblk m c 0 t) (iblk m c 1 t) (iblk m c 2 t) (iblk m c 3 t) (iblk m c 4 t) (iblk m c 5 t) (iblk m c 6 t) (iblk m c 7 t) _ (rows m c t) Set.univ _)
    isplitl [H0 H1 H2 H3 H4 H5 H6 H7 H8 H9 HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      iexact HS
    iintro ⟨H0, H1, H2, H3, H4, H5, H6, H7, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

set_option maxHeartbeats 1000000 in
/-- The pipeline calls the body at the point's buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 224 := N_0; omega), launch_inv]
  unfold carried
  iintro ⟨H0, Hg⟩
  isplitl [H0]; · iexists _; iexact H0
  iexact Hg

set_option backward.isDefEq.respectTransparency.types false in
/-- The run: it ends, the arrays as `dats` says but for the second output, every counter at zero. -/
theorem run_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- An array of which something is stated, at the end. -/
theorem arrays (c : Dev nD) (w : Fin cfg0.W) (h : forgets0 w = false) {f : Buf (Elt F) ((cfg0.win w).arr.view.loc (c.tc : Thread nD τ))}
    (H : ((dats m 0 c).toRForget forgets0).ArrAt w cfg0.N f) : f = (dats m 0 c).arrAt w cfg0.N :=
  ((dats m 0 c).toRForget_arrAt_iff h _ _).mp H

set_option maxHeartbeats 2000000 in
/-- The frame and the output: the arguments unchanged, the output's array at the tiles, every counter at zero. -/
theorem run_any : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc (Pipeline.arrRef spec0 8)) = (dats m 0 c).arrAt 8 cfg0.N)
      ∧ r.2.sem = fun _ => 0) :=
  (θ_run defs _ _).mono (fun r h => ⟨fun c => ⟨⟨(((h.1 c).2 main_arg0 (Pipeline.mem_restRefs_of main_arg0 (by decide) (by decide))).trans (V_main_arg0 m c)),
      (((arrays m c 2 rfl ((h.1 c).1 2))).trans (((dats m 0 c).arrAt_in 2 rfl _).trans ((A_eq m c 2).trans (V_main_arg1 m c)))),
      (((h.1 c).2 main_arg2 (Pipeline.mem_restRefs_of main_arg2 (by decide) (by decide))).trans (V_main_arg2 m c)),
      (((h.1 c).2 main_arg3 (Pipeline.mem_restRefs_of main_arg3 (by decide) (by decide))).trans (V_main_arg3 m c)),
      (((h.1 c).2 main_arg4 (Pipeline.mem_restRefs_of main_arg4 (by decide) (by decide))).trans (V_main_arg4 m c)),
      (((h.1 c).2 main_arg5 (Pipeline.mem_restRefs_of main_arg5 (by decide) (by decide))).trans (V_main_arg5 m c))⟩,
      arrays m c 8 rfl ((h.1 c).1 8)⟩, h.2⟩) (run_quiescent m ρ)

end Cert.KernelProjectIdeal.Proj

end
-- ==== Proof.ProjRef.lean ====
/- The input projection's reference, at an index: the normed and modulated rows, their product with the weights, and the
   queries' and the keys' heads normed. -/
module

public import proofs.«01_k».proof.Defs
public import proofs.«01_k».proof.Proof.Gen.ReferenceProjectIdeal.Run
public import Idealize.ShloMosaic.Lib.Pointwise
public import Idealize.ShloMosaic.Lib.ValueIdx

@[expose] public section

set_option maxRecDepth 16384

noncomputable section

namespace Cert.Proj

open Idealize.ShloMosaic

/-- A row over the root of its mean square. -/
def normed {n : ℕ} (len : EReal) (x : Fin n → EReal) (k : Fin n) : EReal :=
  x k * Ideal.rsqrt (Ideal.div (∑ j : Fin n, x j * x j) len + Ideal.ofBits .f32 0x358637BD#32)

abbrev len2048 : EReal := Ideal.ofBits .f32 0x45000000#32
abbrev len128 : EReal := Ideal.ofBits .f32 0x43000000#32
abbrev one : EReal := Ideal.ofBits .f32 0x3F800000#32
abbrev scale : EReal := Ideal.ofBits .f32 0x3DB504F3#32

end Cert.Proj

namespace Cert.ReferenceProjectIdeal.Val

open Idealize.ShloMosaic Idealize.SL.Sem Cert.ReferenceProjectIdeal Facts₀ Facts Cert.Proj

variable (x : FVec Ideal S2x8192x2048 .f32) (md : FVec Ideal S4x8x1x6144 .f32) (g : FVec Ideal S2048 .f32) (w : FVec Ideal S2048x14400 .f32)
  (qg kg : FVec Ideal S128 .f32)

/-- The normed and modulated rows. -/
def h : FVec Ideal S2x8192x2048 .f32 :=
  addf (mulf (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))) (broadcastInDim S2x8192x2048 ![0, 1, 2] bcast_S2x1x2048_S2x8192x2048_0_1_2 (addf (broadcastInDim S2x1x2048 ![] bcast_S_S2x1x2048 (constant S_ .f32 0x3F800000#32)) (broadcastInDim S2x1x2048 ![0, 2] bcast_S2x2048_S2x1x2048_0_2 (shapeCast _ (extractStridedSlice S1x2x1x2048 ![0, 0, 0, 2048] md slices_S4x8x1x6144_S1x2x1x2048_0_0_0_2048) shapeCasts_S1x2x1x2048_S2x2048))))) (broadcastInDim S2x8192x2048 ![0, 1, 2] bcast_S2x1x2048_S2x8192x2048_0_1_2 (broadcastInDim S2x1x2048 ![0, 2] bcast_S2x2048_S2x1x2048_0_2 (shapeCast _ (extractStridedSlice S1x2x1x2048 ![0, 0, 0, 0] md slices_S4x8x1x6144_S1x2x1x2048_0_0_0_0) shapeCasts_S1x2x1x2048_S2x2048)))

/-- Their product with the weights' columns. -/
def p (hh : FVec Ideal S2x8192x2048 .f32) : FVec Ideal S2x8192x14336 .f32 :=
  Host.dotGeneral dot_S2x8192x2048_S2048x14336_S2x8192x14336_2_0_01_1_n_n none hh (extractStridedSlice S2048x14336 ![0, 0] w slices_S2048x14400_S2048x14336_0_0)

/-- Heads, normed, with a gain. -/
def heads (q : FVec Ideal S2x8192x16x128 .f32) (gain : FVec Ideal S128 .f32) : FVec Ideal S2x8192x16x128 .f32 :=
  mulf (mulf q (broadcastInDim S2x8192x16x128 ![0, 1, 2, 3] bcast_S2x8192x16x1_S2x8192x16x128_0_1_2_3 (Host.rsqrt (addf (Host.divf (broadcastInDim S2x8192x16x1 ![0, 1, 2] bcast_S2x8192x16_S2x8192x16x1_0_1_2 (Host.reduceAdd (mulf q q) (constant S_ .f32 0x00000000#32) reducesTo_S2x8192x16x128_S2x8192x16_d3 h_S_)) (broadcastInDim S2x8192x16x1 ![] bcast_S_S2x8192x16x1 (constant S_ .f32 0x43000000#32))) (broadcastInDim S2x8192x16x1 ![] bcast_S_S2x8192x16x1 (constant S_ .f32 0x358637BD#32)))))) (broadcastInDim S2x8192x16x128 ![0, 1, 2, 3] bcast_S1x1x1x128_S2x8192x16x128_0_1_2_3 (broadcastInDim S1x1x1x128 ![3] bcast_S128_S1x1x1x128_3 gain))

/-- The queries and the keys normed, the other columns as they are. -/
def cols (pp : FVec Ideal S2x8192x14336 .f32) : FVec Ideal S2x8192x14336 .f32 :=
  concatenate S2x8192x14336 2 [
    ⟨S2x8192x2048, (shapeCast _ (mulf (heads (shapeCast _ (extractStridedSlice S2x8192x2048 ![0, 0, 0] pp slices_S2x8192x14336_S2x8192x2048_0_0_0) shapeCasts_S2x8192x2048_S2x8192x16x128) qg) (broadcastInDim S2x8192x16x128 ![] bcast_S_S2x8192x16x128 (constant S_ .f32 0x3DB504F3#32))) shapeCasts_S2x8192x16x128_S2x8192x2048 : FVec Ideal S2x8192x2048 .f32)⟩,
    ⟨S2x8192x4096, (extractStridedSlice S2x8192x4096 ![0, 0, 2048] pp slices_S2x8192x14336_S2x8192x4096_0_0_2048 : FVec Ideal S2x8192x4096 .f32)⟩,
    ⟨S2x8192x2048, (shapeCast _ (heads (shapeCast _ (extractStridedSlice S2x8192x2048 ![0, 0, 6144] pp slices_S2x8192x14336_S2x8192x2048_0_0_6144) shapeCasts_S2x8192x2048_S2x8192x16x128) kg) shapeCasts_S2x8192x16x128_S2x8192x2048 : FVec Ideal S2x8192x2048 .f32)⟩,
    ⟨S2x8192x6144, (extractStridedSlice S2x8192x6144 ![0, 0, 8192] pp slices_S2x8192x14336_S2x8192x6144_0_0_8192 : FVec Ideal S2x8192x6144 .f32)⟩]
    concatenates_S2x8192x2048_S2x8192x4096_S2x8192x2048_S2x8192x6144_S2x8192x14336_d2

/-- The reference's result. -/
def res : FVec Ideal S16384x14336 .bf16 :=
  truncf .bf16 (shapeCast S16384x14336 (cols qg kg (p w (h x md g))) shapeCasts_S2x8192x14336_S16384x14336) bitsLt_bf16_f32

set_option maxHeartbeats 4000000 in
theorem res_eq (m : (ℓ : Loc nD τ sig) → Buf (Elt Ideal) ℓ) (c : Dev nD) :
    Value.res_main_v65 (F := Ideal) m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v65 res cols heads p h
  rfl

theorem h_apply (b : Fin 2) (s : Fin 8192) (k : Fin 2048) :
    h x md g (ix3 b s k) = normed len2048 (fun j => x (ix3 b s j)) k * g (ix1 k) * (one + md (ix4 0 ⟨b, by omega⟩ 0 ⟨2048 + k, by omega⟩)) + md (ix4 0 ⟨b, by omega⟩ 0 ⟨k, by omega⟩) := by
  unfold normed
  pointwise [h]

theorem p_apply (hh : FVec Ideal S2x8192x2048 .f32) (b : Fin 2) (s : Fin 8192) (n : Fin 14336) :
    p w hh (ix3 b s n) = ∑ k : Fin 2048, hh (ix3 b s k) * w (ix2 k ⟨n, by omega⟩) := by
  pointwise [p]

theorem heads_apply (q : FVec Ideal S2x8192x16x128 .f32) (b : Fin 2) (s : Fin 8192) (a : Fin 16) (d : Fin 128) :
    heads q qg (ix4 b s a d) = normed len128 (fun j => q (ix4 b s a j)) d * qg (ix1 d) := by
  unfold normed
  pointwise [heads]

theorem cols_apply (pp : FVec Ideal S2x8192x14336 .f32) (b : Fin 2) (s : Fin 8192) (n : Fin 14336) :
    cols qg kg pp (ix3 b s n) =
      if hq : n.val < 2048 then
        normed len128 (fun j : Fin 128 => pp (ix3 b s ⟨n.val / 128 * 128 + j.val, by omega⟩)) ⟨n.val % 128, by omega⟩ * qg (ix1 ⟨n.val % 128, by omega⟩) * scale
      else if h1 : n.val - 2048 < 4096 then pp (ix3 b s ⟨2048 + (n.val - 2048), by omega⟩)
      else if h2 : n.val - 2048 - 4096 < 2048 then
        normed len128 (fun j : Fin 128 => pp (ix3 b s ⟨6144 + ((n.val - 2048 - 4096) / 128 * 128 + j.val), by omega⟩)) ⟨(n.val - 2048 - 4096) % 128, by omega⟩ * kg (ix1 ⟨(n.val - 2048 - 4096) % 128, by omega⟩)
      else pp (ix3 b s ⟨8192 + (n.val - 2048 - 4096 - 2048), by omega⟩) := by
  pointwise [cols, heads_apply]

theorem res_apply (r : Fin 16384) (n : Fin 14336) :
    res x md g w qg kg (ix2 r n) = cols qg kg (p w (h x md g)) (ix3 ⟨r.val / 8192, by omega⟩ ⟨r.val % 8192, by omega⟩ n) := by
  pointwise [res]

end Cert.ReferenceProjectIdeal.Val

end
-- ==== Proof.ProjValue.lean ====
/- The input projection's tiles at an index. -/
module

public import proofs.«01_k».proof.Proof.ProjLaunch
public import proofs.«01_k».proof.Proof.ProjRef

@[expose] public section

set_option maxRecDepth 16384

noncomputable section

namespace Cert.KernelProjectIdeal.Proj

open Idealize.ShloMosaic Idealize.ShloMosaic.TcCoe Idealize.ShloMosaic.Tactic
open Cert.KernelProjectIdeal.Gen Cert.Proj

theorem pay1_apply (g : Vec Ideal S1x2048 .f32) (sc sh : Vec Ideal S1x1x1x2048 .f32) (x : Vec Ideal S128x2048 .f32) (r : Fin 128) (k : Fin 2048) :
    k0_pay1 g sc sh x (ix2 r k) = normed len2048 (fun j => x (ix2 r j)) k * (g (ix2 0 k) * (one + sc (ix4 0 0 0 k))) + sh (ix4 0 0 0 k) := by
  unfold normed
  pointwise [k0_pay1]

theorem rowsAt_apply (x : Vec Ideal S2048x2048 .f32) (k : ℕ) (hk : k < 16) (r : Fin 128) (j : Fin 2048) :
    rowsAt x k hk (ix2 r j) = x (ix2 ⟨128 * k + r.val, by omega⟩ j) := by
  refine congrArg x (funext fun a => Fin.ext ?_)
  fin_cases a
  · show 128 * k + 1 * r.val = 128 * k + r.val; omega
  · show 0 + 1 * j.val = j.val; omega

/-- A normed, modulated row. -/
theorem hF_apply (x : Vec Ideal S2048x2048 .f32) (sh sc : Vec Ideal S1x1x1x2048 .f32) (g : Vec Ideal S1x2048 .f32) (r : Fin 2048) (k : Fin 2048) :
    hF x sh sc g (ix2 r k) = normed len2048 (fun j => x (ix2 r j)) k * (g (ix2 0 k) * (one + sc (ix4 0 0 0 k))) + sh (ix4 0 0 0 k) := by
  have hr : r.val < 2048 := r.isLt
  refine (pay1_apply g sc sh (rowsAt x (r.val / 128) (by omega)) ⟨r.val % 128, Nat.mod_lt _ (by decide)⟩ k).trans ?_
  have e : ∀ j, rowsAt x (r.val / 128) (by omega) (ix2 ⟨r.val % 128, Nat.mod_lt _ (by decide)⟩ j) = x (ix2 r j) := fun j =>
    (rowsAt_apply x _ _ _ j).trans (congrArg (fun q => x (ix2 q j)) (Fin.ext (by simp only; omega)))
  simp only [e]

theorem pay4_apply (a : Vec Ideal S2048x2048 .bf16) (w : Vec Ideal S1x2048x512 .bf16) (r : Fin 2048) (n : Fin 512) :
    k0_pay4 a w (ix2 r n) = ∑ k : Fin 2048, a (ix2 r k) * w (ix3 0 k n) := by
  pointwise [k0_pay4]

theorem pay3_apply (a : Vec Ideal S2048x2048 .bf16) (w : Vec Ideal S1x2048x512 .bf16) (r : Fin 2048) (n : Fin 512) :
    k0_pay3 a w (ix2 r n) = ∑ k : Fin 2048, a (ix2 r k) * w (ix3 0 k n) := by
  pointwise [k0_pay3]

theorem pay5_query (q k : Vec Ideal S1x512 .f32) (n : Fin 512) : k0_pay5 1#1 q k (ix2 0 n) = q (ix2 0 n) := by
  pointwise [k0_pay5]
theorem pay5_key (q k : Vec Ideal S1x512 .f32) (n : Fin 512) : k0_pay5 0#1 q k (ix2 0 n) = k (ix2 0 n) := by
  pointwise [k0_pay5]

theorem slice_blk_apply (v : FVec Ideal S2048x512 .f32) (a b : ℕ) (ha : a < 8) (hb : b < 4) (r : Fin 256) (d : Fin 128) :
    extractStridedSlice S256x128 ![256 * a, 128 * b] v (slices_blk a b ha hb) (ix2 r d) = v (ix2 ⟨256 * a + r.val, by omega⟩ ⟨128 * b + d.val, by omega⟩) := by
  pointwise

theorem slice_gain_apply (v : FVec Ideal S1x512 .f32) (b : ℕ) (hb : b < 4) (d : Fin 128) :
    extractStridedSlice S1x128 ![0, 128 * b] v (slices_gain b hb) (ix2 0 d) = v (ix2 0 ⟨128 * b + d.val, by omega⟩) := by
  pointwise

theorem headBlk_apply (v19 : FVec Ideal S2048x512 .f32) (v24 : FVec Ideal S1x512 .f32) (a b : ℕ) (ha : a < 8) (hb : b < 4) (r : Fin 256) (d : Fin 128) :
    headBlk v19 v24 a b ha hb (ix2 r d)
      = normed len128 (fun j : Fin 128 => v19 (ix2 ⟨256 * a + r.val, by omega⟩ ⟨128 * b + j.val, by omega⟩)) d * v24 (ix2 0 ⟨128 * b + d.val, by omega⟩) := by
  unfold normed
  pointwise [headBlk, slice_blk_apply, slice_gain_apply]

/-- A tile's head, normed. -/
theorem normF_apply (v19 : FVec Ideal S2048x512 .f32) (v24 : FVec Ideal S1x512 .f32) (r : Fin 2048) (n : Fin 512) :
    normF v19 v24 (ix2 r n)
      = normed len128 (fun j : Fin 128 => v19 (ix2 r ⟨n.val / 128 * 128 + j.val, by omega⟩)) ⟨n.val % 128, by omega⟩ * v24 (ix2 0 n) := by
  have hr : r.val < 2048 := r.isLt
  have hn : n.val < 512 := n.isLt
  refine (headBlk_apply v19 v24 (r.val / 256) (n.val / 128) (by omega) (by omega) ⟨r.val % 256, Nat.mod_lt _ (by decide)⟩ ⟨n.val % 128, Nat.mod_lt _ (by decide)⟩).trans ?_
  have e0 : ∀ j : Fin 128, v19 (ix2 ⟨256 * (r.val / 256) + r.val % 256, by omega⟩ ⟨128 * (n.val / 128) + j.val, by omega⟩) = v19 (ix2 r ⟨n.val / 128 * 128 + j.val, by omega⟩) := fun j =>
    congrArg₂ (fun a b => v19 (ix2 a b)) (Fin.ext (by simp only; omega)) (Fin.ext (by simp only; omega))
  have e1 : v24 (ix2 0 ⟨128 * (n.val / 128) + n.val % 128, by omega⟩) = v24 (ix2 0 n) := congrArg (fun a => v24 (ix2 0 a)) (Fin.ext (by simp only; omega))
  simp only [e0, e1]

end Cert.KernelProjectIdeal.Proj

end
-- ==== Proof.ProjEqual.lean ====
/- The input projection: the kernel's result is the reference's. -/
module

public import proofs.«01_k».proof.Proof.ProjValue
public import proofs.«01_k».proof.Proof.Gen.KernelProject

@[expose] public section

set_option maxRecDepth 16384

noncomputable section

namespace Cert.KernelProjectIdeal.Proj

open Idealize.ShloMosaic Idealize.ShloMosaic.TcCoe Idealize.ShloMosaic.Tactic
open Idealize.SL.Sem Cert.KernelProjectIdeal Cert.KernelProjectIdeal.Gen Cert.Proj

variable (m : (ℓ : Loc nD τ sig) → Buf (Elt Ideal) ℓ) (c : Dev nD)

theorem index0 : ∀ t : Fin grid0.N, win0_0.index t = ![t.val / 28, 0] := by decide +kernel
theorem index1 : ∀ t : Fin grid0.N, win0_1.index t = ![0, t.val / 112, 0, 0] := by decide +kernel
theorem index2 : ∀ t : Fin grid0.N, win0_2.index t = ![0, t.val / 112, 0, 1] := by decide +kernel
theorem index3 : ∀ t : Fin grid0.N, win0_3.index t = ![0, 0] := by decide +kernel
theorem index4 : ∀ t : Fin grid0.N, win0_4.index t = ![0, 0, t.val % 28] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![t.val / 28, t.val % 28] := by decide +kernel

theorem query_yes : ∀ t : Fin grid0.N, t.val % 28 < 4 → isQuery (grid0.coords t) = 1#1 := by decide +kernel
theorem query_no : ∀ t : Fin grid0.N, ¬t.val % 28 < 4 → isQuery (grid0.coords t) = 0#1 := by decide +kernel

theorem lt224 (t : Fin cfg0.N) : t.val < 224 := Nat.lt_of_lt_of_eq t.isLt N_0

/-- The rows and columns of a point. -/
def row (t : Fin cfg0.N) (r : Fin 2048) : Fin 16384 := ⟨2048 * (t.val / 28) + r.val, by have := lt224 t; omega⟩
def col (t : Fin cfg0.N) (n : Fin 512) : Fin 14336 := ⟨512 * (t.val % 28) + n.val, by omega⟩

abbrev a0 : FVec Ideal S2x8192x2048 .f32 := m ((c : Thread nD τ).loc main_arg0)
abbrev a1 : FVec Ideal S4x8x1x6144 .f32 := m ((c : Thread nD τ).loc main_arg1)
abbrev a2 : FVec Ideal S2048 .f32 := m ((c : Thread nD τ).loc main_arg2)
abbrev a3 : FVec Ideal S2048x14400 .f32 := m ((c : Thread nD τ).loc main_arg3)
abbrev a4 : FVec Ideal S128 .f32 := m ((c : Thread nD τ).loc main_arg4)
abbrev a5 : FVec Ideal S128 .f32 := m ((c : Thread nD τ).loc main_arg5)

theorem V10_apply (r : Fin 16384) (k : Fin 2048) : V m c main_v10 (ix2 r k) = a0 m c (ix3 ⟨r.val / 8192, by omega⟩ ⟨r.val % 8192, by omega⟩ k) := by
  entry_read; pointwise
theorem V11_apply (k : Fin 2048) : V m c main_v11 (ix2 0 k) = a2 m c (ix1 k) := by
  entry_read; pointwise
theorem V2_apply (k : Fin 2048) (n : Fin 14336) : V m c main_v2 (ix3 0 k n) = a3 m c (ix2 k ⟨n.val, by omega⟩) := by
  entry_read; pointwise
theorem V17_apply (n : Fin 512) : V m c main_v17 (ix2 0 n) = a4 m c (ix1 ⟨n.val % 128, by omega⟩) * scale := by
  entry_read; pointwise
theorem V21_apply (n : Fin 512) : V m c main_v21 (ix2 0 n) = a5 m c (ix1 ⟨n.val % 128, by omega⟩) := by
  entry_read; pointwise

theorem emb0 (t : Fin cfg0.N) (r : Fin 2048) (k : Fin 2048) : (win0_0.blk t).view.emb (ix2 r k) = ix2 (row t r) k := by
  unfold row; blk_ext [index0 t]
theorem emb3 (t : Fin cfg0.N) (k : Fin 2048) : (win0_3.blk t).view.emb (ix2 0 k) = ix2 0 k := by
  blk_ext [index3 t]
theorem emb4 (t : Fin cfg0.N) (k : Fin 2048) (n : Fin 512) : (win0_4.blk t).view.emb (ix3 0 k n) = ix3 0 k (col t n) := by
  unfold col; blk_ext [index4 t]
theorem emb6 (t : Fin cfg0.N) (n : Fin 512) : (win0_6.blk t).view.emb (ix2 0 n) = ix2 0 n := by
  blk_ext [index6 t]
theorem emb7 (t : Fin cfg0.N) (n : Fin 512) : (win0_7.blk t).view.emb (ix2 0 n) = ix2 0 n := by
  blk_ext [index7 t]
theorem emb8 (t : Fin cfg0.N) (r : Fin 2048) (n : Fin 512) : (win0_8.blk t).view.emb (ix2 r n) = ix2 (row t r) (col t n) := by
  unfold row col; blk_ext [index8 t]

theorem iblk1_apply (t : Fin cfg0.N) (k : Fin 2048) : iblk m c 1 t (ix4 0 0 0 k) = a1 m c (ix4 0 ⟨t.val / 112, by have := lt224 t; omega⟩ 0 ⟨k.val, by omega⟩) := by
  have ht := lt224 t
  blk_ext [iblk, V_main_arg1, index1 t]
theorem iblk2_apply (t : Fin cfg0.N) (k : Fin 2048) : iblk m c 2 t (ix4 0 0 0 k) = a1 m c (ix4 0 ⟨t.val / 112, by have := lt224 t; omega⟩ 0 ⟨2048 + k.val, by omega⟩) := by
  have ht := lt224 t
  blk_ext [iblk, V_main_arg1, index2 t]

/-- The reference's normed rows and their product, of the arguments. -/
abbrev hR : FVec Ideal S2x8192x2048 .f32 := Cert.ReferenceProjectIdeal.Val.h (a0 m c) (a1 m c) (a2 m c)
abbrev pR : FVec Ideal Cert.ReferenceProjectIdeal.S2x8192x14336 .f32 := Cert.ReferenceProjectIdeal.Val.p (a3 m c) (hR m c)

theorem row_div (t : Fin cfg0.N) (r : Fin 2048) : (row t r).val / 8192 = t.val / 112 := by
  unfold row; simp only; omega

/-- A band's normed rows are the reference's. -/
theorem rows_apply (t : Fin cfg0.N) (r : Fin 2048) (k : Fin 2048) :
    rows m c t (ix2 r k) = hR m c (ix3 ⟨(row t r).val / 8192, by omega⟩ ⟨(row t r).val % 8192, by omega⟩ k) := by
  unfold rows
  refine (hF_apply _ _ _ _ r k).trans ?_
  refine Eq.trans ?_ (Cert.ReferenceProjectIdeal.Val.h_apply _ _ _ _ _ _).symm
  have e0 : ∀ j, iblk m c 0 t (ix2 r j) = _ := fun j => (congrArg (V m c main_v10) (emb0 t r j)).trans (V10_apply m c _ _)
  have e1 : iblk m c 1 t (ix4 0 0 0 k) = _ := iblk1_apply m c t k
  have e2 : iblk m c 2 t (ix4 0 0 0 k) = _ := iblk2_apply m c t k
  have e3 : iblk m c 3 t (ix2 0 k) = _ := (congrArg (V m c main_v11) (emb3 t k)).trans (V11_apply m c _)
  simp only [e0, e1, e2, e3, row_div]
  rw [mul_assoc]

/-- A tile's products are the reference's. -/
theorem sum_apply (t : Fin cfg0.N) (r : Fin 2048) (n : Fin 512) :
    (∑ k : Fin 2048, rows m c t (ix2 r k) * iblk m c 4 t (ix3 0 k n)) = pR m c (ix3 ⟨(row t r).val / 8192, by omega⟩ ⟨(row t r).val % 8192, by omega⟩ (col t n)) := by
  refine Eq.trans ?_ (Cert.ReferenceProjectIdeal.Val.p_apply _ _ _ _ _).symm
  have e4 : ∀ k, iblk m c 4 t (ix3 0 k n) = _ := fun k => (congrArg (V m c main_v2) (emb4 t k n)).trans (V2_apply m c _ _)
  simp only [rows_apply, e4]

theorem head_row (t : Fin cfg0.N) (r : Fin 2048) (n : Fin 512) (q : Fin 128 → Fin 14336) (hq : ∀ j, (q j).val = (col t n).val / 128 * 128 + j.val) :
    (fun j : Fin 128 => k0_pay4 (rows m c t) (iblk m c 4 t) (ix2 r ⟨n.val / 128 * 128 + j.val, by omega⟩))
      = fun j => pR m c (ix3 ⟨(row t r).val / 8192, by omega⟩ ⟨(row t r).val % 8192, by omega⟩ (q j)) := by
  funext j
  refine ((pay4_apply _ _ _ _).trans (sum_apply m c t r _)).trans ?_
  refine congrArg (fun a => pR m c (ix3 _ _ a)) (Fin.ext ?_)
  rw [hq j]
  unfold col
  simp only
  omega

/-- A tile is the reference's. -/
theorem tile_apply (t : Fin cfg0.N) (r : Fin 2048) (n : Fin 512) :
    tile m c t (ix2 r n) = Cert.ReferenceProjectIdeal.Val.res (a0 m c) (a1 m c) (a2 m c) (a3 m c) (a4 m c) (a5 m c) (ix2 (row t r) (col t n)) := by
  rw [Cert.ReferenceProjectIdeal.Val.res_apply, Cert.ReferenceProjectIdeal.Val.cols_apply]
  have hc : (col t n).val = 512 * (t.val % 28) + n.val := rfl
  have hm : (col t n).val % 128 = n.val % 128 := by rw [hc]; omega
  have hn := n.isLt
  have plain : ∀ q : Fin 14336, q.val = (col t n).val → ¬k0_cond2 (grid0.coords t) = 1#1 →
      tile m c t (ix2 r n) = pR m c (ix3 ⟨(row t r).val / 8192, by omega⟩ ⟨(row t r).val % 8192, by omega⟩ q) := by
    intro q hq hk
    rw [show tile m c t = _ from if_neg hk]
    refine ((pay3_apply _ _ _ _).trans (sum_apply m c t r n)).trans ?_
    exact congrArg (fun a => pR m c (ix3 _ _ a)) (Fin.ext hq.symm)
  by_cases h0 : t.val % 28 < 4
  · rw [dif_pos (by omega), show tile m c t = _ from if_pos ((normed_iff t).mpr (by omega)), query_yes t h0]
    refine (normF_apply _ _ r n).trans ?_
    rw [pay5_query, head_row m c t r n (fun j => ⟨(col t n).val / 128 * 128 + j.val, by omega⟩) (fun j => rfl)]
    have e6 : iblk m c 6 t (ix2 0 n) = _ := (congrArg (V m c main_v17) (emb6 t n)).trans (V17_apply m c _)
    simp only [hm]
    rw [mul_assoc]
    exact congrArg _ e6
  rw [dif_neg (by omega)]
  by_cases h1 : t.val % 28 < 12
  · rw [dif_pos (by omega)]
    exact plain _ (by simp only; omega) (fun h => by have := (normed_iff t).mp h; omega)
  rw [dif_neg (by omega)]
  by_cases h2 : t.val % 28 < 16
  · rw [dif_pos (by omega), show tile m c t = _ from if_pos ((normed_iff t).mpr (by omega)), query_no t h0]
    refine (normF_apply _ _ r n).trans ?_
    rw [pay5_key, head_row m c t r n (fun j => ⟨6144 + (((col t n).val - 2048 - 4096) / 128 * 128 + j.val), by omega⟩) (fun j => by simp only; omega)]
    have e7 : iblk m c 7 t (ix2 0 n) = _ := (congrArg (V m c main_v21) (emb7 t n)).trans (V21_apply m c _)
    have hm' : ((col t n).val - 2048 - 4096) % 128 = n.val % 128 := by omega
    simp only [hm']
    exact congrArg _ e7
  rw [dif_neg (by omega)]
  exact plain _ (by simp only; omega) (fun h => by have := (normed_iff t).mp h; omega)

theorem result_eq : (dats m 0 c).arrAt 8 cfg0.N = Cert.ReferenceProjectIdeal.Val.res (a0 m c) (a1 m c) (a2 m c) (a3 m c) (a4 m c) (a5 m c) := by
  refine (dats m 0 c).arrAt_eq_of_covers 8 _ (by decide +kernel) fun t _ y => ?_
  blk_simp
  rw [after8, eq_ix2 y]
  generalize y 0 = r
  generalize y 1 = n
  refine Eq.trans ?_ (congrArg _ (emb8 t r n).symm)
  exact tile_apply m c t r n

end Cert.KernelProjectIdeal.Proj

namespace Cert.Proof

open Idealize.ShloMosaic Idealize.ShloMosaic.TcCoe Idealize.SL.Sem

/-- The frame at any float values. -/
theorem frame_project_any {F : FTy → Type} [FloatOps F] (m : (ℓ : Loc Cert.KernelProjectIdeal.nD Cert.KernelProjectIdeal.τ Cert.KernelProjectIdeal.sig) → Buf (Elt F) ℓ) (ρ : Dev Cert.KernelProjectIdeal.nD → PrngReg) :
    θ_run (Cert.KernelProjectIdeal.defs (F := F)) (onTc (τ := Cert.KernelProjectIdeal.τ) (Cert.KernelProjectIdeal.main (F := F))) ⟨m, fun _ => 0, ρ⟩ (fun r => (∀ c : Dev Cert.KernelProjectIdeal.nD,
      r.2.mem ((c.tc : Thread Cert.KernelProjectIdeal.nD Cert.KernelProjectIdeal.τ).loc Cert.KernelProjectIdeal.main_arg0) = m ((c.tc : Thread Cert.KernelProjectIdeal.nD Cert.KernelProjectIdeal.τ).loc Cert.KernelProjectIdeal.main_arg0)
      ∧ r.2.mem ((c.tc : Thread Cert.KernelProjectIdeal.nD Cert.KernelProjectIdeal.τ).loc Cert.KernelProjectIdeal.main_arg1) = m ((c.tc : Thread Cert.KernelProjectIdeal.nD Cert.KernelProjectIdeal.τ).loc Cert.KernelProjectIdeal.main_arg1)
      ∧ r.2.mem ((c.tc : Thread Cert.KernelProjectIdeal.nD Cert.KernelProjectIdeal.τ).loc Cert.KernelProjectIdeal.main_arg2) = m ((c.tc : Thread Cert.KernelProjectIdeal.nD Cert.KernelProjectIdeal.τ).loc Cert.KernelProjectIdeal.main_arg2)
      ∧ r.2.mem ((c.tc : Thread Cert.KernelProjectIdeal.nD Cert.KernelProjectIdeal.τ).loc Cert.KernelProjectIdeal.main_arg3) = m ((c.tc : Thread Cert.KernelProjectIdeal.nD Cert.KernelProjectIdeal.τ).loc Cert.KernelProjectIdeal.main_arg3)
      ∧ r.2.mem ((c.tc : Thread Cert.KernelProjectIdeal.nD Cert.KernelProjectIdeal.τ).loc Cert.KernelProjectIdeal.main_arg4) = m ((c.tc : Thread Cert.KernelProjectIdeal.nD Cert.KernelProjectIdeal.τ).loc Cert.KernelProjectIdeal.main_arg4)
      ∧ r.2.mem ((c.tc : Thread Cert.KernelProjectIdeal.nD Cert.KernelProjectIdeal.τ).loc Cert.KernelProjectIdeal.main_arg5) = m ((c.tc : Thread Cert.KernelProjectIdeal.nD Cert.KernelProjectIdeal.τ).loc Cert.KernelProjectIdeal.main_arg5))
      ∧ r.2.sem = fun _ => 0) :=
  (θ_run Cert.KernelProjectIdeal.defs _ _).mono (fun _ h => And.intro (fun c => (h.1 c).1) h.2) (Cert.KernelProjectIdeal.Proj.run_any (F := F) m ρ)

theorem frame_project_ideal : Cert.quiescent_KernelProjectIdeal := fun m ρ _ => frame_project_any m ρ

/-- At the bit patterns the two kernel programs have the same body, label by label. -/
theorem bodies_project_eq : @Cert.KernelProject.defs₀ Bits _ _ = @Cert.KernelProjectIdeal.defs₀ Bits _ _ := by
  unfold Cert.KernelProject.defs₀ Cert.KernelProjectIdeal.defs₀
  refine congrArg Defs.onTc ?_
  funext l a
  match l, a with
  | 0, (t, s) => rfl
  | ⟨_ + 1, h⟩, _ => exact absurd h (Nat.not_lt.2 (Nat.le_add_left _ _))

theorem defs_project_eq : @Cert.KernelProject.defs Bits _ _ = @Cert.KernelProjectIdeal.defs Bits _ _ :=
  congrArg (Pipeline.defs (Cert.KernelProjectIdeal.pcfgs (F := Bits))) bodies_project_eq

theorem frame_project : Cert.quiescent_KernelProject := fun m ρ _ => by
  rw [defs_project_eq]
  exact frame_project_any (F := Bits) m ρ

theorem frame_reference_project : Cert.quiescent_ReferenceProjectIdeal := fun m ρ _ =>
  (θ_run Cert.ReferenceProjectIdeal.defs _ _).mono
    (fun r h => ⟨fun c => (h c).2, sem_eq_zero_of_no_sems (by decide) r.2⟩) (Cert.ReferenceProjectIdeal.Value.run (F := Ideal) m ρ)

open Cert.KernelProjectIdeal.Proj (a0 a1 a2 a3 a4 a5 result_eq) in
theorem algebraic_project : Cert.algebraic_KernelProjectIdeal_ReferenceProjectIdeal := fun m ρ m' ρ' _ hag =>
  ⟨fun c => Cert.ReferenceProjectIdeal.Val.res (a0 m c) (a1 m c) (a2 m c) (a3 m c) (a4 m c) (a5 m c),
    (θ_run Cert.KernelProjectIdeal.defs _ _).mono (fun _ h c => ⟨(h.1 c).2.trans (result_eq m c), (h.1 c).1⟩)
      (Cert.KernelProjectIdeal.Proj.run_any (F := Ideal) m ρ),
    (θ_run Cert.ReferenceProjectIdeal.defs _ _).mono
      (fun r h c => ⟨((h c).1.trans (Cert.ReferenceProjectIdeal.Val.res_eq m' c)).trans (by
        rw [(hag c).1, (hag c).2.1, (hag c).2.2.1, (hag c).2.2.2.1, (hag c).2.2.2.2.1, (hag c).2.2.2.2.2]), (h c).2⟩)
      (Cert.ReferenceProjectIdeal.Value.run (F := Ideal) m' ρ')⟩

end Cert.Proof

end
-- ==== Proof.ConvSpec.lean ====
/- What one grid point of the short convolution leaves in its buffers: the normed, modulated rows of a band with the 16
   rows before it and after it; the gated product of those rows; the tile of the result. -/
module

public import proofs.«01_k».proof.Proof.Gen.KernelConvIdeal.Loops
public import Idealize.ShloMosaic.Lib.VecWindow
public import Idealize.ShloMosaic.Lib.Pointwise
public import Idealize.ShloMosaic.Lib.Pipeline.Value

@[expose] public section

set_option maxRecDepth 16384

noncomputable section

namespace Cert.KernelConvIdeal.Conv

open Idealize.ShloMosaic Idealize.ShloMosaic.TcCoe Idealize.ShloMosaic.Tactic
open Cert.KernelConvIdeal.Gen

variable {F : FTy → Type} [FloatOps F]

theorem rows_inb (k : ℕ) (hk : k < 8) : ∀ a, (![128 * k, 0] : Fin 2 → ℕ) a + S128x2048.size a ≤ S1024x2048.size a := by
  intro a; fin_cases a
  · show 128 * k + 128 ≤ 1024; omega
  · show 0 + 2048 ≤ 2048; omega

/-- The `k`-th 128 rows of a band. -/
def rowsAt (x : Vec F S1024x2048 .f32) (k : ℕ) (hk : k < 8) : Vec F S128x2048 .f32 := VecWindow.window x ![128 * k, 0] S128x2048.size (rows_inb k hk)

/-- The 16 rows before a band, normed and modulated. -/
def headF (xp : Vec F S16x2048 .f32) (sh sc : Vec F S1x1x1x2048 .f32) (g : Vec F S1x2048 .f32) : Vec F S16x2048 .bf16 := k0_pay4 g sc sh xp
/-- The 16 rows after it. -/
def tailF (xn : Vec F S16x2048 .f32) (sh sc : Vec F S1x1x1x2048 .f32) (g : Vec F S1x2048 .f32) : Vec F S16x2048 .bf16 :=
  k0_pay7 (k0_pay2 g sc) (k0_pay3 sh) (k0_pay5 xn) (k0_pay6 xn) (Scalar.ofBits .f32 0x358637BD#32)

/-- The rows of a band and those around it, normed and modulated. -/
def hF (x : Vec F S1024x2048 .f32) (xp xn : Vec F S16x2048 .f32) (sh sc : Vec F S1x1x1x2048 .f32) (g : Vec F S1x2048 .f32) : Vec F S1056x2048 .bf16 := fun y =>
  if h : (y 0).val < 16 then headF xp sh sc g (ix2 ⟨(y 0).val, h⟩ (y 1))
  else if h' : (y 0).val < 1040 then k0_pay8 (k0_pay2 g sc) (k0_pay3 sh) (rowsAt x (((y 0).val - 16) / 128) (by omega)) (ix2 ⟨((y 0).val - 16) % 128, Nat.mod_lt _ (by decide)⟩ (y 1))
  else tailF xn sh sc g (ix2 ⟨(y 0).val - 1040, by have hy : (y 0).val < 1056 := (y 0).isLt; omega⟩ (y 1))

/-- Where a band lies in its sequence. -/
def place (i : grid0.Coords) : BitVec 32 :=
  let arg0 : BitVec 32 := BitVec.ofNat 32 (i 0).val
  let v3 : BitVec 1 := Scalar.cmpi .eq 8#32 0#32
  let v4 : BitVec 32 := Scalar.select v3 1#32 8#32
  let v5 : BitVec 32 := Scalar.remsi arg0 v4
  let v6 : BitVec 1 := Scalar.cmpi .ne v5 0#32
  let v7 : BitVec 1 := Scalar.cmpi .slt v5 0#32
  let v8 : BitVec 1 := Scalar.cmpi .slt v4 0#32
  let v9 : BitVec 1 := Scalar.xori v7 v8
  let v10 : BitVec 1 := Scalar.andi v9 v6
  let v11 : BitVec 32 := Scalar.addi v5 v4
  Scalar.select v10 v11 v5

/-- The product of the two column blocks, zero outside of the sequence. -/
def uF (i : grid0.Coords) (h : Vec F S1056x2048 .bf16) (wc wh : Vec F S1x2048x256 .f32) : Vec F S1056x256 .f32 := fun y =>
  if h1 : (y 0).val < 16 then k0_pay10 i h wc wh (ix2 ⟨(y 0).val, h1⟩ (y 1))
  else if h2 : (y 0).val < 1040 then k0_pay12 (k0_pay11 h wc wh) (ix2 ⟨(y 0).val - 16, by omega⟩ (y 1))
  else k0_pay13 (place i) (k0_pay9 h wc wh) (ix2 ⟨(y 0).val - 1040, by have hy : (y 0).val < 1056 := (y 0).isLt; omega⟩ (y 1))

/-- 1024 rows of it. -/
def uAt (u : Vec F S1056x256 .f32) (k : ℕ) (inb : ∀ a, (![k, 0] : Fin 2 → ℕ) a + S1024x256.size a ≤ S1056x256.size a) : Vec F S1024x256 .f32 := VecWindow.window u ![k, 0] S1024x256.size inb
/-- A row of the convolution's weights. -/
def cwAt (w : Vec F S3x256 .f32) (k : ℕ) (inb : ∀ a, (![k, 0] : Fin 2 → ℕ) a + S1x256.size a ≤ S3x256.size a) : Vec F S1x256 .f32 := VecWindow.window w ![k, 0] S1x256.size inb
/-- The band's own rows. -/
def hMid (h : Vec F S1056x2048 .bf16) : Vec F S1024x2048 .bf16 := VecWindow.window h ![16, 0] S1024x2048.size inb_S1056x2048_S1024x2048_16_0

/-- The tile of the result. -/
def tileF (i : grid0.Coords) (h : Vec F S1056x2048 .bf16) (wb wc wh wg : Vec F S1x2048x256 .f32) (cw : Vec F S3x256 .f32) : Vec F S1024x256 .bf16 :=
  k0_pay1 (k0_pay14 (uAt (uF i h wc wh) 15 inb_S1056x256_S1024x256_15_0) (cwAt cw 0 inb_S3x256_S1x256_0_0) (uAt (uF i h wc wh) 16 inb_S1056x256_S1024x256_16_0) (cwAt cw 1 inb_S3x256_S1x256_1_0)
      (uAt (uF i h wc wh) 17 inb_S1056x256_S1024x256_17_0) (cwAt cw 2 inb_S3x256_S1x256_2_0))
    (hMid h) (k0_pay15 (hMid h) wb) (k0_pay16 wg)

/-- A buffer whose pieces all agree with `G` where they lie and cover it reads `G`. -/
theorem read_of_pieces {sp : Space} {s : Shape} {e : EltTy} (v : View sig .tc sp s e) (f : v.ty.Contents (Elt F)) (L : List (View.Piece (Elt F) s e)) (G : s.Idx → Elt F e)
    (hG : ∀ p ∈ L, ∀ x, p.2 x = G (p.1.emb x)) (hc : ∀ y, ∃ p ∈ L, y ∈ p.1.set) : v.read (Elt F) (v.writes (Elt F) f L) = G :=
  funext fun y => v.read_writes_apply_of_pieces f G L hG y (hc y)

/-- A buffer stored whole reads what was stored. -/
theorem read_whole {sp : Space} {s : Shape} {e : EltTy} (v : View sig .tc sp s e) (f : v.ty.Contents (Elt F)) {off : Fin s.rank → ℕ} (inb : ∀ a, off a + s.size a ≤ s.size a) (w : s.Idx → Elt F e) :
    v.read (Elt F) (v.writes (Elt F) f [⟨Rect.unit off s.size inb, w⟩]) = w := by
  have he : ∀ x : s.Idx, (Rect.unit off s.size inb).emb x = x := fun x => funext fun a => Fin.ext (by
    show off a + 1 * (x a).val = (x a).val
    have := inb a; omega)
  funext y
  refine View.read_writes_apply_of_pieces _ _ w _ ?_ y ⟨_, List.mem_cons_self, (Rect.mem_set_unit (inb := inb)).mpr fun a => ⟨by have := inb a; omega, Nat.lt_of_lt_of_le (y a).isLt (Nat.le_add_left _ _)⟩⟩
  simp only [List.forall_mem_cons, List.not_mem_nil, false_imp_iff, implies_true, and_true]
  exact fun x => (congrArg w (he x)).symm

/-- Where a block of rows lies. -/
theorem emb_rows {n d k r : ℕ} (inb : ∀ a, (![k, 0] : Fin 2 → ℕ) a + (⟨2, ![r, d]⟩ : Shape).size a ≤ (⟨2, ![n, d]⟩ : Shape).size a) (z : (⟨2, ![r, d]⟩ : Shape).Idx) :
    ((Rect.unit (s := ⟨2, ![n, d]⟩) ![k, 0] (⟨2, ![r, d]⟩ : Shape).size inb).emb z 0).val = k + (z 0).val ∧ (Rect.unit (s := ⟨2, ![n, d]⟩) ![k, 0] (⟨2, ![r, d]⟩ : Shape).size inb).emb z 1 = z 1 := by
  constructor
  · show k + 1 * (z 0).val = _; omega
  · exact Fin.ext (by show 0 + 1 * (z 1).val = _; omega)

theorem hF_head (x : Vec F S1024x2048 .f32) (xp xn : Vec F S16x2048 .f32) (sh sc : Vec F S1x1x1x2048 .f32) (g : Vec F S1x2048 .f32) (w : Vec F S16x2048 .bf16) (hw : w = headF xp sh sc g)
    (inb : ∀ a, (![0, 0] : Fin 2 → ℕ) a + S16x2048.size a ≤ S1056x2048.size a) (z : S16x2048.Idx) :
    w z = hF x xp xn sh sc g ((Rect.unit (s := S1056x2048) ![0, 0] S16x2048.size inb).emb z) := by
  subst hw
  obtain ⟨e0, e1⟩ := emb_rows inb z
  have h0 : (z 0).val < 16 := (z 0).isLt
  unfold hF
  rw [dif_pos (by rw [e0]; omega)]
  exact congrArg (headF xp sh sc g) ((eq_ix2 z).trans (congrArg₂ ix2 (Fin.ext (by show (z 0).val = _; rw [e0]; omega)) e1.symm))

theorem hF_tail (x : Vec F S1024x2048 .f32) (xp xn : Vec F S16x2048 .f32) (sh sc : Vec F S1x1x1x2048 .f32) (g : Vec F S1x2048 .f32) (w : Vec F S16x2048 .bf16) (hw : w = tailF xn sh sc g)
    (inb : ∀ a, (![1040, 0] : Fin 2 → ℕ) a + S16x2048.size a ≤ S1056x2048.size a) (z : S16x2048.Idx) :
    w z = hF x xp xn sh sc g ((Rect.unit (s := S1056x2048) ![1040, 0] S16x2048.size inb).emb z) := by
  subst hw
  obtain ⟨e0, e1⟩ := emb_rows inb z
  unfold hF
  rw [dif_neg (by rw [e0]; omega), dif_neg (by rw [e0]; omega)]
  exact congrArg (tailF xn sh sc g) ((eq_ix2 z).trans (congrArg₂ ix2 (Fin.ext (by show (z 0).val = _ - 1040; rw [e0]; omega)) e1.symm))

/-- What a trip stores is those rows of it. -/
theorem hF_piece (x : Vec F S1024x2048 .f32) (xp xn : Vec F S16x2048 .f32) (sh sc : Vec F S1x1x1x2048 .f32) (g : Vec F S1x2048 .f32) (k : ℕ) (hk : k < 8) (off : Fin 2 → ℕ) (hoff : off = ![16 + 128 * k, 0])
    (w : Vec F S128x2048 .f32) (hw : w = rowsAt x k hk) (inb : ∀ a, off a + S128x2048.size a ≤ S1056x2048.size a) (z : S128x2048.Idx) :
    k0_pay8 (k0_pay2 g sc) (k0_pay3 sh) w z = hF x xp xn sh sc g ((Rect.unit (s := S1056x2048) off S128x2048.size inb).emb z) := by
  subst hoff hw
  have h0 : (z 0).val < 128 := (z 0).isLt
  obtain ⟨e0, e1⟩ := emb_rows inb z
  unfold hF
  rw [dif_neg (by rw [e0]; omega), dif_pos (by rw [e0]; omega)]
  have key : ∀ (k' : ℕ) (h' : k' < 8) (r : Fin 128) (c : Fin 2048), k' = k → r = z 0 → c = z 1 → k0_pay8 (k0_pay2 g sc) (k0_pay3 sh) (rowsAt x k hk) z = k0_pay8 (k0_pay2 g sc) (k0_pay3 sh) (rowsAt x k' h') (ix2 r c) := by
    intro k' h' r c a b d; subst a b d; exact congrArg _ (eq_ix2 z)
  exact key _ _ _ _ (by rw [e0]; omega) (Fin.ext (by show (_ - 16) % 128 = _; rw [e0]; omega)) e1

theorem uF_head (i : grid0.Coords) (h : Vec F S1056x2048 .bf16) (wc wh : Vec F S1x2048x256 .f32) (w : Vec F S16x256 .f32) (hw : w = k0_pay10 i h wc wh)
    (inb : ∀ a, (![0, 0] : Fin 2 → ℕ) a + S16x256.size a ≤ S1056x256.size a) (z : S16x256.Idx) :
    w z = uF i h wc wh ((Rect.unit (s := S1056x256) ![0, 0] S16x256.size inb).emb z) := by
  subst hw
  obtain ⟨e0, e1⟩ := emb_rows inb z
  have h0 : (z 0).val < 16 := (z 0).isLt
  unfold uF
  rw [dif_pos (by rw [e0]; omega)]
  exact congrArg (k0_pay10 i h wc wh) ((eq_ix2 z).trans (congrArg₂ ix2 (Fin.ext (by show (z 0).val = _; rw [e0]; omega)) e1.symm))

theorem uF_mid (i : grid0.Coords) (h : Vec F S1056x2048 .bf16) (wc wh : Vec F S1x2048x256 .f32) (w : Vec F S1024x256 .f32) (hw : w = k0_pay12 (k0_pay11 h wc wh))
    (inb : ∀ a, (![16, 0] : Fin 2 → ℕ) a + S1024x256.size a ≤ S1056x256.size a) (z : S1024x256.Idx) :
    w z = uF i h wc wh ((Rect.unit (s := S1056x256) ![16, 0] S1024x256.size inb).emb z) := by
  subst hw
  obtain ⟨e0, e1⟩ := emb_rows inb z
  have h0 : (z 0).val < 1024 := (z 0).isLt
  unfold uF
  rw [dif_neg (by rw [e0]; omega), dif_pos (by rw [e0]; omega)]
  exact congrArg (k0_pay12 (k0_pay11 h wc wh)) ((eq_ix2 z).trans (congrArg₂ ix2 (Fin.ext (by show (z 0).val = _ - 16; rw [e0]; omega)) e1.symm))

theorem uF_tail (i : grid0.Coords) (h : Vec F S1056x2048 .bf16) (wc wh : Vec F S1x2048x256 .f32) (w : Vec F S16x256 .f32) (hw : w = k0_pay13 (place i) (k0_pay9 h wc wh))
    (inb : ∀ a, (![1040, 0] : Fin 2 → ℕ) a + S16x256.size a ≤ S1056x256.size a) (z : S16x256.Idx) :
    w z = uF i h wc wh ((Rect.unit (s := S1056x256) ![1040, 0] S16x256.size inb).emb z) := by
  subst hw
  obtain ⟨e0, e1⟩ := emb_rows inb z
  unfold uF
  rw [dif_neg (by rw [e0]; omega), dif_neg (by rw [e0]; omega)]
  exact congrArg (k0_pay13 (place i) (k0_pay9 h wc wh)) ((eq_ix2 z).trans (congrArg₂ ix2 (Fin.ext (by show (z 0).val = _ - 1040; rw [e0]; omega)) e1.symm))

/-- Every row is in one of the three blocks. -/
theorem cover_rows {d : ℕ} {Val : EltTy → Type} {e : EltTy} (i1 : ∀ a, (![1040, 0] : Fin 2 → ℕ) a + (⟨2, ![16, d]⟩ : Shape).size a ≤ (⟨2, ![1056, d]⟩ : Shape).size a)
    (i2 : ∀ a, (![16, 0] : Fin 2 → ℕ) a + (⟨2, ![1024, d]⟩ : Shape).size a ≤ (⟨2, ![1056, d]⟩ : Shape).size a) (i3 : ∀ a, (![0, 0] : Fin 2 → ℕ) a + (⟨2, ![16, d]⟩ : Shape).size a ≤ (⟨2, ![1056, d]⟩ : Shape).size a)
    (y : (⟨2, ![1056, d]⟩ : Shape).Idx) : y ∈ (Rect.unit (s := ⟨2, ![1056, d]⟩) ![1040, 0] (⟨2, ![16, d]⟩ : Shape).size i1).set ∨ y ∈ (Rect.unit (s := ⟨2, ![1056, d]⟩) ![16, 0] (⟨2, ![1024, d]⟩ : Shape).size i2).set
      ∨ y ∈ (Rect.unit (s := ⟨2, ![1056, d]⟩) ![0, 0] (⟨2, ![16, d]⟩ : Shape).size i3).set := by
  have h0 : (y 0).val < 1056 := (y 0).isLt
  have h1 : (y 1).val < d := (y 1).isLt
  by_cases a : (y 0).val < 16
  · refine .inr (.inr (Rect.mem_set_unit.mpr fun b => ?_))
    fin_cases b
    · show 0 ≤ (y 0).val ∧ (y 0).val < 0 + 16; omega
    · show 0 ≤ (y 1).val ∧ (y 1).val < 0 + d; omega
  by_cases a' : (y 0).val < 1040
  · refine .inr (.inl (Rect.mem_set_unit.mpr fun b => ?_))
    fin_cases b
    · show 16 ≤ (y 0).val ∧ (y 0).val < 16 + 1024; omega
    · show 0 ≤ (y 1).val ∧ (y 1).val < 0 + d; omega
  · refine .inl (Rect.mem_set_unit.mpr fun b => ?_)
    fin_cases b
    · show 1040 ≤ (y 0).val ∧ (y 0).val < 1040 + 16; omega
    · show 0 ≤ (y 1).val ∧ (y 1).val < 0 + d; omega

theorem congr3 {α β γ δ : Sort*} (f : α → β → γ → δ) {a a' : α} {b b' : β} {d d' : γ} (h1 : a = a') (h2 : b = b') (h3 : d = d') : f a b d = f a' b' d' := by subst h1 h2 h3; rfl

theorem congr4 {α β γ δ ε : Sort*} (f : α → β → γ → δ → ε) {a a' : α} {b b' : β} {d d' : γ} {e e' : δ} (h1 : a = a') (h2 : b = b') (h3 : d = d') (h4 : e = e') : f a b d e = f a' b' d' e' := by subst h1 h2 h3 h4; rfl

/-- The band's own rows, read from a buffer known whole. -/
theorem read_hMid {s : Space} (v : View sig .tc s S1056x2048 .bf16) (f : v.ty.Contents (Elt F)) (h : Vec F S1056x2048 .bf16)
    (e : v.readAt (Elt F) (Rect.unit (s := S1056x2048) ![0, 0] S1056x2048.size inb_S1056x2048_S1056x2048_0_0).toLoadRect f = h) :
    v.readAt (Elt F) (Rect.unit (s := S1056x2048) ![16, 0] S1024x2048.size inb_S1056x2048_S1024x2048_16_0).toLoadRect f = hMid h := by
  rw [View.readAt_full] at e
  subst e
  rfl

/-- The rows read back from the three blocks stored. -/
theorem readCov_uF {s : Space} (v : View sig .tc s S1056x256 .f32) (i : grid0.Coords) (h : Vec F S1056x2048 .bf16) (wc wh : Vec F S1x2048x256 .f32) (k : ℕ) (inb : ∀ a, (![k, 0] : Fin 2 → ℕ) a + S1024x256.size a ≤ S1056x256.size a)
    (i1 : ∀ a, (![1040, 0] : Fin 2 → ℕ) a + S16x256.size a ≤ S1056x256.size a) (i2 : ∀ a, (![16, 0] : Fin 2 → ℕ) a + S1024x256.size a ≤ S1056x256.size a) (i3 : ∀ a, (![0, 0] : Fin 2 → ℕ) a + S16x256.size a ≤ S1056x256.size a)
    (w1 : Vec F S16x256 .f32) (w2 : Vec F S1024x256 .f32) (w3 : Vec F S16x256 .f32) (e1 : w1 = k0_pay13 (place i) (k0_pay9 h wc wh)) (e2 : w2 = k0_pay12 (k0_pay11 h wc wh)) (e3 : w3 = k0_pay10 i h wc wh) :
    v.readCov [⟨Rect.unit ![1040, 0] S16x256.size i1, w1⟩, ⟨Rect.unit ![16, 0] S1024x256.size i2, w2⟩, ⟨Rect.unit ![0, 0] S16x256.size i3, w3⟩] (Rect.unit (s := S1056x256) ![k, 0] S1024x256.size inb).toLoadRect = uAt (uF i h wc wh) k inb := by
  refine congrArg (fun u => uAt u k inb) (read_of_pieces v v.junk _ (uF i h wc wh) ?_ fun y => ?_)
  · simp only [List.forall_mem_cons, List.not_mem_nil, false_imp_iff, implies_true, and_true]
    exact ⟨uF_tail i h wc wh w1 e1 i1, uF_mid i h wc wh w2 e2 i2, uF_head i h wc wh w3 e3 i3⟩
  · rcases cover_rows (Val := Elt F) (e := .f32) i1 i2 i3 y with a | a | a
    · exact ⟨_, List.mem_cons_self, a⟩
    · exact ⟨_, List.mem_cons_of_mem _ List.mem_cons_self, a⟩
    · exact ⟨_, List.mem_cons_of_mem _ (List.mem_cons_of_mem _ List.mem_cons_self), a⟩

/-- The 16 rows before a band and those after it, as stored. -/
theorem ends_read {s : Space} (v : View sig .tc s S1056x2048 .bf16) (f : v.ty.Contents (Elt F)) (x : Vec F S1024x2048 .f32) (xp xn : Vec F S16x2048 .f32) (sh sc : Vec F S1x1x1x2048 .f32) (g : Vec F S1x2048 .f32)
    (i1 : ∀ a, (![1040, 0] : Fin 2 → ℕ) a + S16x2048.size a ≤ S1056x2048.size a) (i3 : ∀ a, (![0, 0] : Fin 2 → ℕ) a + S16x2048.size a ≤ S1056x2048.size a)
    (w1 w3 : Vec F S16x2048 .bf16) (e1 : w1 = tailF xn sh sc g) (e3 : w3 = headF xp sh sc g) (y : S1056x2048.Idx) (hy : (y 0).val < 16 ∨ 1040 ≤ (y 0).val) :
    v.read (Elt F) (v.writes (Elt F) f [⟨Rect.unit ![1040, 0] S16x2048.size i1, w1⟩, ⟨Rect.unit ![0, 0] S16x2048.size i3, w3⟩]) y = hF x xp xn sh sc g y := by
  have h0 : (y 0).val < 1056 := (y 0).isLt
  have h1 : (y 1).val < 2048 := (y 1).isLt
  refine View.read_writes_apply_of_pieces _ _ (hF x xp xn sh sc g) _ ?_ y ?_
  · simp only [List.forall_mem_cons, List.not_mem_nil, false_imp_iff, implies_true, and_true]
    exact ⟨hF_tail x xp xn sh sc g w1 e1 i1, hF_head x xp xn sh sc g w3 e3 i3⟩
  · rcases hy with a | a
    · refine ⟨_, List.mem_cons_of_mem _ List.mem_cons_self, (Rect.mem_set_unit (inb := i3)).mpr fun b => ?_⟩
      fin_cases b
      · show 0 ≤ (y 0).val ∧ (y 0).val < 0 + 16; omega
      · show 0 ≤ (y 1).val ∧ (y 1).val < 0 + 2048; omega
    · refine ⟨_, List.mem_cons_self, (Rect.mem_set_unit (inb := i1)).mpr fun b => ?_⟩
      fin_cases b
      · show 1040 ≤ (y 0).val ∧ (y 0).val < 1040 + 16; omega
      · show 0 ≤ (y 1).val ∧ (y 1).val < 0 + 2048; omega

/-! ## The loop over the rows -/

theorem off1_eq : ∀ k : Fin k0_t1_loop.trips, k0_off1 k = ![128 * k.val, 0] := by decide +kernel
theorem off2_eq : ∀ k : Fin k0_t1_loop.trips, k0_off2 k = ![16 + 128 * k.val, 0] := by decide +kernel
theorem trips_eq : k0_t1_loop.trips = 8 := by decide +kernel

section
variable (𝒱 : Variants) (c : Dev nD) (bd : Option 𝒱.V) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x1x1x2048 .f32) (harg5 : arg5.IsWhole) (arg6 : Memref sig .tc .vmem S1x1x1x2048 .f32) (harg6 : arg6.IsWhole) (arg7 : Memref sig .tc .vmem S1x2048 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S1x2048x256 .f32) (harg10 : arg10.IsWhole) (arg11 : Memref sig .tc .vmem S1x2048x256 .f32) (harg11 : arg11.IsWhole) (arg12 : Memref sig .tc .vmem S3x256 .f32) (harg12 : arg12.IsWhole) (arg13 : Memref sig .tc .vmem S1024x256 .bf16) (harg13 : arg13.IsWhole) (arg14 : Memref sig .tc .vmem S1056x2048 .bf16) (harg14 : arg14.IsWhole) (arg15 : Memref sig .tc .vmem S1056x256 .f32) (harg15 : arg15.IsWhole)
  (h1 : k0_cond1 i = 1#1) (xp xn : Vec F S16x2048 .f32) (sh sc : Vec F S1x1x1x2048 .f32) (g : Vec F S1x2048 .f32) (X : arg2.view.ty.Contents (Elt F)) (x : Vec F S1024x2048 .f32)

theorem trip_rows (hx : arg2.view.read (Elt F) X = x) (k : Fin k0_t1_loop.trips) (f : arg14.view.ty.Contents (Elt F))
    (hf : ∀ y : S1056x2048.Idx, ((y 0).val < 16 + 128 * k.val ∨ 1040 ≤ (y 0).val) → arg14.view.read (Elt F) f y = hF x xp xn sh sc g y) (y : S1056x2048.Idx) (hy : (y 0).val < 16 + 128 * (k.val + 1) ∨ 1040 ≤ (y 0).val) :
    arg14.view.read (Elt F) (arg14.view.writes (Elt F) f (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 h1 (k0_pay2 g sc) (k0_pay3 sh) X k)) y = hF x xp xn sh sc g y := by
  have hk : k.val < 8 := Nat.lt_of_lt_of_le k.isLt k0_t1_abs.2.1
  have e := off2_eq k
  have y1 : (y 1).val < 2048 := (y 1).isLt
  unfold tripL_k0_t1 trip_k0_t1
  dsimp only
  by_cases hlo : (y 0).val < 16 + 128 * k.val ∨ 1040 ≤ (y 0).val
  · rw [View.read_writes_apply_of_forall_not_mem]
    · exact hf y hlo
    · simp only [List.forall_mem_cons, List.not_mem_nil, false_imp_iff, implies_true, and_true]
      intro hm
      have q := Rect.mem_set_unit.mp hm 0
      rw [e] at q
      have q1 : 16 + 128 * k.val ≤ (y 0).val := q.1
      have q2 : (y 0).val < 16 + 128 * k.val + 128 := q.2
      omega
  · refine View.read_writes_apply_of_pieces _ _ (hF x xp xn sh sc g) _ ?_ y ⟨_, List.mem_cons_self, (Rect.mem_set_unit (inb := k0_off2_inb i k h1)).mpr ?_⟩
    · simp only [List.forall_mem_cons, List.not_mem_nil, false_imp_iff, implies_true, and_true]
      refine hF_piece x xp xn sh sc g k.val hk _ e _ ?_ _
      subst hx
      have key : ∀ (off : Fin 2 → ℕ) (ho : off = ![128 * k.val, 0]) (inb : ∀ a, off a + S128x2048.size a ≤ S1024x2048.size a),
          arg2.view.readAt (Elt F) (Rect.unit (s := S1024x2048) off S128x2048.size inb).toLoadRect X = rowsAt (arg2.view.read (Elt F) X) k.val hk := by
        intro off ho inb; subst ho; rfl
      exact key _ (off1_eq k) _
    · rw [e]
      intro a; fin_cases a
      · show 16 + 128 * k.val ≤ (y 0).val ∧ (y 0).val < 16 + 128 * k.val + 128; omega
      · show 0 ≤ (y 1).val ∧ (y 1).val < 0 + 2048; omega

/-- Before trip `n`: the rows before the band, the first `128n` of the band, and those after it are there. -/
theorem loop_rows (hx : arg2.view.read (Elt F) X = x) (f : arg14.view.ty.Contents (Elt F)) (hf : ∀ y : S1056x2048.Idx, ((y 0).val < 16 ∨ 1040 ≤ (y 0).val) → arg14.view.read (Elt F) f y = hF x xp xn sh sc g y) : ∀ n : ℕ, n ≤ k0_t1_loop.trips →
    ∀ y : S1056x2048.Idx, ((y 0).val < 16 + 128 * n ∨ 1040 ≤ (y 0).val) → arg14.view.read (Elt F) (arg14.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h1 (k0_pay2 g sc) (k0_pay3 sh) X n)) y = hF x xp xn sh sc g y
  | 0, _ => fun y hy => hf y hy
  | n + 1, hn => fun y hy => by
    have ih := loop_rows hx f hf n (by omega)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h1 (k0_pay2 g sc) (k0_pay3 sh) X ⟨n, by omega⟩
    rw [show pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h1 (k0_pay2 g sc) (k0_pay3 sh) X (n + 1) = _ from hs, View.writes_append]
    exact trip_rows 𝒱 c bd i arg2 harg2 arg3 harg3 arg4 harg4 arg5 harg5 arg6 harg6 arg7 harg7 arg8 harg8 arg9 harg9 arg10 harg10 arg11 harg11 arg12 harg12 arg13 harg13 arg14 harg14 arg15 harg15 h1 xp xn sh sc g X x hx ⟨n, by omega⟩ _ ih y hy

/-- After the loop the scratch holds the normed, modulated rows of the band and around it. -/
theorem loop_read (hx : arg2.view.read (Elt F) X = x) (f : arg14.view.ty.Contents (Elt F)) (hf : ∀ y : S1056x2048.Idx, ((y 0).val < 16 ∨ 1040 ≤ (y 0).val) → arg14.view.read (Elt F) f y = hF x xp xn sh sc g y) :
    arg14.view.read (Elt F) (arg14.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 h1 (k0_pay2 g sc) (k0_pay3 sh) X k0_t1_loop.trips)) = hF x xp xn sh sc g := by
  funext y
  refine loop_rows 𝒱 c bd i arg2 harg2 arg3 harg3 arg4 harg4 arg5 harg5 arg6 harg6 arg7 harg7 arg8 harg8 arg9 harg9 arg10 harg10 arg11 harg11 arg12 harg12 arg13 harg13 arg14 harg14 arg15 harg15 h1 xp xn sh sc g X x hx f hf _ le_rfl y ?_
  rw [trips_eq]; omega

end

end Cert.KernelConvIdeal.Conv

end
-- ==== Proof.ConvRunA.lean ====
/- One grid point of the short convolution, run: the first tile of a band. -/
module

public import proofs.«01_k».proof.Proof.ConvSpec
public import proofs.«01_k».proof.Proof.Gen.KernelConvIdeal.Frame

@[expose] public section

set_option maxRecDepth 16384

noncomputable section

namespace Cert.KernelConvIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelConvIdeal.Gen

variable {F : FTy → Type} [FloatOps F]

local notation "𝕄" => MT nD τ sig Unit (Elt F) ℕ (UR sig nD τ) ℕ

set_option maxHeartbeats 4000000 in
/-- The first tile of a band. -/
theorem run_A (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x1x1x2048 .f32) (harg5 : arg5.IsWhole) (arg6 : Memref sig .tc .vmem S1x1x1x2048 .f32) (harg6 : arg6.IsWhole) (arg7 : Memref sig .tc .vmem S1x2048 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S1x2048x256 .f32) (harg10 : arg10.IsWhole) (arg11 : Memref sig .tc .vmem S1x2048x256 .f32) (harg11 : arg11.IsWhole) (arg12 : Memref sig .tc .vmem S3x256 .f32) (harg12 : arg12.IsWhole) (arg13 : Memref sig .tc .vmem S1024x256 .bf16) (harg13 : arg13.IsWhole) (arg14 : Memref sig .tc .vmem S1056x2048 .bf16) (harg14 : arg14.IsWhole) (arg15 : Memref sig .tc .vmem S1056x256 .f32) (harg15 : arg15.IsWhole) (hc0 : k0_cond1 i = 1#1)
    (x0 : Vec F S1024x2048 .f32) (x1 : Vec F S16x2048 .f32) (x2 : Vec F S16x2048 .f32) (x3 : Vec F S1x1x1x2048 .f32) (x4 : Vec F S1x1x1x2048 .f32) (x5 : Vec F S1x2048 .f32) (x6 : Vec F S1x2048x256 .f32) (x7 : Vec F S1x2048x256 .f32) (x8 : Vec F S1x2048x256 .f32) (x9 : Vec F S1x2048x256 .f32) (x10 : Vec F S3x256 .f32) (E : Set ℕ) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d))
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (tileF i (hF x0 x1 x2 x3 x4 x5) x6 x7 x8 x9 x10) ∗ owns (c : Thread nD τ) arg14 fullShare (hF x0 x1 x2 x3 x4 x5) ∗ (∃ d, owns (c : Thread nD τ) arg15 fullShare d)) -∗ K ⟨⟩))
      ⊢ wp frame (wpE (defs₀ (F := F)) Variants.none c none) E (cc0_short_conv i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_short_conv_eq_skeleton]; unfold cc0_short_conv_skel
  simp only [k0_part1_eq_skeleton, k0_part2_eq_skeleton, k0_part3_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds, %fs, -, HS⟩, ⟨%du, %fu, -, HU⟩⟩, Hk⟩
  subst hf0 hf1 hf2 hf3 hf4 hf5 hf6 hf7 hf8 hf9 hf10
  sl_exec (disch := first | sl_exact hc0)
  have er : run_A.sl.r c arg6 arg7 f4 f5 = k0_pay2 (arg7.view.read (Elt F) f5) (arg6.view.read (Elt F) f4) := by
    unfold run_A.sl.r
    exact congrArg₂ k0_pay2 (View.readAt_full _ _ _) (View.readAt_full _ _ _)
  have er1 : run_A.sl.r_1 c arg5 f3 = k0_pay3 (arg5.view.read (Elt F) f3) := by
    unfold run_A.sl.r_1
    exact congrArg k0_pay3 (View.readAt_full _ _ _)
  have er2 : run_A.sl.r_2 c arg4 f2 = k0_pay5 (arg4.view.read (Elt F) f2) := by
    unfold run_A.sl.r_2
    exact congrArg k0_pay5 (View.readAt_full _ _ _)
  have er3 : run_A.sl.r_3 c arg4 f2 = k0_pay6 (arg4.view.read (Elt F) f2) := by
    unfold run_A.sl.r_3
    exact congrArg k0_pay6 (View.readAt_full _ _ _)
  have e13 : run_A.sl.v13 c i arg2 harg2 arg3 harg3 arg4 harg4 arg5 harg5 arg6 harg6 arg7 harg7 arg8 harg8 arg9 harg9 arg10 harg10 arg11 harg11 arg12 harg12 arg13 harg13 arg14 harg14 arg15 harg15 hc0 f0 f1 f2 f3 f4 f5 fs = (hF (arg2.view.read (Elt F) f0) (arg3.view.read (Elt F) f1) (arg4.view.read (Elt F) f2) (arg5.view.read (Elt F) f3) (arg6.view.read (Elt F) f4) (arg7.view.read (Elt F) f5)) := by
    unfold run_A.sl.v13
    refine (View.readAt_full _ _ _).trans ?_
    rw [View.writes_append, er, er1, er2, er3]
    refine loop_read Variants.none c none i arg2 harg2 arg3 harg3 arg4 harg4 arg5 harg5 arg6 harg6 arg7 harg7 arg8 harg8 arg9 harg9 arg10 harg10 arg11 harg11 arg12 harg12 arg13 harg13 arg14 harg14 arg15 harg15 hc0 (arg3.view.read (Elt F) f1) (arg4.view.read (Elt F) f2) (arg5.view.read (Elt F) f3) (arg6.view.read (Elt F) f4) (arg7.view.read (Elt F) f5) f0 _ rfl _ fun y hy => ?_
    exact ends_read arg14.view fs _ _ _ _ _ _ _ _ _ _ rfl (congr4 k0_pay4 (View.readAt_full _ _ _) (View.readAt_full _ _ _) (View.readAt_full _ _ _) (View.readAt_full _ _ _)) y hy
  have e58 : run_A.sl.v58 c i arg2 harg2 arg3 harg3 arg4 harg4 arg5 harg5 arg6 harg6 arg7 harg7 arg8 harg8 arg9 harg9 arg10 harg10 arg11 harg11 arg12 harg12 arg13 harg13 arg14 harg14 arg15 harg15 hc0 f0 f1 f2 f3 f4 f5 fs = hMid (hF (arg2.view.read (Elt F) f0) (arg3.view.read (Elt F) f1) (arg4.view.read (Elt F) f2) (arg5.view.read (Elt F) f3) (arg6.view.read (Elt F) f4) (arg7.view.read (Elt F) f5)) := by
    unfold run_A.sl.v58
    exact read_hMid arg14.view _ _ e13
  have er4 : run_A.sl.r_4 c i arg2 harg2 arg3 harg3 arg4 harg4 arg5 harg5 arg6 harg6 arg7 harg7 arg8 harg8 arg9 harg9 arg10 harg10 arg11 harg11 arg12 harg12 arg13 harg13 arg14 harg14 arg15 harg15 hc0 f0 f1 f2 f3 f4 f5 f7 f8 fs = k0_pay9 (hF (arg2.view.read (Elt F) f0) (arg3.view.read (Elt F) f1) (arg4.view.read (Elt F) f2) (arg5.view.read (Elt F) f3) (arg6.view.read (Elt F) f4) (arg7.view.read (Elt F) f5)) (arg9.view.read (Elt F) f7) (arg10.view.read (Elt F) f8) := by
    unfold run_A.sl.r_4
    exact congr3 k0_pay9 e13 (View.readAt_full _ _ _) (View.readAt_full _ _ _)
  have er5 : run_A.sl.r_5 c i arg2 harg2 arg3 harg3 arg4 harg4 arg5 harg5 arg6 harg6 arg7 harg7 arg8 harg8 arg9 harg9 arg10 harg10 arg11 harg11 arg12 harg12 arg13 harg13 arg14 harg14 arg15 harg15 hc0 f0 f1 f2 f3 f4 f5 f7 f8 fs = k0_pay11 (hF (arg2.view.read (Elt F) f0) (arg3.view.read (Elt F) f1) (arg4.view.read (Elt F) f2) (arg5.view.read (Elt F) f3) (arg6.view.read (Elt F) f4) (arg7.view.read (Elt F) f5)) (arg9.view.read (Elt F) f7) (arg10.view.read (Elt F) f8) := by
    unfold run_A.sl.r_5
    exact congr3 k0_pay11 e13 (View.readAt_full _ _ _) (View.readAt_full _ _ _)
  have e15 : run_A.sl.v41 c i arg2 harg2 arg3 harg3 arg4 harg4 arg5 harg5 arg6 harg6 arg7 harg7 arg8 harg8 arg9 harg9 arg10 harg10 arg11 harg11 arg12 harg12 arg13 harg13 arg14 harg14 arg15 harg15 hc0 f0 f1 f2 f3 f4 f5 f7 f8 fs = uAt (uF i (hF (arg2.view.read (Elt F) f0) (arg3.view.read (Elt F) f1) (arg4.view.read (Elt F) f2) (arg5.view.read (Elt F) f3) (arg6.view.read (Elt F) f4) (arg7.view.read (Elt F) f5)) (arg9.view.read (Elt F) f7) (arg10.view.read (Elt F) f8)) 15 inb_S1056x256_S1024x256_15_0 := by
    unfold run_A.sl.v41 run_A.sl.HU_3
    exact readCov_uF arg15.view i _ _ _ 15 _ _ _ _ _ _ _ (congrArg₂ k0_pay13 rfl er4) (congrArg k0_pay12 er5) (congr3 (k0_pay10 i) e13 (View.readAt_full _ _ _) (View.readAt_full _ _ _))
  have e16 : run_A.sl.v46 c i arg2 harg2 arg3 harg3 arg4 harg4 arg5 harg5 arg6 harg6 arg7 harg7 arg8 harg8 arg9 harg9 arg10 harg10 arg11 harg11 arg12 harg12 arg13 harg13 arg14 harg14 arg15 harg15 hc0 f0 f1 f2 f3 f4 f5 f7 f8 fs = uAt (uF i (hF (arg2.view.read (Elt F) f0) (arg3.view.read (Elt F) f1) (arg4.view.read (Elt F) f2) (arg5.view.read (Elt F) f3) (arg6.view.read (Elt F) f4) (arg7.view.read (Elt F) f5)) (arg9.view.read (Elt F) f7) (arg10.view.read (Elt F) f8)) 16 inb_S1056x256_S1024x256_16_0 := by
    unfold run_A.sl.v46 run_A.sl.HU_3
    exact readCov_uF arg15.view i _ _ _ 16 _ _ _ _ _ _ _ (congrArg₂ k0_pay13 rfl er4) (congrArg k0_pay12 er5) (congr3 (k0_pay10 i) e13 (View.readAt_full _ _ _) (View.readAt_full _ _ _))
  have e17 : run_A.sl.v52 c i arg2 harg2 arg3 harg3 arg4 harg4 arg5 harg5 arg6 harg6 arg7 harg7 arg8 harg8 arg9 harg9 arg10 harg10 arg11 harg11 arg12 harg12 arg13 harg13 arg14 harg14 arg15 harg15 hc0 f0 f1 f2 f3 f4 f5 f7 f8 fs = uAt (uF i (hF (arg2.view.read (Elt F) f0) (arg3.view.read (Elt F) f1) (arg4.view.read (Elt F) f2) (arg5.view.read (Elt F) f3) (arg6.view.read (Elt F) f4) (arg7.view.read (Elt F) f5)) (arg9.view.read (Elt F) f7) (arg10.view.read (Elt F) f8)) 17 inb_S1056x256_S1024x256_17_0 := by
    unfold run_A.sl.v52 run_A.sl.HU_3
    exact readCov_uF arg15.view i _ _ _ 17 _ _ _ _ _ _ _ (congrArg₂ k0_pay13 rfl er4) (congrArg k0_pay12 er5) (congr3 (k0_pay10 i) e13 (View.readAt_full _ _ _) (View.readAt_full _ _ _))
  have e2 : run_A.sl.r_6 c i arg2 harg2 arg3 harg3 arg4 harg4 arg5 harg5 arg6 harg6 arg7 harg7 arg8 harg8 arg9 harg9 arg10 harg10 arg11 harg11 arg12 harg12 arg13 harg13 arg14 harg14 arg15 harg15 hc0 f0 f1 f2 f3 f4 f5 f7 f8 f10 fs = k0_pay14 (uAt (uF i (hF (arg2.view.read (Elt F) f0) (arg3.view.read (Elt F) f1) (arg4.view.read (Elt F) f2) (arg5.view.read (Elt F) f3) (arg6.view.read (Elt F) f4) (arg7.view.read (Elt F) f5)) (arg9.view.read (Elt F) f7) (arg10.view.read (Elt F) f8)) 15 inb_S1056x256_S1024x256_15_0) (cwAt (arg12.view.read (Elt F) f10) 0 inb_S3x256_S1x256_0_0)
      (uAt (uF i (hF (arg2.view.read (Elt F) f0) (arg3.view.read (Elt F) f1) (arg4.view.read (Elt F) f2) (arg5.view.read (Elt F) f3) (arg6.view.read (Elt F) f4) (arg7.view.read (Elt F) f5)) (arg9.view.read (Elt F) f7) (arg10.view.read (Elt F) f8)) 16 inb_S1056x256_S1024x256_16_0) (cwAt (arg12.view.read (Elt F) f10) 1 inb_S3x256_S1x256_1_0) (uAt (uF i (hF (arg2.view.read (Elt F) f0) (arg3.view.read (Elt F) f1) (arg4.view.read (Elt F) f2) (arg5.view.read (Elt F) f3) (arg6.view.read (Elt F) f4) (arg7.view.read (Elt F) f5)) (arg9.view.read (Elt F) f7) (arg10.view.read (Elt F) f8)) 17 inb_S1056x256_S1024x256_17_0) (cwAt (arg12.view.read (Elt F) f10) 2 inb_S3x256_S1x256_2_0) := by
    unfold run_A.sl.r_6
    rw [e15, e16, e17]
    rfl
  have e4 : run_A.sl.r_7 c i arg2 harg2 arg3 harg3 arg4 harg4 arg5 harg5 arg6 harg6 arg7 harg7 arg8 harg8 arg9 harg9 arg10 harg10 arg11 harg11 arg12 harg12 arg13 harg13 arg14 harg14 arg15 harg15 hc0 f0 f1 f2 f3 f4 f5 f6 fs = k0_pay15 (hMid (hF (arg2.view.read (Elt F) f0) (arg3.view.read (Elt F) f1) (arg4.view.read (Elt F) f2) (arg5.view.read (Elt F) f3) (arg6.view.read (Elt F) f4) (arg7.view.read (Elt F) f5))) (arg8.view.read (Elt F) f6) := by
    unfold run_A.sl.r_7
    exact congrArg₂ k0_pay15 e58 (View.readAt_full _ _ _)
  have e5 : run_A.sl.r_8 c arg11 f9 = k0_pay16 (arg11.view.read (Elt F) f9) := by
    unfold run_A.sl.r_8
    exact congrArg k0_pay16 (View.readAt_full _ _ _)
  sl_step
  iapply Hk
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro
    refine (read_whole _ _ _ _).trans ?_
    rw [e2, e58, e4, e5]
    rfl
  isplitl [HS]
  · iexists _; isplitr; swap; · iexact HS
    ipureintro
    refine Eq.trans ?_ e13
    unfold run_A.sl.v13
    exact (View.readAt_full _ _ _).symm
  iexists _; iexists _; isplitr; swap; · iexact HU
  ipureintro; exact rfl

end Cert.KernelConvIdeal.Conv

end
-- ==== Proof.ConvRunB.lean ====
/- One grid point of the short convolution, run: a later tile of a band. -/
module

public import proofs.«01_k».proof.Proof.ConvSpec
public import proofs.«01_k».proof.Proof.Gen.KernelConvIdeal.Frame

@[expose] public section

set_option maxRecDepth 16384

noncomputable section

namespace Cert.KernelConvIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelConvIdeal.Gen

variable {F : FTy → Type} [FloatOps F]

local notation "𝕄" => MT nD τ sig Unit (Elt F) ℕ (UR sig nD τ) ℕ

set_option maxHeartbeats 4000000 in
/-- A later tile of a band. -/
theorem run_B (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x1x1x2048 .f32) (harg5 : arg5.IsWhole) (arg6 : Memref sig .tc .vmem S1x1x1x2048 .f32) (harg6 : arg6.IsWhole) (arg7 : Memref sig .tc .vmem S1x2048 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S1x2048x256 .f32) (harg10 : arg10.IsWhole) (arg11 : Memref sig .tc .vmem S1x2048x256 .f32) (harg11 : arg11.IsWhole) (arg12 : Memref sig .tc .vmem S3x256 .f32) (harg12 : arg12.IsWhole) (arg13 : Memref sig .tc .vmem S1024x256 .bf16) (harg13 : arg13.IsWhole) (arg14 : Memref sig .tc .vmem S1056x2048 .bf16) (harg14 : arg14.IsWhole) (arg15 : Memref sig .tc .vmem S1056x256 .f32) (harg15 : arg15.IsWhole) (hc0 : ¬k0_cond1 i = 1#1)
    (x0 : Vec F S1024x2048 .f32) (x1 : Vec F S16x2048 .f32) (x2 : Vec F S16x2048 .f32) (x3 : Vec F S1x1x1x2048 .f32) (x4 : Vec F S1x1x1x2048 .f32) (x5 : Vec F S1x2048 .f32) (x6 : Vec F S1x2048x256 .f32) (x7 : Vec F S1x2048x256 .f32) (x8 : Vec F S1x2048x256 .f32) (x9 : Vec F S1x2048x256 .f32) (x10 : Vec F S3x256 .f32) (h : Vec F S1056x2048 .bf16) (E : Set ℕ) (K : PUnit → sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare h ∗ (∃ d, owns (c : Thread nD τ) arg15 fullShare d))
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (tileF i h x6 x7 x8 x9 x10) ∗ owns (c : Thread nD τ) arg14 fullShare h ∗ (∃ d, owns (c : Thread nD τ) arg15 fullShare d)) -∗ K ⟨⟩))
      ⊢ wp frame (wpE (defs₀ (F := F)) Variants.none c none) E (cc0_short_conv i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_short_conv_eq_skeleton]; unfold cc0_short_conv_skel
  simp only [k0_part1_eq_skeleton, k0_part2_eq_skeleton, k0_part3_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, ⟨%du, %fu, -, HU⟩⟩, Hk⟩
  subst hf0 hf1 hf2 hf3 hf4 hf5 hf6 hf7 hf8 hf9 hf10 hfs
  sl_exec (disch := first | sl_exact hc0)
  have er : run_B.sl.r c arg9 arg10 arg14 f7 f8 fs = k0_pay9 (arg14.view.read (Elt F) fs) (arg9.view.read (Elt F) f7) (arg10.view.read (Elt F) f8) := by
    unfold run_B.sl.r
    exact congr3 k0_pay9 (View.readAt_full _ _ _) (View.readAt_full _ _ _) (View.readAt_full _ _ _)
  have er1 : run_B.sl.r_1 c arg9 arg10 arg14 f7 f8 fs = k0_pay11 (arg14.view.read (Elt F) fs) (arg9.view.read (Elt F) f7) (arg10.view.read (Elt F) f8) := by
    unfold run_B.sl.r_1
    exact congr3 k0_pay11 (View.readAt_full _ _ _) (View.readAt_full _ _ _) (View.readAt_full _ _ _)
  have e15 : run_B.sl.v41 c i arg9 arg10 arg14 arg15 f7 f8 fs = uAt (uF i (arg14.view.read (Elt F) fs) (arg9.view.read (Elt F) f7) (arg10.view.read (Elt F) f8)) 15 inb_S1056x256_S1024x256_15_0 := by
    unfold run_B.sl.v41 run_B.sl.HU_3
    exact readCov_uF arg15.view i _ _ _ 15 _ _ _ _ _ _ _ (congrArg₂ k0_pay13 rfl er) (congrArg k0_pay12 er1) (congr3 (k0_pay10 i) (View.readAt_full _ _ _) (View.readAt_full _ _ _) (View.readAt_full _ _ _))
  have e16 : run_B.sl.v46 c i arg9 arg10 arg14 arg15 f7 f8 fs = uAt (uF i (arg14.view.read (Elt F) fs) (arg9.view.read (Elt F) f7) (arg10.view.read (Elt F) f8)) 16 inb_S1056x256_S1024x256_16_0 := by
    unfold run_B.sl.v46 run_B.sl.HU_3
    exact readCov_uF arg15.view i _ _ _ 16 _ _ _ _ _ _ _ (congrArg₂ k0_pay13 rfl er) (congrArg k0_pay12 er1) (congr3 (k0_pay10 i) (View.readAt_full _ _ _) (View.readAt_full _ _ _) (View.readAt_full _ _ _))
  have e17 : run_B.sl.v52 c i arg9 arg10 arg14 arg15 f7 f8 fs = uAt (uF i (arg14.view.read (Elt F) fs) (arg9.view.read (Elt F) f7) (arg10.view.read (Elt F) f8)) 17 inb_S1056x256_S1024x256_17_0 := by
    unfold run_B.sl.v52 run_B.sl.HU_3
    exact readCov_uF arg15.view i _ _ _ 17 _ _ _ _ _ _ _ (congrArg₂ k0_pay13 rfl er) (congrArg k0_pay12 er1) (congr3 (k0_pay10 i) (View.readAt_full _ _ _) (View.readAt_full _ _ _) (View.readAt_full _ _ _))
  have e2 : run_B.sl.r_2 c i arg9 arg10 arg12 arg14 arg15 f7 f8 f10 fs = k0_pay14 (uAt (uF i (arg14.view.read (Elt F) fs) (arg9.view.read (Elt F) f7) (arg10.view.read (Elt F) f8)) 15 inb_S1056x256_S1024x256_15_0) (cwAt (arg12.view.read (Elt F) f10) 0 inb_S3x256_S1x256_0_0)
      (uAt (uF i (arg14.view.read (Elt F) fs) (arg9.view.read (Elt F) f7) (arg10.view.read (Elt F) f8)) 16 inb_S1056x256_S1024x256_16_0) (cwAt (arg12.view.read (Elt F) f10) 1 inb_S3x256_S1x256_1_0)
      (uAt (uF i (arg14.view.read (Elt F) fs) (arg9.view.read (Elt F) f7) (arg10.view.read (Elt F) f8)) 17 inb_S1056x256_S1024x256_17_0) (cwAt (arg12.view.read (Elt F) f10) 2 inb_S3x256_S1x256_2_0) := by
    unfold run_B.sl.r_2
    rw [e15, e16, e17]
    rfl
  have e3 : run_B.sl.r_3 c arg14 fs = hMid (arg14.view.read (Elt F) fs) := by unfold run_B.sl.r_3; rfl
  have e4 : run_B.sl.r_4 c arg8 arg14 f6 fs = k0_pay15 (hMid (arg14.view.read (Elt F) fs)) (arg8.view.read (Elt F) f6) := by
    unfold run_B.sl.r_4
    exact congrArg₂ k0_pay15 rfl (View.readAt_full _ _ _)
  have e5 : run_B.sl.r_5 c arg11 f9 = k0_pay16 (arg11.view.read (Elt F) f9) := by
    unfold run_B.sl.r_5
    exact congrArg k0_pay16 (View.readAt_full _ _ _)
  sl_step
  iapply Hk
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro
    refine (read_whole _ _ _ _).trans ?_
    rw [e2, e3, e4, e5]
    rfl
  isplitl [HS]
  · iexists _; isplitr; swap; · iexact HS
    ipureintro; exact rfl
  iexists _; iexists _; isplitr; swap; · iexact HU
  ipureintro; exact rfl

end Cert.KernelConvIdeal.Conv

end
-- ==== Proof.ConvLaunch.lean ====
/- The short convolution's launch. Between two points of one band of rows the first carried array holds the normed rows of
   the band and around it; at a point the body finds its blocks and leaves the tile of the output. From these the whole
   program's run: it ends, every counter at zero, the arguments unchanged, and every tile of the output array at `tile`. -/
module

public import proofs.«01_k».proof.Proof.ConvRunA
public import proofs.«01_k».proof.Proof.ConvRunB
public import Idealize.ShloMosaic.Lib.Claim
public import Idealize.ShloMosaic.Lib.Pipeline.ValueKit

@[expose] public section

set_option maxRecDepth 16384

noncomputable section

namespace Cert.KernelConvIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelConvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A band's first point. -/
theorem first_iff (t : Fin cfg0.N) : k0_cond1 (grid0.coords t) = 1#1 ↔ t.val % 8 = 0 := by
  have ht : t.val < 128 := Nat.lt_of_lt_of_eq t.isLt N_0
  have e0 : (grid0.coords t 0).val = t.val / 8 % 16 := Pipeline.Grid.coords_val t 0 (by decide) rfl
  have e1 : (grid0.coords t 1).val = t.val / 1 % 8 := Pipeline.Grid.coords_val t 1 (by decide) rfl
  simp only [k0_cond1, e0, e1]
  word_cmp

abbrev win0 (t : Fin cfg0.N) : Memref sig .tc .vmem S1024x2048 .f32 := win0_0.stage (cfg0.slots t 0)
abbrev win1 (t : Fin cfg0.N) : Memref sig .tc .vmem S16x2048 .f32 := win0_1.stage (cfg0.slots t 1)
abbrev win2 (t : Fin cfg0.N) : Memref sig .tc .vmem S16x2048 .f32 := win0_2.stage (cfg0.slots t 2)
abbrev win3 (t : Fin cfg0.N) : Memref sig .tc .vmem S1x1x1x2048 .f32 := win0_3.stage (cfg0.slots t 3)
abbrev win4 (t : Fin cfg0.N) : Memref sig .tc .vmem S1x1x1x2048 .f32 := win0_4.stage (cfg0.slots t 4)
abbrev win5 (t : Fin cfg0.N) : Memref sig .tc .vmem S1x2048 .f32 := win0_5.stage (cfg0.slots t 5)
abbrev win6 (t : Fin cfg0.N) : Memref sig .tc .vmem S1x2048x256 .f32 := win0_6.stage (cfg0.slots t 6)
abbrev win7 (t : Fin cfg0.N) : Memref sig .tc .vmem S1x2048x256 .f32 := win0_7.stage (cfg0.slots t 7)
abbrev win8 (t : Fin cfg0.N) : Memref sig .tc .vmem S1x2048x256 .f32 := win0_8.stage (cfg0.slots t 8)
abbrev win9 (t : Fin cfg0.N) : Memref sig .tc .vmem S1x2048x256 .f32 := win0_9.stage (cfg0.slots t 9)
abbrev win10 (t : Fin cfg0.N) : Memref sig .tc .vmem S3x256 .f32 := win0_10.stage (cfg0.slots t 10)
abbrev win11 (t : Fin cfg0.N) : Memref sig .tc .vmem S1024x256 .bf16 := win0_11.stage (cfg0.slots t 11)
abbrev scr0 : Memref sig .tc .vmem S1056x2048 .bf16 := Memref.whole cc0_scratch0
abbrev scr1 : Memref sig .tc .vmem S1056x256 .f32 := Memref.whole cc0_scratch1

/-- What the launch hands over: the carried arrays at some contents, and the generator. -/
theorem launch_inv (c : Dev nD) : (Pipeline.ΦA spec0 c : sProp 𝕄)
    = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- The normed rows of the band and around it, as point `t` has them. -/
def rows (c : Dev nD) (t : Fin cfg0.N) : Vec F S1056x2048 .bf16 :=
  hF (iblk m c 0 t) (iblk m c 1 t) (iblk m c 2 t) (iblk m c 3 t) (iblk m c 4 t) (iblk m c 5 t)

/-- The output's tile after point `t`. -/
def tile (c : Dev nD) (t : Fin cfg0.N) : Vec F S1024x256 .bf16 :=
  tileF (grid0.coords t) (rows m c t) (iblk m c 6 t) (iblk m c 7 t) (iblk m c 8 t) (iblk m c 9 t) (iblk m c 10 t)

/-- What holds of the carried arrays after point `t`. -/
def carried (c : Dev nD) (t : Fin cfg0.N) : sProp 𝕄 :=
  iprop((owns (c : Thread nD τ) scr0 fullShare (rows m c t) ∗ (∃ d, owns (c : Thread nD τ) scr1 fullShare d)) ∗ (∃ r, prngReg c r))

/-- The invariant before point `n`. -/
def inv (c : Dev nD) : (n : ℕ) → n ≤ cfg0.N → sProp 𝕄
  | 0, _ => Pipeline.ΦA spec0 c
  | n + 1, hn => carried m c ⟨n, hn⟩

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) : inv m c n h = carried m c ⟨n - 1, by omega⟩ := by
  cases n with
  | zero => exact absurd rfl hz
  | succ n => rfl

/-- Something is stated of every output. -/
def forgets0 : Fin 12 → Bool := fun _ => false

/-- The pipeline's data: the inputs stay, the output's tile is `tile`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tile m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = tile m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem leaves0 (c : Dev nD) (t : Fin cfg0.N) : (dats m 0 c).leavesExact 0 t = owns (c : Thread nD τ) (win0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (win1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (win2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (win3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (win4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (win5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (win6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (win7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (win8 t) fullShare (iblk m c 8 t) := by
  unfold Dat.leavesExact; rw [show cfg0.idle 8 (grid0.coords t) = false from rfl, after8]
theorem leaves9 (c : Dev nD) (t : Fin cfg0.N) : (dats m 0 c).leavesExact 9 t = owns (c : Thread nD τ) (win9 t) fullShare (iblk m c 9 t) := by
  unfold Dat.leavesExact; rw [show cfg0.idle 9 (grid0.coords t) = false from rfl, after9]
theorem leaves10 (c : Dev nD) (t : Fin cfg0.N) : (dats m 0 c).leavesExact 10 t = owns (c : Thread nD τ) (win10 t) fullShare (iblk m c 10 t) := by
  unfold Dat.leavesExact; rw [show cfg0.idle 10 (grid0.coords t) = false from rfl, after10]
/-- The output's tile is left at `tile`: it is written back at every point. -/
theorem leaves11 (c : Dev nD) (t : Fin cfg0.N) : (dats m 0 c).leavesExact 11 t = owns (c : Thread nD τ) (win11 t) fullShare (tile m c t) := by
  unfold Dat.leavesExact; rw [flush0_11 t, after11]

theorem index_stays0 : ∀ t : Fin grid0.N, ¬t.val % 8 = 0 → win0_0.index ⟨t.val - 1, Nat.lt_of_le_of_lt (Nat.sub_le _ _) t.isLt⟩ = win0_0.index t := by
  decide +kernel
theorem block_stays0 (c : Dev nD) (t : Fin cfg0.N) (h : ¬t.val % 8 = 0) : iblk m c 0 ⟨t.val - 1, Nat.lt_of_le_of_lt (Nat.sub_le _ _) t.isLt⟩ = iblk m c 0 t := by
  have e2 := index_stays0 t h
  funext y
  refine congrArg (V m c (Pipeline.arrRef spec0 0)) (funext fun a => Fin.ext ?_)
  blk_simp
  rw [e2]
theorem index_stays1 : ∀ t : Fin grid0.N, ¬t.val % 8 = 0 → win0_1.index ⟨t.val - 1, Nat.lt_of_le_of_lt (Nat.sub_le _ _) t.isLt⟩ = win0_1.index t := by
  decide +kernel
theorem block_stays1 (c : Dev nD) (t : Fin cfg0.N) (h : ¬t.val % 8 = 0) : iblk m c 1 ⟨t.val - 1, Nat.lt_of_le_of_lt (Nat.sub_le _ _) t.isLt⟩ = iblk m c 1 t := by
  have e2 := index_stays1 t h
  funext y
  refine congrArg (V m c (Pipeline.arrRef spec0 1)) (funext fun a => Fin.ext ?_)
  blk_simp
  rw [e2]
theorem index_stays2 : ∀ t : Fin grid0.N, ¬t.val % 8 = 0 → win0_2.index ⟨t.val - 1, Nat.lt_of_le_of_lt (Nat.sub_le _ _) t.isLt⟩ = win0_2.index t := by
  decide +kernel
theorem block_stays2 (c : Dev nD) (t : Fin cfg0.N) (h : ¬t.val % 8 = 0) : iblk m c 2 ⟨t.val - 1, Nat.lt_of_le_of_lt (Nat.sub_le _ _) t.isLt⟩ = iblk m c 2 t := by
  have e2 := index_stays2 t h
  funext y
  refine congrArg (V m c (Pipeline.arrRef spec0 2)) (funext fun a => Fin.ext ?_)
  blk_simp
  rw [e2]
theorem index_stays3 : ∀ t : Fin grid0.N, ¬t.val % 8 = 0 → win0_3.index ⟨t.val - 1, Nat.lt_of_le_of_lt (Nat.sub_le _ _) t.isLt⟩ = win0_3.index t := by
  decide +kernel
theorem block_stays3 (c : Dev nD) (t : Fin cfg0.N) (h : ¬t.val % 8 = 0) : iblk m c 3 ⟨t.val - 1, Nat.lt_of_le_of_lt (Nat.sub_le _ _) t.isLt⟩ = iblk m c 3 t := by
  have e2 := index_stays3 t h
  funext y
  refine congrArg (V m c (Pipeline.arrRef spec0 3)) (funext fun a => Fin.ext ?_)
  blk_simp
  rw [e2]
theorem index_stays4 : ∀ t : Fin grid0.N, ¬t.val % 8 = 0 → win0_4.index ⟨t.val - 1, Nat.lt_of_le_of_lt (Nat.sub_le _ _) t.isLt⟩ = win0_4.index t := by
  decide +kernel
theorem block_stays4 (c : Dev nD) (t : Fin cfg0.N) (h : ¬t.val % 8 = 0) : iblk m c 4 ⟨t.val - 1, Nat.lt_of_le_of_lt (Nat.sub_le _ _) t.isLt⟩ = iblk m c 4 t := by
  have e2 := index_stays4 t h
  funext y
  refine congrArg (V m c (Pipeline.arrRef spec0 4)) (funext fun a => Fin.ext ?_)
  blk_simp
  rw [e2]
theorem index_stays5 : ∀ t : Fin grid0.N, ¬t.val % 8 = 0 → win0_5.index ⟨t.val - 1, Nat.lt_of_le_of_lt (Nat.sub_le _ _) t.isLt⟩ = win0_5.index t := by
  decide +kernel
theorem block_stays5 (c : Dev nD) (t : Fin cfg0.N) (h : ¬t.val % 8 = 0) : iblk m c 5 ⟨t.val - 1, Nat.lt_of_le_of_lt (Nat.sub_le _ _) t.isLt⟩ = iblk m c 5 t := by
  have e2 := index_stays5 t h
  funext y
  refine congrArg (V m c (Pipeline.arrRef spec0 5)) (funext fun a => Fin.ext ?_)
  blk_simp
  rw [e2]

/-- Inside a band the normed rows are those of the point before. -/
theorem rows_stay (c : Dev nD) (t : Fin cfg0.N) (h : ¬t.val % 8 = 0) : rows m c ⟨t.val - 1, Nat.lt_of_le_of_lt (Nat.sub_le _ _) t.isLt⟩ = rows m c t := by
  unfold rows
  rw [block_stays0 m c t h, block_stays1 m c t h, block_stays2 m c t h, block_stays3 m c t h, block_stays4 m c t h, block_stays5 m c t h]

def bodyPre (c : Dev nD) (t : Fin cfg0.N) : sProp 𝕄 :=
  iprop((dats m 0 c).Φ t.castSucc ∗ (dats m 0 c).owesAt () t.castSucc
    ∗ (∃ d, owns (c : Thread nD τ) (win0 t) fullShare ((dats m 0 c).before 0 t d))
    ∗ (∃ d, owns (c : Thread nD τ) (win1 t) fullShare ((dats m 0 c).before 1 t d))
    ∗ (∃ d, owns (c : Thread nD τ) (win2 t) fullShare ((dats m 0 c).before 2 t d))
    ∗ (∃ d, owns (c : Thread nD τ) (win3 t) fullShare ((dats m 0 c).before 3 t d))
    ∗ (∃ d, owns (c : Thread nD τ) (win4 t) fullShare ((dats m 0 c).before 4 t d))
    ∗ (∃ d, owns (c : Thread nD τ) (win5 t) fullShare ((dats m 0 c).before 5 t d))
    ∗ (∃ d, owns (c : Thread nD τ) (win6 t) fullShare ((dats m 0 c).before 6 t d))
    ∗ (∃ d, owns (c : Thread nD τ) (win7 t) fullShare ((dats m 0 c).before 7 t d))
    ∗ (∃ d, owns (c : Thread nD τ) (win8 t) fullShare ((dats m 0 c).before 8 t d))
    ∗ (∃ d, owns (c : Thread nD τ) (win9 t) fullShare ((dats m 0 c).before 9 t d))
    ∗ (∃ d, owns (c : Thread nD τ) (win10 t) fullShare ((dats m 0 c).before 10 t d))
    ∗ (∃ d, owns (c : Thread nD τ) (win11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- What the invariant says at a band's first point: the carried arrays hold something. -/
theorem inv_any (c : Dev nD) (t : Fin cfg0.N) : inv m c t.val (Nat.le_of_lt t.isLt) ⊢ iprop(((∃ d, owns (c : Thread nD τ) scr0 fullShare d) ∗ (∃ d, owns (c : Thread nD τ) scr1 fullShare d)) ∗ (∃ r, prngReg c r)) := by
  by_cases hz : t.val = 0
  · rw [inv_zero m c _ _ hz, launch_inv]
  · rw [inv_pos m c _ _ hz]; unfold carried
    iintro ⟨⟨H, H1⟩, Hg⟩
    isplitl [H H1]
    · isplitl [H]; · iexists _; iexact H
      iexact H1
    iexact Hg

/-- What it says inside a band: the first carried array holds the normed rows. -/
theorem inv_rows (c : Dev nD) (t : Fin cfg0.N) (h : ¬t.val % 8 = 0) : inv m c t.val (Nat.le_of_lt t.isLt) = carried m c t := by
  rw [inv_pos m c _ _ (by omega)]
  unfold carried
  rw [rows_stay m c t h]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl,
    leaves0, leaves1, leaves2, leaves3, leaves4, leaves5, leaves6, leaves7, leaves8, leaves9, leaves10, leaves11]
  rw [show (dats m 0 c).Φ t.succ = carried m c t from rfl, inv_castSucc m c t]
  by_cases h0 : t.val % 8 = 0
  · refine (sep_mono (inv_any m c t) .rfl).trans ?_
    unfold carried tile rows
    iintro ⟨⟨⟨HS, HU⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_A c (grid0.coords t) _ _ _ _ _ _ _ _ _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)  Set.univ _)
    isplitl [H0 H1 H2 H3 H4 H5 H6 H7 H8 H9 H10 H11 HS HU]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS]; · iexact HS
      iexact HU
    iintro ⟨H0, H1, H2, H3, H4, H5, H6, H7, H8, H9, H10, H11, HS, HU⟩
    isplitl [HS HU Hg]
    · isplitl [HS HU]
      · isplitl [HS]; · iexact HS
        iexact HU
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [inv_rows m c t h0]
    unfold carried tile
    iintro ⟨⟨⟨HS, HU⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_B c (grid0.coords t) _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (rows m c t) Set.univ _)
    isplitl [H0 H1 H2 H3 H4 H5 H6 H7 H8 H9 H10 H11 HS HU]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS]; · iexact HS
      iexact HU
    iintro ⟨H0, H1, H2, H3, H4, H5, H6, H7, H8, H9, H10, H11, HS, HU⟩
    isplitl [HS HU Hg]
    · isplitl [HS HU]
      · isplitl [HS]; · iexact HS
        iexact HU
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

set_option maxHeartbeats 1000000 in
/-- The pipeline calls the body at the point's buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 128 := N_0; omega), launch_inv]
  unfold carried
  iintro ⟨⟨H0, H1⟩, Hg⟩
  isplitl [H0 H1]
  · isplitl [H0]; · iexists _; iexact H0
    iexact H1
  iexact Hg

set_option backward.isDefEq.respectTransparency.types false in
/-- The run: it ends, the arrays as `dats` says, every counter at zero. -/
theorem run_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- An array at the end. -/
theorem arrays (c : Dev nD) (w : Fin cfg0.W) (h : forgets0 w = false) {f : Buf (Elt F) ((cfg0.win w).arr.view.loc (c.tc : Thread nD τ))}
    (H : ((dats m 0 c).toRForget forgets0).ArrAt w cfg0.N f) : f = (dats m 0 c).arrAt w cfg0.N :=
  ((dats m 0 c).toRForget_arrAt_iff h _ _).mp H

set_option maxHeartbeats 2000000 in
/-- The frame and the output: the arguments unchanged, the output's array at the tiles, every counter at zero. -/
theorem run_any : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc (Pipeline.arrRef spec0 11)) = (dats m 0 c).arrAt 11 cfg0.N)
      ∧ r.2.sem = fun _ => 0) :=
  (θ_run defs _ _).mono (fun r h => ⟨fun c => ⟨⟨(((h.1 c).2 main_arg0 (Pipeline.mem_restRefs_of main_arg0 (by decide) (by decide))).trans (V_main_arg0 m c)),
      (((arrays m c 3 rfl ((h.1 c).1 3))).trans (((dats m 0 c).arrAt_in 3 rfl _).trans ((A_eq m c 3).trans (V_main_arg1 m c)))),
      (((h.1 c).2 main_arg2 (Pipeline.mem_restRefs_of main_arg2 (by decide) (by decide))).trans (V_main_arg2 m c)),
      (((arrays m c 6 rfl ((h.1 c).1 6))).trans (((dats m 0 c).arrAt_in 6 rfl _).trans ((A_eq m c 6).trans (V_main_arg3 m c)))),
      (((h.1 c).2 main_arg4 (Pipeline.mem_restRefs_of main_arg4 (by decide) (by decide))).trans (V_main_arg4 m c))⟩,
      arrays m c 11 rfl ((h.1 c).1 11)⟩, h.2⟩) (run_quiescent m ρ)

end Cert.KernelConvIdeal.Conv

end
-- ==== Proof.ConvRef.lean ====
/- The short convolution's reference, at an index: the normed and modulated rows, their product with the weights, the gated
   columns padded with a zero row before and after a sequence, three rows of them weighted, and the gates. -/
module

public import proofs.«01_k».proof.Defs
public import proofs.«01_k».proof.Proof.ProjRef
public import proofs.«01_k».proof.Proof.Gen.ReferenceConvIdeal.Run
public import Idealize.ShloMosaic.Lib.Pointwise
public import Idealize.ShloMosaic.Lib.ValueIdx

@[expose] public section

set_option maxRecDepth 16384

noncomputable section

namespace Cert.Conv

open Idealize.ShloMosaic Cert.Proj

/-- The gate's function. -/
def silu (x : EReal) : EReal := x * Ideal.div one (one + Ideal.exp (-x))

end Cert.Conv

namespace Cert.ReferenceConvIdeal.Val

open Idealize.ShloMosaic Idealize.SL.Sem Cert.ReferenceConvIdeal Facts₀ Facts Cert.Proj Cert.Conv

variable (x : FVec Ideal S2x8192x2048 .f32) (md : FVec Ideal S4x8x1x6144 .f32) (g : FVec Ideal S2048 .f32) (w : FVec Ideal S2x2048x8192 .f32)
  (cw : FVec Ideal S2x3x2048 .f32)

/-- The normed and modulated rows. -/
def h : FVec Ideal S2x8192x2048 .f32 :=
  addf (mulf (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))) (broadcastInDim S2x8192x2048 ![0, 1, 2] bcast_S2x1x2048_S2x8192x2048_0_1_2 (addf (broadcastInDim S2x1x2048 ![] bcast_S_S2x1x2048 (constant S_ .f32 0x3F800000#32)) (broadcastInDim S2x1x2048 ![0, 2] bcast_S2x2048_S2x1x2048_0_2 (shapeCast _ (extractStridedSlice S1x2x1x2048 ![3, 0, 0, 2048] md slices_S4x8x1x6144_S1x2x1x2048_3_0_0_2048) shapeCasts_S1x2x1x2048_S2x2048))))) (broadcastInDim S2x8192x2048 ![0, 1, 2] bcast_S2x1x2048_S2x8192x2048_0_1_2 (broadcastInDim S2x1x2048 ![0, 2] bcast_S2x2048_S2x1x2048_0_2 (shapeCast _ (extractStridedSlice S1x2x1x2048 ![3, 0, 0, 0] md slices_S4x8x1x6144_S1x2x1x2048_3_0_0_0) shapeCasts_S1x2x1x2048_S2x2048)))

/-- Their product with the weights. -/
def p (hh : FVec Ideal S2x8192x2048 .f32) : FVec Ideal S2x8192x8192 .f32 :=
  Host.dotGeneral dot_S2x8192x2048_S2048x8192_S2x8192x8192_2_0_01_1_n_n none hh (shapeCast _ (extractStridedSlice S1x2048x8192 ![1, 0, 0] w slices_S2x2048x8192_S1x2048x8192_1_0_0) shapeCasts_S1x2048x8192_S2048x8192)

/-- The product of the second and third columns, a zero row before and after each sequence. -/
def pad1 (pp : FVec Ideal S2x8192x8192 .f32) : FVec Ideal S2x8194x2048 .f32 :=
  pad S2x8194x2048 ![0, 1, 0] ![0, 1, 0] ![0, 0, 0] (mulf (extractStridedSlice S2x8192x2048 ![0, 0, 2048] pp slices_S2x8192x8192_S2x8192x2048_0_0_2048) (extractStridedSlice S2x8192x2048 ![0, 0, 4096] pp slices_S2x8192x8192_S2x8192x2048_0_0_4096)) (sitofp .f32 (constantI S_ 32 0#32)) pads_S2x8192x2048_S2x8194x2048_000_110_000 h_S_

/-- Three rows of it, weighted. -/
def conv (u : FVec Ideal S2x8194x2048 .f32) : FVec Ideal S2x8192x2048 .f32 :=
  addf (addf (mulf (extractStridedSlice S2x8192x2048 ![0, 0, 0] u slices_S2x8194x2048_S2x8192x2048_0_0_0) (broadcastInDim S2x8192x2048 ![0, 1, 2] bcast_S1x1x2048_S2x8192x2048_0_1_2 (broadcastInDim S1x1x2048 ![2] bcast_S2048_S1x1x2048_2 (shapeCast _ (extractStridedSlice S1x1x2048 ![1, 0, 0] cw slices_S2x3x2048_S1x1x2048_1_0_0) shapeCasts_S1x1x2048_S2048)))) (mulf (extractStridedSlice S2x8192x2048 ![0, 1, 0] u slices_S2x8194x2048_S2x8192x2048_0_1_0) (broadcastInDim S2x8192x2048 ![0, 1, 2] bcast_S1x1x2048_S2x8192x2048_0_1_2 (broadcastInDim S1x1x2048 ![2] bcast_S2048_S1x1x2048_2 (shapeCast _ (extractStridedSlice S1x1x2048 ![1, 1, 0] cw slices_S2x3x2048_S1x1x2048_1_1_0) shapeCasts_S1x1x2048_S2048))))) (mulf (extractStridedSlice S2x8192x2048 ![0, 2, 0] u slices_S2x8194x2048_S2x8192x2048_0_2_0) (broadcastInDim S2x8192x2048 ![0, 1, 2] bcast_S1x1x2048_S2x8192x2048_0_1_2 (broadcastInDim S1x1x2048 ![2] bcast_S2048_S1x1x2048_2 (shapeCast _ (extractStridedSlice S1x1x2048 ![1, 2, 0] cw slices_S2x3x2048_S1x1x2048_1_2_0) shapeCasts_S1x1x2048_S2048))))

/-- The gates. -/
def gated (pp : FVec Ideal S2x8192x8192 .f32) (cv : FVec Ideal S2x8192x2048 .f32) : FVec Ideal S2x8192x2048 .f32 :=
  mulf (mulf (extractStridedSlice S2x8192x2048 ![0, 0, 6144] pp slices_S2x8192x8192_S2x8192x2048_0_0_6144) (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (extractStridedSlice S2x8192x2048 ![0, 0, 6144] pp slices_S2x8192x8192_S2x8192x2048_0_0_6144)))))) (mulf (extractStridedSlice S2x8192x2048 ![0, 0, 0] pp slices_S2x8192x8192_S2x8192x2048_0_0_0) cv)

/-- The reference's result. -/
def res : FVec Ideal S16384x2048 .bf16 :=
  truncf .bf16 (shapeCast S16384x2048 (gated (p w (h x md g)) (conv cw (pad1 (p w (h x md g))))) shapeCasts_S2x8192x2048_S16384x2048) bitsLt_bf16_f32

set_option maxHeartbeats 4000000 in
theorem res_eq (m : (ℓ : Loc nD τ sig) → Buf (Elt Ideal) ℓ) (c : Dev nD) :
    Value.res_main_v58 (F := Ideal) m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v58 res gated conv pad1 p h
  rfl

theorem h_apply (b : Fin 2) (s : Fin 8192) (k : Fin 2048) :
    h x md g (ix3 b s k) = normed len2048 (fun j => x (ix3 b s j)) k * g (ix1 k) * (one + md (ix4 3 ⟨b, by omega⟩ 0 ⟨2048 + k, by omega⟩)) + md (ix4 3 ⟨b, by omega⟩ 0 ⟨k, by omega⟩) := by
  unfold normed
  pointwise [h]

theorem p_apply (hh : FVec Ideal S2x8192x2048 .f32) (b : Fin 2) (s : Fin 8192) (n : Fin 8192) :
    p w hh (ix3 b s n) = ∑ k : Fin 2048, hh (ix3 b s k) * w (ix3 1 k n) := by
  pointwise [p]

/-- A row inside a sequence. -/
theorem pad1_in (pp : FVec Ideal S2x8192x8192 .f32) (b : Fin 2) (s : Fin 8194) (q : Fin 8192) (hq : s.val = q.val + 1) (n : Fin 2048) :
    pad1 pp (ix3 b s n) = pp (ix3 b q ⟨2048 + n.val, by omega⟩) * pp (ix3 b q ⟨4096 + n.val, by omega⟩) := by
  unfold pad1 pad
  rw [dif_pos (by
    intro a; fin_cases a
    · exact ⟨Nat.zero_le _, Nat.mod_one _, by show (b.val - 0) / 1 < 2; omega⟩
    · exact ⟨by show 1 ≤ s.val; omega, Nat.mod_one _, by show (s.val - 1) / 1 < 8192; omega⟩
    · exact ⟨Nat.zero_le _, Nat.mod_one _, by show (n.val - 0) / 1 < 2048; omega⟩)]
  refine (congrArg (mulf _ _) (a₂ := ix3 b q n) (funext fun a => Fin.ext ?_)).trans (by pointwise)
  fin_cases a
  · show (b.val - 0) / 1 = b.val; omega
  · show (s.val - 1) / 1 = q.val; omega
  · show (n.val - 0) / 1 = n.val; omega

/-- A row outside of it. -/
theorem pad1_out (pp : FVec Ideal S2x8192x8192 .f32) (b : Fin 2) (s : Fin 8194) (hs : s.val = 0 ∨ s.val = 8193) (n : Fin 2048) : pad1 pp (ix3 b s n) = 0 := by
  unfold pad1 pad
  rw [dif_neg (by
    intro h
    obtain ⟨h1, -, h2⟩ := h 1
    have h1' : 1 ≤ s.val := h1
    have h2' : (s.val - 1) / 1 < 8192 := h2
    omega)]
  pointwise
  show (((0#32 : BitVec 32).toInt : ℝ) : EReal) = 0
  simp

theorem conv_apply (u : FVec Ideal S2x8194x2048 .f32) (b : Fin 2) (s : Fin 8192) (n : Fin 2048) :
    conv cw u (ix3 b s n) = u (ix3 b ⟨s.val, by omega⟩ n) * cw (ix3 1 0 n) + u (ix3 b ⟨1 + s.val, by omega⟩ n) * cw (ix3 1 1 n) + u (ix3 b ⟨2 + s.val, by omega⟩ n) * cw (ix3 1 2 n) := by
  pointwise [conv]

theorem gated_apply (pp : FVec Ideal S2x8192x8192 .f32) (cv : FVec Ideal S2x8192x2048 .f32) (b : Fin 2) (s : Fin 8192) (n : Fin 2048) :
    gated pp cv (ix3 b s n) = silu (pp (ix3 b s ⟨6144 + n.val, by omega⟩)) * (pp (ix3 b s ⟨n.val, by omega⟩) * cv (ix3 b s n)) := by
  unfold silu
  pointwise [gated]

theorem res_apply (r : Fin 16384) (n : Fin 2048) :
    res x md g w cw (ix2 r n) = gated (p w (h x md g)) (conv cw (pad1 (p w (h x md g)))) (ix3 ⟨r.val / 8192, by omega⟩ ⟨r.val % 8192, by omega⟩ n) := by
  pointwise [res]

end Cert.ReferenceConvIdeal.Val

end
-- ==== Proof.ConvValue.lean ====
/- The short convolution's tiles at an index. -/
module

public import proofs.«01_k».proof.Proof.ConvLaunch
public import proofs.«01_k».proof.Proof.ConvRef

@[expose] public section

set_option maxRecDepth 16384

noncomputable section

namespace Cert.KernelConvIdeal.Conv

open Idealize.ShloMosaic Idealize.ShloMosaic.TcCoe Idealize.ShloMosaic.Tactic
open Cert.KernelConvIdeal.Gen Cert.Proj Cert.Conv

/-- A row of 2048 normed and modulated. -/
def modRow (sh sc : Vec Ideal S1x1x1x2048 .f32) (g : Vec Ideal S1x2048 .f32) (x : Fin 2048 → EReal) (k : Fin 2048) : EReal :=
  normed len2048 x k * (g (ix2 0 k) * (one + sc (ix4 0 0 0 k))) + sh (ix4 0 0 0 k)

theorem head_apply (xp : Vec Ideal S16x2048 .f32) (sh sc : Vec Ideal S1x1x1x2048 .f32) (g : Vec Ideal S1x2048 .f32) (r : Fin 16) (k : Fin 2048) :
    headF xp sh sc g (ix2 r k) = modRow sh sc g (fun j => xp (ix2 r j)) k := by
  unfold modRow normed
  pointwise [headF, k0_pay4, k0_pay2, k0_pay3]

theorem tail_apply (xn : Vec Ideal S16x2048 .f32) (sh sc : Vec Ideal S1x1x1x2048 .f32) (g : Vec Ideal S1x2048 .f32) (r : Fin 16) (k : Fin 2048) :
    tailF xn sh sc g (ix2 r k) = modRow sh sc g (fun j => xn (ix2 r j)) k := by
  unfold modRow normed
  pointwise [tailF, k0_pay7, k0_pay2, k0_pay3, k0_pay5, k0_pay6]

theorem pay8_apply (sh sc : Vec Ideal S1x1x1x2048 .f32) (g : Vec Ideal S1x2048 .f32) (x : Vec Ideal S128x2048 .f32) (r : Fin 128) (k : Fin 2048) :
    k0_pay8 (k0_pay2 g sc) (k0_pay3 sh) x (ix2 r k) = modRow sh sc g (fun j => x (ix2 r j)) k := by
  unfold modRow normed
  pointwise [k0_pay8, k0_pay2, k0_pay3]

theorem rowsAt_apply (x : Vec Ideal S1024x2048 .f32) (k : ℕ) (hk : k < 8) (r : Fin 128) (j : Fin 2048) :
    rowsAt x k hk (ix2 r j) = x (ix2 ⟨128 * k + r.val, by omega⟩ j) := by
  refine congrArg x (funext fun a => Fin.ext ?_)
  fin_cases a
  · show 128 * k + 1 * r.val = 128 * k + r.val; omega
  · show 0 + 1 * j.val = j.val; omega

/-- A row before the band. -/
theorem hF_before (x : Vec Ideal S1024x2048 .f32) (xp xn : Vec Ideal S16x2048 .f32) (sh sc : Vec Ideal S1x1x1x2048 .f32) (g : Vec Ideal S1x2048 .f32) (y : Fin 1056) (r : Fin 16) (hr : y.val = r.val) (k : Fin 2048) :
    hF x xp xn sh sc g (ix2 y k) = modRow sh sc g (fun j => xp (ix2 r j)) k := by
  have h0 := r.isLt
  refine (dif_pos (show y.val < 16 by omega)).trans ((head_apply xp sh sc g _ k).trans ?_)
  exact congrArg (fun q => modRow sh sc g q k) (funext fun j => congrArg (fun q => xp (ix2 q j)) (Fin.ext (by show y.val = r.val; omega)))

/-- A row of the band. -/
theorem hF_band (x : Vec Ideal S1024x2048 .f32) (xp xn : Vec Ideal S16x2048 .f32) (sh sc : Vec Ideal S1x1x1x2048 .f32) (g : Vec Ideal S1x2048 .f32) (y : Fin 1056) (r : Fin 1024) (hr : y.val = 16 + r.val) (k : Fin 2048) :
    hF x xp xn sh sc g (ix2 y k) = modRow sh sc g (fun j => x (ix2 r j)) k := by
  have h0 := r.isLt
  refine (dif_neg (show ¬y.val < 16 by omega)).trans ((dif_pos (show y.val < 1040 by omega)).trans ((pay8_apply sh sc g _ _ k).trans ?_))
  refine congrArg (fun q => modRow sh sc g q k) (funext fun j => (rowsAt_apply x _ _ _ j).trans (congrArg (fun q => x (ix2 q j)) (Fin.ext ?_)))
  show 128 * ((y.val - 16) / 128) + (y.val - 16) % 128 = r.val
  omega

/-- A row after the band. -/
theorem hF_after (x : Vec Ideal S1024x2048 .f32) (xp xn : Vec Ideal S16x2048 .f32) (sh sc : Vec Ideal S1x1x1x2048 .f32) (g : Vec Ideal S1x2048 .f32) (y : Fin 1056) (r : Fin 16) (hr : y.val = 1040 + r.val) (k : Fin 2048) :
    hF x xp xn sh sc g (ix2 y k) = modRow sh sc g (fun j => xn (ix2 r j)) k := by
  refine (dif_neg (show ¬y.val < 16 by omega)).trans ((dif_neg (show ¬y.val < 1040 by omega)).trans ((tail_apply xn sh sc g _ k).trans ?_))
  exact congrArg (fun q => modRow sh sc g q k) (funext fun j => congrArg (fun q => xn (ix2 q j)) (Fin.ext (by show y.val - 1040 = r.val; omega)))

/-- A product of a row with a block of weights. -/
def colSum (h : Vec Ideal S1056x2048 .bf16) (w : Vec Ideal S1x2048x256 .f32) (y : Fin 1056) (n : Fin 256) : EReal := ∑ k : Fin 2048, h (ix2 y k) * w (ix3 0 k n)

theorem pay9_apply (h : Vec Ideal S1056x2048 .bf16) (wc wh : Vec Ideal S1x2048x256 .f32) (y : Fin 1056) (n : Fin 256) :
    k0_pay9 h wc wh (ix2 y n) = colSum h wc y n * colSum h wh y n := by
  unfold colSum
  pointwise [k0_pay9]

theorem pay12_apply (h : Vec Ideal S1056x2048 .bf16) (wc wh : Vec Ideal S1x2048x256 .f32) (r : Fin 1024) (n : Fin 256) :
    k0_pay12 (k0_pay11 h wc wh) (ix2 r n) = k0_pay9 h wc wh (ix2 ⟨16 + r.val, by omega⟩ n) := by
  pointwise [k0_pay12, k0_pay11]

theorem pay13_apply (v : BitVec 32) (u : FVec Ideal S1056x256 .f32) (r : Fin 16) (n : Fin 256) :
    k0_pay13 v u (ix2 r n) = if Scalar.cmpi .slt v 7#32 = 1#1 then u (ix2 ⟨1040 + r.val, by omega⟩ n) else 0 := by
  by_cases h : Scalar.cmpi .slt v 7#32 = 1#1
  · rw [if_pos h]
    pointwise [k0_pay13, h]
  · rw [if_neg h]
    pointwise [k0_pay13, h]
    exact if_neg h

theorem pay10_apply (i : grid0.Coords) (h : Vec Ideal S1056x2048 .bf16) (wc wh : Vec Ideal S1x2048x256 .f32) (r : Fin 16) (n : Fin 256) :
    k0_pay10 i h wc wh (ix2 r n) = if Scalar.cmpi .sgt (place i) 0#32 = 1#1 then k0_pay9 h wc wh (ix2 ⟨r.val, by omega⟩ n) else 0 := by
  have e : k0_pay10 i h wc wh = shapeCast S16x256 (Scalar.select (Scalar.cmpi .sgt (place i) 0#32) (extractStridedSlice S16x256 ![0, 0] (k0_pay9 h wc wh) slices_S1056x256_o0_0_S16x256) (broadcast S16x256 (Scalar.ofBits .f32 0x00000000#32))) shapeCasts_S16x256_S16x256 := rfl
  rw [e]
  by_cases h : Scalar.cmpi .sgt (place i) 0#32 = 1#1
  · rw [if_pos h]
    pointwise [h]
  · rw [if_neg h]
    pointwise [h]
    exact if_neg h

theorem pay14_apply (a b d : Vec Ideal S1024x256 .f32) (x y z : Vec Ideal S1x256 .f32) (r : Fin 1024) (n : Fin 256) :
    k0_pay14 a x b y d z (ix2 r n) = a (ix2 r n) * x (ix2 0 n) + b (ix2 r n) * y (ix2 0 n) + d (ix2 r n) * z (ix2 0 n) := by
  pointwise [k0_pay14]

theorem pay15_apply (h : Vec Ideal S1024x2048 .bf16) (w : Vec Ideal S1x2048x256 .f32) (r : Fin 1024) (n : Fin 256) :
    k0_pay15 h w (ix2 r n) = ∑ k : Fin 2048, h (ix2 r k) * w (ix3 0 k n) := by
  pointwise [k0_pay15]

theorem zero_sub_silu (x : EReal) : x * Ideal.div one (one + Ideal.exp (0 - x)) = silu x := by
  rw [sub_eq_add_neg, zero_add]
  rfl

theorem pay1_apply (cv : FVec Ideal S1024x256 .f32) (h : Vec Ideal S1024x2048 .bf16) (b : FVec Ideal S1024x256 .f32) (w : Vec Ideal S1x2048x256 .f32) (r : Fin 1024) (n : Fin 256) :
    k0_pay1 cv h b (k0_pay16 w) (ix2 r n) = silu (∑ k : Fin 2048, h (ix2 r k) * w (ix3 0 k n)) * (b (ix2 r n) * cv (ix2 r n)) := by
  rw [← mul_assoc, ← zero_sub_silu]
  pointwise [k0_pay1, k0_pay16]

theorem hMid_apply (h : Vec Ideal S1056x2048 .bf16) (r : Fin 1024) (k : Fin 2048) : hMid h (ix2 r k) = h (ix2 ⟨16 + r.val, by omega⟩ k) := by
  refine congrArg h (funext fun a => Fin.ext ?_)
  fin_cases a
  · show 16 + 1 * r.val = 16 + r.val; omega
  · show 0 + 1 * k.val = k.val; omega

theorem uAt_apply (u : Vec Ideal S1056x256 .f32) (k : ℕ) (inb : ∀ a, (![k, 0] : Fin 2 → ℕ) a + S1024x256.size a ≤ S1056x256.size a) (r : Fin 1024) (n : Fin 256) (y : Fin 1056) (hy : y.val = k + r.val) :
    uAt u k inb (ix2 r n) = u (ix2 y n) := by
  refine congrArg u (funext fun a => Fin.ext ?_)
  fin_cases a
  · show k + 1 * r.val = y.val; omega
  · show 0 + 1 * n.val = n.val; omega

theorem cwAt_apply (w : Vec Ideal S3x256 .f32) (k : ℕ) (inb : ∀ a, (![k, 0] : Fin 2 → ℕ) a + S1x256.size a ≤ S3x256.size a) (n : Fin 256) (y : Fin 3) (hy : y.val = k) :
    cwAt w k inb (ix2 0 n) = w (ix2 y n) := by
  refine congrArg w (funext fun a => Fin.ext ?_)
  fin_cases a
  · show k + 1 * 0 = y.val; omega
  · show 0 + 1 * n.val = n.val; omega

/-- The gated product of a row: zero on the rows before a sequence's first band and after its last. -/
theorem uF_apply (i : grid0.Coords) (h : Vec Ideal S1056x2048 .bf16) (wc wh : Vec Ideal S1x2048x256 .f32) (y : Fin 1056) (n : Fin 256) :
    uF i h wc wh (ix2 y n) = if (y.val < 16 ∧ ¬Scalar.cmpi .sgt (place i) 0#32 = 1#1) ∨ (1040 ≤ y.val ∧ ¬Scalar.cmpi .slt (place i) 7#32 = 1#1) then 0 else colSum h wc y n * colSum h wh y n := by
  have hy := y.isLt
  rw [← pay9_apply]
  by_cases h1 : y.val < 16
  · refine (dif_pos (show y.val < 16 from h1)).trans ((pay10_apply i h wc wh _ _).trans ?_)
    by_cases e : Scalar.cmpi .sgt (place i) 0#32 = 1#1
    · rw [if_pos e, if_neg (by rintro (⟨-, q⟩ | ⟨q, -⟩); exacts [q e, by omega])]; rfl
    · rw [if_neg e, if_pos (.inl ⟨h1, e⟩)]
  by_cases h2 : y.val < 1040
  · refine (dif_neg (show ¬y.val < 16 from h1)).trans ((dif_pos (show y.val < 1040 from h2)).trans ((pay12_apply h wc wh _ _).trans ?_))
    rw [if_neg (by rintro (⟨q, -⟩ | ⟨q, -⟩) <;> omega)]
    exact congrArg (fun q => k0_pay9 h wc wh (ix2 q n)) (Fin.ext (by show 16 + (y.val - 16) = y.val; omega))
  · refine (dif_neg (show ¬y.val < 16 from h1)).trans ((dif_neg (show ¬y.val < 1040 from h2)).trans ((pay13_apply _ _ _ _).trans ?_))
    by_cases e : Scalar.cmpi .slt (place i) 7#32 = 1#1
    · rw [if_pos e, if_neg (by rintro (⟨q, -⟩ | ⟨-, q⟩); exacts [by omega, q e])]
      exact congrArg (fun q => k0_pay9 h wc wh (ix2 q n)) (Fin.ext (by show 1040 + (y.val - 1040) = y.val; omega))
    · rw [if_neg e, if_pos (.inr ⟨by omega, e⟩)]

/-- The tile of the result. -/
theorem tileF_apply (i : grid0.Coords) (h : Vec Ideal S1056x2048 .bf16) (wb wc wh wg : Vec Ideal S1x2048x256 .f32) (cw : Vec Ideal S3x256 .f32) (r : Fin 1024) (n : Fin 256) :
    tileF i h wb wc wh wg cw (ix2 r n) = silu (colSum h wg ⟨16 + r.val, by omega⟩ n) * (colSum h wb ⟨16 + r.val, by omega⟩ n
      * (uF i h wc wh (ix2 ⟨15 + r.val, by omega⟩ n) * cw (ix2 0 n) + uF i h wc wh (ix2 ⟨16 + r.val, by omega⟩ n) * cw (ix2 1 n) + uF i h wc wh (ix2 ⟨17 + r.val, by omega⟩ n) * cw (ix2 2 n))) := by
  refine (pay1_apply _ _ _ _ r n).trans ?_
  have eg : (∑ k : Fin 2048, hMid h (ix2 r k) * wg (ix3 0 k n)) = colSum h wg ⟨16 + r.val, by omega⟩ n := Finset.sum_congr rfl fun k _ => by rw [hMid_apply]
  have eb : k0_pay15 (hMid h) wb (ix2 r n) = colSum h wb ⟨16 + r.val, by omega⟩ n := (pay15_apply _ _ r n).trans (Finset.sum_congr rfl fun k _ => by rw [hMid_apply])
  rw [eg, eb, pay14_apply, uAt_apply _ _ _ r n ⟨15 + r.val, by omega⟩ rfl, uAt_apply _ _ _ r n ⟨16 + r.val, by omega⟩ rfl, uAt_apply _ _ _ r n ⟨17 + r.val, by omega⟩ rfl,
    cwAt_apply cw 0 _ n 0 rfl, cwAt_apply cw 1 _ n 1 rfl, cwAt_apply cw 2 _ n 2 rfl]

end Cert.KernelConvIdeal.Conv

end
-- ==== Proof.ConvEqual.lean ====
/- The short convolution: the kernel's result is the reference's. -/
module

public import proofs.«01_k».proof.Proof.ConvValue
public import proofs.«01_k».proof.Proof.Gen.KernelConv

@[expose] public section

set_option maxRecDepth 16384

noncomputable section

namespace Cert.KernelConvIdeal.Conv

open Idealize.ShloMosaic Idealize.ShloMosaic.TcCoe Idealize.ShloMosaic.Tactic
open Idealize.SL.Sem Cert.KernelConvIdeal Cert.KernelConvIdeal.Gen Cert.Proj Cert.Conv

variable (m : (ℓ : Loc nD τ sig) → Buf (Elt Ideal) ℓ) (c : Dev nD)

theorem index0 : ∀ t : Fin grid0.N, win0_0.index t = ![t.val / 8, 0] := by decide +kernel
theorem index1 : ∀ t : Fin grid0.N, win0_1.index t = ![64 * (t.val / 8) - 1, 0] := by decide +kernel
theorem index2 : ∀ t : Fin grid0.N, win0_2.index t = ![min (64 * (t.val / 8) + 64) 1023, 0] := by decide +kernel
theorem index3 : ∀ t : Fin grid0.N, win0_3.index t = ![3, t.val / 64, 0, 0] := by decide +kernel
theorem index4 : ∀ t : Fin grid0.N, win0_4.index t = ![3, t.val / 64, 0, 1] := by decide +kernel
theorem index5 : ∀ t : Fin grid0.N, win0_5.index t = ![0, 0] := by decide +kernel
theorem index6 : ∀ t : Fin grid0.N, win0_6.index t = ![1, 0, t.val % 8] := by decide +kernel
theorem index7 : ∀ t : Fin grid0.N, win0_7.index t = ![1, 0, 8 + t.val % 8] := by decide +kernel
theorem index8 : ∀ t : Fin grid0.N, win0_8.index t = ![1, 0, 16 + t.val % 8] := by decide +kernel
theorem index9 : ∀ t : Fin grid0.N, win0_9.index t = ![1, 0, 24 + t.val % 8] := by decide +kernel
theorem index10 : ∀ t : Fin grid0.N, win0_10.index t = ![0, t.val % 8] := by decide +kernel
theorem index11 : ∀ t : Fin grid0.N, win0_11.index t = ![t.val / 8, t.val % 8] := by decide +kernel

theorem before_iff : ∀ t : Fin grid0.N, Scalar.cmpi .sgt (place (grid0.coords t)) 0#32 = 1#1 ↔ ¬t.val / 8 % 8 = 0 := by decide +kernel
theorem after_iff : ∀ t : Fin grid0.N, Scalar.cmpi .slt (place (grid0.coords t)) 7#32 = 1#1 ↔ ¬t.val / 8 % 8 = 7 := by decide +kernel

theorem lt128 (t : Fin cfg0.N) : t.val < 128 := Nat.lt_of_lt_of_eq t.isLt N_0

/-- The rows and columns of a point. -/
def row (t : Fin cfg0.N) (r : Fin 1024) : Fin 16384 := ⟨1024 * (t.val / 8) + r.val, by have := lt128 t; omega⟩
def col (t : Fin cfg0.N) (n : Fin 256) : Fin 2048 := ⟨256 * (t.val % 8) + n.val, by omega⟩

abbrev a0 : FVec Ideal S2x8192x2048 .f32 := m ((c : Thread nD τ).loc main_arg0)
abbrev a1 : FVec Ideal S4x8x1x6144 .f32 := m ((c : Thread nD τ).loc main_arg1)
abbrev a2 : FVec Ideal S2048 .f32 := m ((c : Thread nD τ).loc main_arg2)
abbrev a3 : FVec Ideal S2x2048x8192 .f32 := m ((c : Thread nD τ).loc main_arg3)
abbrev a4 : FVec Ideal S2x3x2048 .f32 := m ((c : Thread nD τ).loc main_arg4)

theorem V0_apply (r : Fin 16384) (k : Fin 2048) (b : Fin 2) (q : Fin 8192) (h : r.val = 8192 * b.val + q.val) : V m c main_v0 (ix2 r k) = a0 m c (ix3 b q k) := by
  have e : V m c main_v0 (ix2 r k) = a0 m c (ix3 ⟨r.val / 8192, by omega⟩ ⟨r.val % 8192, by omega⟩ k) := by
    entry_read; pointwise
  rw [e]
  have hq := q.isLt
  exact congrArg₂ (fun u v => a0 m c (ix3 u v k)) (Fin.ext (by show r.val / 8192 = b.val; omega)) (Fin.ext (by show r.val % 8192 = q.val; omega))
theorem V1_apply (k : Fin 2048) : V m c main_v1 (ix2 0 k) = a2 m c (ix1 k) := by
  entry_read; pointwise
theorem V3_apply (d : Fin 3) (n : Fin 2048) : V m c main_v3 (ix2 d n) = a4 m c (ix3 1 d n) := by
  entry_read; pointwise

theorem emb0 (t : Fin cfg0.N) (r : Fin 1024) (k : Fin 2048) : (win0_0.blk t).view.emb (ix2 r k) = ix2 (row t r) k := by
  unfold row; blk_ext [index0 t]
theorem emb1 (t : Fin cfg0.N) (r : Fin 16) (k : Fin 2048) : (win0_1.blk t).view.emb (ix2 r k) = ix2 ⟨16 * (64 * (t.val / 8) - 1) + r.val, by have := lt128 t; omega⟩ k := by
  blk_ext [index1 t]
theorem emb2 (t : Fin cfg0.N) (r : Fin 16) (k : Fin 2048) : (win0_2.blk t).view.emb (ix2 r k) = ix2 ⟨16 * min (64 * (t.val / 8) + 64) 1023 + r.val, by omega⟩ k := by
  blk_ext [index2 t]
theorem emb5 (t : Fin cfg0.N) (k : Fin 2048) : (win0_5.blk t).view.emb (ix2 0 k) = ix2 0 k := by
  blk_ext [index5 t]
theorem emb10 (t : Fin cfg0.N) (d : Fin 3) (n : Fin 256) : (win0_10.blk t).view.emb (ix2 d n) = ix2 d (col t n) := by
  unfold col; blk_ext [index10 t]
theorem emb11 (t : Fin cfg0.N) (r : Fin 1024) (n : Fin 256) : (win0_11.blk t).view.emb (ix2 r n) = ix2 (row t r) (col t n) := by
  unfold row col; blk_ext [index11 t]

theorem iblk3_apply (t : Fin cfg0.N) (k : Fin 2048) : iblk m c 3 t (ix4 0 0 0 k) = a1 m c (ix4 3 ⟨t.val / 64, by have := lt128 t; omega⟩ 0 ⟨k.val, by omega⟩) := by
  have ht := lt128 t
  blk_ext [iblk, V_main_arg1, index3 t]
theorem iblk4_apply (t : Fin cfg0.N) (k : Fin 2048) : iblk m c 4 t (ix4 0 0 0 k) = a1 m c (ix4 3 ⟨t.val / 64, by have := lt128 t; omega⟩ 0 ⟨2048 + k.val, by omega⟩) := by
  have ht := lt128 t
  blk_ext [iblk, V_main_arg1, index4 t]
theorem iblk6_apply (t : Fin cfg0.N) (k : Fin 2048) (n : Fin 256) : iblk m c 6 t (ix3 0 k n) = a3 m c (ix3 1 k ⟨(col t n).val, by omega⟩) := by
  unfold col
  blk_ext [iblk, V_main_arg3, index6 t]
theorem iblk7_apply (t : Fin cfg0.N) (k : Fin 2048) (n : Fin 256) : iblk m c 7 t (ix3 0 k n) = a3 m c (ix3 1 k ⟨2048 + (col t n).val, by omega⟩) := by
  unfold col
  blk_ext [iblk, V_main_arg3, index7 t]
theorem iblk8_apply (t : Fin cfg0.N) (k : Fin 2048) (n : Fin 256) : iblk m c 8 t (ix3 0 k n) = a3 m c (ix3 1 k ⟨4096 + (col t n).val, by omega⟩) := by
  unfold col
  blk_ext [iblk, V_main_arg3, index8 t]
theorem iblk9_apply (t : Fin cfg0.N) (k : Fin 2048) (n : Fin 256) : iblk m c 9 t (ix3 0 k n) = a3 m c (ix3 1 k ⟨6144 + (col t n).val, by omega⟩) := by
  unfold col
  blk_ext [iblk, V_main_arg3, index9 t]

/-- The reference's normed rows, their product with the weights and the padded product, of the arguments. -/
abbrev hR : FVec Ideal S2x8192x2048 .f32 := Cert.ReferenceConvIdeal.Val.h (a0 m c) (a1 m c) (a2 m c)
abbrev pR : FVec Ideal Cert.ReferenceConvIdeal.S2x8192x8192 .f32 := Cert.ReferenceConvIdeal.Val.p (a3 m c) (hR m c)
abbrev uR : FVec Ideal Cert.ReferenceConvIdeal.S2x8194x2048 .f32 := Cert.ReferenceConvIdeal.Val.pad1 (pR m c)

/-- A row of the activations, normed and modulated. -/
theorem mod_apply (t : Fin cfg0.N) (b : Fin 2) (hb : b.val = t.val / 64) (q : Fin 8192) (x : Fin 2048 → EReal) (hx : ∀ j, x j = a0 m c (ix3 b q j)) (k : Fin 2048) :
    modRow (iblk m c 3 t) (iblk m c 4 t) (iblk m c 5 t) x k = hR m c (ix3 b q k) := by
  obtain rfl : x = fun j => a0 m c (ix3 b q j) := funext hx
  refine Eq.trans ?_ (Cert.ReferenceConvIdeal.Val.h_apply _ _ _ _ _ _).symm
  have ht := lt128 t
  have eb : (⟨b.val, by omega⟩ : Fin 8) = ⟨t.val / 64, by omega⟩ := Fin.ext hb
  unfold modRow
  have e3 : iblk m c 3 t (ix4 0 0 0 k) = _ := iblk3_apply m c t k
  have e4 : iblk m c 4 t (ix4 0 0 0 k) = _ := iblk4_apply m c t k
  have e5 : iblk m c 5 t (ix2 0 k) = _ := (congrArg (V m c main_v1) (emb5 t k)).trans (V1_apply m c _)
  rw [eb, e3, e4, e5, mul_assoc]

/-- A band's normed rows, with one before and one after it, are the reference's. -/
theorem rows_apply (t : Fin cfg0.N) (y : Fin 1056) (h15 : 15 ≤ y.val) (h1040 : y.val ≤ 1040) (b : Fin 2) (hb : b.val = t.val / 64) (q : Fin 8192)
    (hq : q.val + 16 = 1024 * (t.val / 8 % 8) + y.val) (k : Fin 2048) : rows m c t (ix2 y k) = hR m c (ix3 b q k) := by
  have ht := lt128 t
  have hlt := q.isLt
  unfold rows
  by_cases h1 : y.val < 16
  · refine (hF_before _ _ _ _ _ _ y 15 (by show y.val = 15; omega) k).trans (mod_apply m c t b hb q _ (fun j => ?_) k)
    refine (congrArg (V m c main_v0) (emb1 t 15 j)).trans (V0_apply m c _ j b q ?_)
    show 16 * (64 * (t.val / 8) - 1) + 15 = 8192 * b.val + q.val
    omega
  by_cases h2 : y.val < 1040
  · refine (hF_band _ _ _ _ _ _ y ⟨y.val - 16, by omega⟩ (by show y.val = 16 + (y.val - 16); omega) k).trans (mod_apply m c t b hb q _ (fun j => ?_) k)
    refine (congrArg (V m c main_v0) (emb0 t _ j)).trans (V0_apply m c _ j b q ?_)
    show 1024 * (t.val / 8) + (y.val - 16) = 8192 * b.val + q.val
    omega
  · refine (hF_after _ _ _ _ _ _ y 0 (by show y.val = 1040 + 0; omega) k).trans (mod_apply m c t b hb q _ (fun j => ?_) k)
    refine (congrArg (V m c main_v0) (emb2 t 0 j)).trans (V0_apply m c _ j b q ?_)
    show 16 * min (64 * (t.val / 8) + 64) 1023 + 0 = 8192 * b.val + q.val
    omega

/-- A row's products are the reference's. -/
theorem sum_apply (t : Fin cfg0.N) (y : Fin 1056) (h15 : 15 ≤ y.val) (h1040 : y.val ≤ 1040) (b : Fin 2) (hb : b.val = t.val / 64) (q : Fin 8192)
    (hq : q.val + 16 = 1024 * (t.val / 8 % 8) + y.val) (w : Vec Ideal S1x2048x256 .f32) (n : Fin 256) (j : Fin 8192) (hw : ∀ k, w (ix3 0 k n) = a3 m c (ix3 1 k j)) :
    colSum (rows m c t) w y n = pR m c (ix3 b q j) := by
  refine Eq.trans ?_ (Cert.ReferenceConvIdeal.Val.p_apply _ _ _ _ _).symm
  exact Finset.sum_congr rfl fun k _ => by rw [rows_apply m c t y h15 h1040 b hb q hq, hw]

/-- The gated products of a band, with a row before and a row after it, are the reference's padded ones. -/
theorem u_apply (t : Fin cfg0.N) (y : Fin 1056) (h15 : 15 ≤ y.val) (h1040 : y.val ≤ 1040) (b : Fin 2) (hb : b.val = t.val / 64) (s : Fin 8194)
    (hs : s.val + 15 = 1024 * (t.val / 8 % 8) + y.val) (n : Fin 256) :
    uF (grid0.coords t) (rows m c t) (iblk m c 7 t) (iblk m c 8 t) (ix2 y n) = uR m c (ix3 b s (col t n)) := by
  refine (uF_apply _ _ _ _ y n).trans ?_
  by_cases h : s.val = 0 ∨ s.val = 8193
  · rw [if_pos (by
      rcases h with h | h
      · exact .inl ⟨by omega, fun e => (before_iff t).mp e (by omega)⟩
      · exact .inr ⟨by omega, fun e => (after_iff t).mp e (by omega)⟩)]
    exact (Cert.ReferenceConvIdeal.Val.pad1_out _ b s h _).symm
  · have hlt := s.isLt
    rw [if_neg (by
      rintro (⟨a, e⟩ | ⟨a, e⟩)
      · exact e ((before_iff t).mpr (by omega))
      · exact e ((after_iff t).mpr (by omega)))]
    refine Eq.trans ?_ (Cert.ReferenceConvIdeal.Val.pad1_in _ b s ⟨s.val - 1, by omega⟩ (by show s.val = s.val - 1 + 1; omega) _).symm
    rw [sum_apply m c t y h15 h1040 b hb ⟨s.val - 1, by omega⟩ (by show s.val - 1 + 16 = _; omega) _ n _ (fun k => iblk7_apply m c t k n),
      sum_apply m c t y h15 h1040 b hb ⟨s.val - 1, by omega⟩ (by show s.val - 1 + 16 = _; omega) _ n _ (fun k => iblk8_apply m c t k n)]

/-- A tile is the reference's. -/
theorem tile_apply (t : Fin cfg0.N) (r : Fin 1024) (n : Fin 256) :
    tile m c t (ix2 r n) = Cert.ReferenceConvIdeal.Val.res (a0 m c) (a1 m c) (a2 m c) (a3 m c) (a4 m c) (ix2 (row t r) (col t n)) := by
  have ht := lt128 t
  have hr := r.isLt
  have hrow : (row t r).val = 1024 * (t.val / 8) + r.val := rfl
  have hb : (row t r).val / 8192 = t.val / 64 := by omega
  have hs : (row t r).val % 8192 = 1024 * (t.val / 8 % 8) + r.val := by omega
  rw [Cert.ReferenceConvIdeal.Val.res_apply, Cert.ReferenceConvIdeal.Val.gated_apply, Cert.ReferenceConvIdeal.Val.conv_apply]
  refine (tileF_apply _ _ _ _ _ _ _ r n).trans ?_
  have e10 : ∀ d : Fin 3, iblk m c 10 t (ix2 d n) = _ := fun d => (congrArg (V m c main_v3) (emb10 t d n)).trans (V3_apply m c d _)
  rw [e10 0, e10 1, e10 2]
  rw [sum_apply m c t ⟨16 + r.val, by omega⟩ (by show 15 ≤ 16 + r.val; omega) (by show 16 + r.val ≤ 1040; omega) ⟨(row t r).val / 8192, by omega⟩ hb ⟨(row t r).val % 8192, by omega⟩
      (by show (row t r).val % 8192 + 16 = _ + (16 + r.val); omega) _ n _ (fun k => iblk9_apply m c t k n),
    sum_apply m c t ⟨16 + r.val, by omega⟩ (by show 15 ≤ 16 + r.val; omega) (by show 16 + r.val ≤ 1040; omega) ⟨(row t r).val / 8192, by omega⟩ hb ⟨(row t r).val % 8192, by omega⟩
      (by show (row t r).val % 8192 + 16 = _ + (16 + r.val); omega) _ n _ (fun k => iblk6_apply m c t k n),
    u_apply m c t ⟨15 + r.val, by omega⟩ (by show 15 ≤ 15 + r.val; omega) (by show 15 + r.val ≤ 1040; omega) ⟨(row t r).val / 8192, by omega⟩ hb ⟨(row t r).val % 8192, by omega⟩
      (by show (row t r).val % 8192 + 15 = _ + (15 + r.val); omega) n,
    u_apply m c t ⟨16 + r.val, by omega⟩ (by show 15 ≤ 16 + r.val; omega) (by show 16 + r.val ≤ 1040; omega) ⟨(row t r).val / 8192, by omega⟩ hb ⟨1 + (row t r).val % 8192, by omega⟩
      (by show 1 + (row t r).val % 8192 + 15 = _ + (16 + r.val); omega) n,
    u_apply m c t ⟨17 + r.val, by omega⟩ (by show 15 ≤ 17 + r.val; omega) (by show 17 + r.val ≤ 1040; omega) ⟨(row t r).val / 8192, by omega⟩ hb ⟨2 + (row t r).val % 8192, by omega⟩
      (by show 2 + (row t r).val % 8192 + 15 = _ + (17 + r.val); omega) n]

theorem result_eq : (dats m 0 c).arrAt 11 cfg0.N = Cert.ReferenceConvIdeal.Val.res (a0 m c) (a1 m c) (a2 m c) (a3 m c) (a4 m c) := by
  refine (dats m 0 c).arrAt_eq_of_covers 11 _ (by decide +kernel) fun t _ y => ?_
  blk_simp
  rw [after11, eq_ix2 y]
  generalize y 0 = r
  generalize y 1 = n
  refine Eq.trans ?_ (congrArg _ (emb11 t r n).symm)
  exact tile_apply m c t r n

end Cert.KernelConvIdeal.Conv

namespace Cert.Proof

open Idealize.ShloMosaic Idealize.ShloMosaic.TcCoe Idealize.SL.Sem

/-- The frame at any float values. -/
theorem frame_conv_any {F : FTy → Type} [FloatOps F] (m : (ℓ : Loc Cert.KernelConvIdeal.nD Cert.KernelConvIdeal.τ Cert.KernelConvIdeal.sig) → Buf (Elt F) ℓ) (ρ : Dev Cert.KernelConvIdeal.nD → PrngReg) :
    θ_run (Cert.KernelConvIdeal.defs (F := F)) (onTc (τ := Cert.KernelConvIdeal.τ) (Cert.KernelConvIdeal.main (F := F))) ⟨m, fun _ => 0, ρ⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ r.2.sem = fun _ => 0) :=
  (θ_run Cert.KernelConvIdeal.defs _ _).mono (fun _ h => And.intro (fun c => (h.1 c).1) h.2) (Cert.KernelConvIdeal.Conv.run_any (F := F) m ρ)

theorem frame_conv_ideal : Cert.quiescent_KernelConvIdeal := fun m ρ _ => frame_conv_any m ρ

/-- At the bit patterns the two kernel programs have the same body, label by label. -/
theorem bodies_conv_eq : @Cert.KernelConv.defs₀ Bits _ _ = @Cert.KernelConvIdeal.defs₀ Bits _ _ := by
  unfold Cert.KernelConv.defs₀ Cert.KernelConvIdeal.defs₀
  refine congrArg Defs.onTc ?_
  funext l a
  match l, a with
  | 0, (t, s) => rfl
  | ⟨_ + 1, h⟩, _ => exact absurd h (Nat.not_lt.2 (Nat.le_add_left _ _))

theorem defs_conv_eq : @Cert.KernelConv.defs Bits _ _ = @Cert.KernelConvIdeal.defs Bits _ _ :=
  congrArg (Pipeline.defs (Cert.KernelConvIdeal.pcfgs (F := Bits))) bodies_conv_eq

theorem frame_conv : Cert.quiescent_KernelConv := fun m ρ _ => by
  rw [defs_conv_eq]
  exact frame_conv_any (F := Bits) m ρ

theorem frame_reference_conv : Cert.quiescent_ReferenceConvIdeal := fun m ρ _ =>
  (θ_run Cert.ReferenceConvIdeal.defs _ _).mono
    (fun r h => ⟨fun c => (h c).2, sem_eq_zero_of_no_sems (by decide) r.2⟩) (Cert.ReferenceConvIdeal.Value.run (F := Ideal) m ρ)

open Cert.KernelConvIdeal.Conv (a0 a1 a2 a3 a4 result_eq) in
theorem algebraic_conv : Cert.algebraic_KernelConvIdeal_ReferenceConvIdeal := fun m ρ m' ρ' _ hag =>
  ⟨fun c => Cert.ReferenceConvIdeal.Val.res (a0 m c) (a1 m c) (a2 m c) (a3 m c) (a4 m c),
    (θ_run Cert.KernelConvIdeal.defs _ _).mono (fun _ h c => ⟨(h.1 c).2.trans (result_eq m c), (h.1 c).1⟩)
      (Cert.KernelConvIdeal.Conv.run_any (F := Ideal) m ρ),
    (θ_run Cert.ReferenceConvIdeal.defs _ _).mono
      (fun r h c => ⟨((h c).1.trans (Cert.ReferenceConvIdeal.Val.res_eq m' c)).trans (by
        rw [(hag c).1, (hag c).2.1, (hag c).2.2.1, (hag c).2.2.2.1, (hag c).2.2.2.2]), (h c).2⟩)
      (Cert.ReferenceConvIdeal.Value.run (F := Ideal) m' ρ')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.KernelOut
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelLast
public import proofs.«01_k».proof.Proof.Gen.KernelLastIdeal
public import proofs.«01_k».proof.Proof.Gen.KernelLastIdeal.Skeleton
public import proofs.«01_k».proof.Proof.Gen.KernelLastIdeal.Launch
public import proofs.«01_k».proof.Proof.Gen.KernelLastIdeal.Points
public import proofs.«01_k».proof.Proof.Gen.KernelLastIdeal.Frame
public import proofs.«01_k».proof.Proof.Gen.KernelLastIdeal.Value
public import proofs.«01_k».proof.Proof.Gen.ReferenceLastIdeal
public import proofs.«01_k».proof.Proof.Gen.ReferenceLastIdeal.Run
public import proofs.«01_k».proof.Proof.Gen.KernelProject
public import proofs.«01_k».proof.Proof.Gen.KernelProjectIdeal
public import proofs.«01_k».proof.Proof.Gen.KernelProjectIdeal.Loops
public import proofs.«01_k».proof.Proof.Gen.KernelProjectIdeal.Skeleton
public import proofs.«01_k».proof.Proof.Gen.KernelProjectIdeal.Launch
public import proofs.«01_k».proof.Proof.Gen.KernelProjectIdeal.Points
public import proofs.«01_k».proof.Proof.Gen.KernelProjectIdeal.Frame
public import proofs.«01_k».proof.Proof.Gen.ReferenceProjectIdeal
public import proofs.«01_k».proof.Proof.Gen.ReferenceProjectIdeal.Run
public import proofs.«01_k».proof.Proof.Gen.KernelConv
public import proofs.«01_k».proof.Proof.Gen.KernelConvIdeal
public import proofs.«01_k».proof.Proof.Gen.KernelConvIdeal.Loops
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.ReferenceConvIdeal
public import proofs.«01_k».proof.Proof.Gen.ReferenceConvIdeal.Run
public import proofs.«01_k».proof.Proof.Frames
public import proofs.«01_k».proof.Proof.Equal
public import proofs.«01_k».proof.Proof.OutValue
public import proofs.«01_k».proof.Proof.LastValue
public import proofs.«01_k».proof.Proof.ProjEqual
public import proofs.«01_k».proof.Proof.ConvEqual

@[expose] public section

noncomputable section

namespace Cert.Proof

theorem claim : Cert.Claim :=
  ⟨Cert.Kernel.Gen.facts, Cert.KernelIdeal.Gen.facts, Cert.ReferenceIdeal.Gen.facts,
    Cert.KernelOut.Gen.facts, Cert.KernelOutIdeal.Gen.facts, Cert.ReferenceOutIdeal.Gen.facts,
    Cert.KernelLast.Gen.facts, Cert.KernelLastIdeal.Gen.facts, Cert.ReferenceLastIdeal.Gen.facts,
    Cert.KernelProject.Gen.facts, Cert.KernelProjectIdeal.Gen.facts, Cert.ReferenceProjectIdeal.Gen.facts,
    Cert.KernelConv.Gen.facts, Cert.KernelConvIdeal.Gen.facts, Cert.ReferenceConvIdeal.Gen.facts, preFacts,
    frame_kernel, frame_kernel_ideal, frame_kernel_ideal_pre, frame_reference, frame_reference_pre,
    frame_out, frame_out_ideal, frame_reference_out,
    frame_last, frame_last_ideal, frame_reference_last,
    frame_project, frame_project_ideal, frame_reference_project,
    frame_conv, frame_conv_ideal, frame_reference_conv,
    preserves, algebraic, trivial, algebraic_out, trivial, algebraic_last, trivial, algebraic_project, trivial, algebraic_conv⟩

end Cert.Proof

end
